-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_WoKernel (m : (ℓ : Loc Cert.WoKernel.nD Cert.WoKernel.τ Cert.WoKernel.sig) → Buf (Elt Bits) ℓ) : Prop :=
  True

def Pre_WoKernelIdeal (m : (ℓ : Loc Cert.WoKernelIdeal.nD Cert.WoKernelIdeal.τ Cert.WoKernelIdeal.sig) → Buf (Elt Ideal) ℓ) : Prop :=
  True

def Pre_WoReferenceIdeal (m : (ℓ : Loc Cert.WoReferenceIdeal.nD Cert.WoReferenceIdeal.τ Cert.WoReferenceIdeal.sig) → Buf (Elt Ideal) ℓ) : Prop :=
  True

def Pre_WqKernel (m : (ℓ : Loc Cert.WqKernel.nD Cert.WqKernel.τ Cert.WqKernel.sig) → Buf (Elt Bits) ℓ) : Prop :=
  True

def Pre_WqKernelIdeal (m : (ℓ : Loc Cert.WqKernelIdeal.nD Cert.WqKernelIdeal.τ Cert.WqKernelIdeal.sig) → Buf (Elt Ideal) ℓ) : Prop :=
  True

def Pre_WqReferenceIdeal (m : (ℓ : Loc Cert.WqReferenceIdeal.nD Cert.WqReferenceIdeal.τ Cert.WqReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_XaKernel (m : (ℓ : Loc Cert.XaKernel.nD Cert.XaKernel.τ Cert.XaKernel.sig) → Buf (Elt Bits) ℓ) : Prop :=
  True

def Pre_XaKernelIdeal (m : (ℓ : Loc Cert.XaKernelIdeal.nD Cert.XaKernelIdeal.τ Cert.XaKernelIdeal.sig) → Buf (Elt Ideal) ℓ) : Prop :=
  True

def Pre_XaKernelIdeal_finite_xattn [hPre_finite_xattn : Cert.Pre_finite_xattn.Facts] (m : (ℓ : Loc Cert.XaKernelIdeal.nD Cert.XaKernelIdeal.τ Cert.XaKernelIdeal.sig) → Buf (Elt Ideal) ℓ) : Prop :=
  ∀ c : Dev Cert.XaKernelIdeal.nD,
    (Cert.Pre_finite_xattn.fn (F := Ideal) (m ((c.tc : Thread Cert.XaKernelIdeal.nD Cert.XaKernelIdeal.τ).loc Cert.XaKernelIdeal.main_arg0)) (m ((c.tc : Thread Cert.XaKernelIdeal.nD Cert.XaKernelIdeal.τ).loc Cert.XaKernelIdeal.main_arg1)) (m ((c.tc : Thread Cert.XaKernelIdeal.nD Cert.XaKernelIdeal.τ).loc Cert.XaKernelIdeal.main_arg2)) (m ((c.tc : Thread Cert.XaKernelIdeal.nD Cert.XaKernelIdeal.τ).loc Cert.XaKernelIdeal.main_arg3)) (m ((c.tc : Thread Cert.XaKernelIdeal.nD Cert.XaKernelIdeal.τ).loc Cert.XaKernelIdeal.main_arg4)) (m ((c.tc : Thread Cert.XaKernelIdeal.nD Cert.XaKernelIdeal.τ).loc Cert.XaKernelIdeal.main_arg5)) (m ((c.tc : Thread Cert.XaKernelIdeal.nD Cert.XaKernelIdeal.τ).loc Cert.XaKernelIdeal.main_arg6)) (m ((c.tc : Thread Cert.XaKernelIdeal.nD Cert.XaKernelIdeal.τ).loc Cert.XaKernelIdeal.main_arg7))).1 = (fun _ => 1#1)
    ∧ (Cert.Pre_finite_xattn.fn (F := Ideal) (m ((c.tc : Thread Cert.XaKernelIdeal.nD Cert.XaKernelIdeal.τ).loc Cert.XaKernelIdeal.main_arg0)) (m ((c.tc : Thread Cert.XaKernelIdeal.nD Cert.XaKernelIdeal.τ).loc Cert.XaKernelIdeal.main_arg1)) (m ((c.tc : Thread Cert.XaKernelIdeal.nD Cert.XaKernelIdeal.τ).loc Cert.XaKernelIdeal.main_arg2)) (m ((c.tc : Thread Cert.XaKernelIdeal.nD Cert.XaKernelIdeal.τ).loc Cert.XaKernelIdeal.main_arg3)) (m ((c.tc : Thread Cert.XaKernelIdeal.nD Cert.XaKernelIdeal.τ).loc Cert.XaKernelIdeal.main_arg4)) (m ((c.tc : Thread Cert.XaKernelIdeal.nD Cert.XaKernelIdeal.τ).loc Cert.XaKernelIdeal.main_arg5)) (m ((c.tc : Thread Cert.XaKernelIdeal.nD Cert.XaKernelIdeal.τ).loc Cert.XaKernelIdeal.main_arg6)) (m ((c.tc : Thread Cert.XaKernelIdeal.nD Cert.XaKernelIdeal.τ).loc Cert.XaKernelIdeal.main_arg7))).2.1 = (fun _ => 1#1)
    ∧ (Cert.Pre_finite_xattn.fn (F := Ideal) (m ((c.tc : Thread Cert.XaKernelIdeal.nD Cert.XaKernelIdeal.τ).loc Cert.XaKernelIdeal.main_arg0)) (m ((c.tc : Thread Cert.XaKernelIdeal.nD Cert.XaKernelIdeal.τ).loc Cert.XaKernelIdeal.main_arg1)) (m ((c.tc : Thread Cert.XaKernelIdeal.nD Cert.XaKernelIdeal.τ).loc Cert.XaKernelIdeal.main_arg2)) (m ((c.tc : Thread Cert.XaKernelIdeal.nD Cert.XaKernelIdeal.τ).loc Cert.XaKernelIdeal.main_arg3)) (m ((c.tc : Thread Cert.XaKernelIdeal.nD Cert.XaKernelIdeal.τ).loc Cert.XaKernelIdeal.main_arg4)) (m ((c.tc : Thread Cert.XaKernelIdeal.nD Cert.XaKernelIdeal.τ).loc Cert.XaKernelIdeal.main_arg5)) (m ((c.tc : Thread Cert.XaKernelIdeal.nD Cert.XaKernelIdeal.τ).loc Cert.XaKernelIdeal.main_arg6)) (m ((c.tc : Thread Cert.XaKernelIdeal.nD Cert.XaKernelIdeal.τ).loc Cert.XaKernelIdeal.main_arg7))).2.2.1 = (fun _ => 1#1)
    ∧ (Cert.Pre_finite_xattn.fn (F := Ideal) (m ((c.tc : Thread Cert.XaKernelIdeal.nD Cert.XaKernelIdeal.τ).loc Cert.XaKernelIdeal.main_arg0)) (m ((c.tc : Thread Cert.XaKernelIdeal.nD Cert.XaKernelIdeal.τ).loc Cert.XaKernelIdeal.main_arg1)) (m ((c.tc : Thread Cert.XaKernelIdeal.nD Cert.XaKernelIdeal.τ).loc Cert.XaKernelIdeal.main_arg2)) (m ((c.tc : Thread Cert.XaKernelIdeal.nD Cert.XaKernelIdeal.τ).loc Cert.XaKernelIdeal.main_arg3)) (m ((c.tc : Thread Cert.XaKernelIdeal.nD Cert.XaKernelIdeal.τ).loc Cert.XaKernelIdeal.main_arg4)) (m ((c.tc : Thread Cert.XaKernelIdeal.nD Cert.XaKernelIdeal.τ).loc Cert.XaKernelIdeal.main_arg5)) (m ((c.tc : Thread Cert.XaKernelIdeal.nD Cert.XaKernelIdeal.τ).loc Cert.XaKernelIdeal.main_arg6)) (m ((c.tc : Thread Cert.XaKernelIdeal.nD Cert.XaKernelIdeal.τ).loc Cert.XaKernelIdeal.main_arg7))).2.2.2 = (fun _ => 1#1)

def Pre_XaReferenceIdeal (m : (ℓ : Loc Cert.XaReferenceIdeal.nD Cert.XaReferenceIdeal.τ Cert.XaReferenceIdeal.sig) → Buf (Elt Ideal) ℓ) : Prop :=
  True

def Pre_XaReferenceIdeal_finite_xattn [hPre_finite_xattn : Cert.Pre_finite_xattn.Facts] (m : (ℓ : Loc Cert.XaReferenceIdeal.nD Cert.XaReferenceIdeal.τ Cert.XaReferenceIdeal.sig) → Buf (Elt Ideal) ℓ) : Prop :=
  ∀ c : Dev Cert.XaReferenceIdeal.nD,
    (Cert.Pre_finite_xattn.fn (F := Ideal) (m ((c.tc : Thread Cert.XaReferenceIdeal.nD Cert.XaReferenceIdeal.τ).loc Cert.XaReferenceIdeal.main_arg0)) (m ((c.tc : Thread Cert.XaReferenceIdeal.nD Cert.XaReferenceIdeal.τ).loc Cert.XaReferenceIdeal.main_arg1)) (m ((c.tc : Thread Cert.XaReferenceIdeal.nD Cert.XaReferenceIdeal.τ).loc Cert.XaReferenceIdeal.main_arg2)) (m ((c.tc : Thread Cert.XaReferenceIdeal.nD Cert.XaReferenceIdeal.τ).loc Cert.XaReferenceIdeal.main_arg3)) (m ((c.tc : Thread Cert.XaReferenceIdeal.nD Cert.XaReferenceIdeal.τ).loc Cert.XaReferenceIdeal.main_arg4)) (m ((c.tc : Thread Cert.XaReferenceIdeal.nD Cert.XaReferenceIdeal.τ).loc Cert.XaReferenceIdeal.main_arg5)) (m ((c.tc : Thread Cert.XaReferenceIdeal.nD Cert.XaReferenceIdeal.τ).loc Cert.XaReferenceIdeal.main_arg6)) (m ((c.tc : Thread Cert.XaReferenceIdeal.nD Cert.XaReferenceIdeal.τ).loc Cert.XaReferenceIdeal.main_arg7))).1 = (fun _ => 1#1)
    ∧ (Cert.Pre_finite_xattn.fn (F := Ideal) (m ((c.tc : Thread Cert.XaReferenceIdeal.nD Cert.XaReferenceIdeal.τ).loc Cert.XaReferenceIdeal.main_arg0)) (m ((c.tc : Thread Cert.XaReferenceIdeal.nD Cert.XaReferenceIdeal.τ).loc Cert.XaReferenceIdeal.main_arg1)) (m ((c.tc : Thread Cert.XaReferenceIdeal.nD Cert.XaReferenceIdeal.τ).loc Cert.XaReferenceIdeal.main_arg2)) (m ((c.tc : Thread Cert.XaReferenceIdeal.nD Cert.XaReferenceIdeal.τ).loc Cert.XaReferenceIdeal.main_arg3)) (m ((c.tc : Thread Cert.XaReferenceIdeal.nD Cert.XaReferenceIdeal.τ).loc Cert.XaReferenceIdeal.main_arg4)) (m ((c.tc : Thread Cert.XaReferenceIdeal.nD Cert.XaReferenceIdeal.τ).loc Cert.XaReferenceIdeal.main_arg5)) (m ((c.tc : Thread Cert.XaReferenceIdeal.nD Cert.XaReferenceIdeal.τ).loc Cert.XaReferenceIdeal.main_arg6)) (m ((c.tc : Thread Cert.XaReferenceIdeal.nD Cert.XaReferenceIdeal.τ).loc Cert.XaReferenceIdeal.main_arg7))).2.1 = (fun _ => 1#1)
    ∧ (Cert.Pre_finite_xattn.fn (F := Ideal) (m ((c.tc : Thread Cert.XaReferenceIdeal.nD Cert.XaReferenceIdeal.τ).loc Cert.XaReferenceIdeal.main_arg0)) (m ((c.tc : Thread Cert.XaReferenceIdeal.nD Cert.XaReferenceIdeal.τ).loc Cert.XaReferenceIdeal.main_arg1)) (m ((c.tc : Thread Cert.XaReferenceIdeal.nD Cert.XaReferenceIdeal.τ).loc Cert.XaReferenceIdeal.main_arg2)) (m ((c.tc : Thread Cert.XaReferenceIdeal.nD Cert.XaReferenceIdeal.τ).loc Cert.XaReferenceIdeal.main_arg3)) (m ((c.tc : Thread Cert.XaReferenceIdeal.nD Cert.XaReferenceIdeal.τ).loc Cert.XaReferenceIdeal.main_arg4)) (m ((c.tc : Thread Cert.XaReferenceIdeal.nD Cert.XaReferenceIdeal.τ).loc Cert.XaReferenceIdeal.main_arg5)) (m ((c.tc : Thread Cert.XaReferenceIdeal.nD Cert.XaReferenceIdeal.τ).loc Cert.XaReferenceIdeal.main_arg6)) (m ((c.tc : Thread Cert.XaReferenceIdeal.nD Cert.XaReferenceIdeal.τ).loc Cert.XaReferenceIdeal.main_arg7))).2.2.1 = (fun _ => 1#1)
    ∧ (Cert.Pre_finite_xattn.fn (F := Ideal) (m ((c.tc : Thread Cert.XaReferenceIdeal.nD Cert.XaReferenceIdeal.τ).loc Cert.XaReferenceIdeal.main_arg0)) (m ((c.tc : Thread Cert.XaReferenceIdeal.nD Cert.XaReferenceIdeal.τ).loc Cert.XaReferenceIdeal.main_arg1)) (m ((c.tc : Thread Cert.XaReferenceIdeal.nD Cert.XaReferenceIdeal.τ).loc Cert.XaReferenceIdeal.main_arg2)) (m ((c.tc : Thread Cert.XaReferenceIdeal.nD Cert.XaReferenceIdeal.τ).loc Cert.XaReferenceIdeal.main_arg3)) (m ((c.tc : Thread Cert.XaReferenceIdeal.nD Cert.XaReferenceIdeal.τ).loc Cert.XaReferenceIdeal.main_arg4)) (m ((c.tc : Thread Cert.XaReferenceIdeal.nD Cert.XaReferenceIdeal.τ).loc Cert.XaReferenceIdeal.main_arg5)) (m ((c.tc : Thread Cert.XaReferenceIdeal.nD Cert.XaReferenceIdeal.τ).loc Cert.XaReferenceIdeal.main_arg6)) (m ((c.tc : Thread Cert.XaReferenceIdeal.nD Cert.XaReferenceIdeal.τ).loc Cert.XaReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_WoKernel [hWoKernel : Cert.WoKernel.Facts] : Prop :=
  ∀ (m : (ℓ : Loc Cert.WoKernel.nD Cert.WoKernel.τ Cert.WoKernel.sig) → Buf (Elt Bits) ℓ) (g : Dev Cert.WoKernel.nD → PrngReg), Pre_WoKernel m →
    θ_run (Cert.WoKernel.defs (F := Bits)) (onTc (τ := Cert.WoKernel.τ) (Cert.WoKernel.main (F := Bits))) ⟨m, fun _ => 0, g⟩ (fun r => (∀ c : Dev Cert.WoKernel.nD,
      r.2.mem ((c.tc : Thread Cert.WoKernel.nD Cert.WoKernel.τ).loc Cert.WoKernel.main_arg0) = m ((c.tc : Thread Cert.WoKernel.nD Cert.WoKernel.τ).loc Cert.WoKernel.main_arg0)
      ∧ r.2.mem ((c.tc : Thread Cert.WoKernel.nD Cert.WoKernel.τ).loc Cert.WoKernel.main_arg1) = m ((c.tc : Thread Cert.WoKernel.nD Cert.WoKernel.τ).loc Cert.WoKernel.main_arg1))
      ∧ r.2.sem = fun _ => 0)

def quiescent_WoKernelIdeal [hWoKernelIdeal : Cert.WoKernelIdeal.Facts] : Prop :=
  ∀ (m : (ℓ : Loc Cert.WoKernelIdeal.nD Cert.WoKernelIdeal.τ Cert.WoKernelIdeal.sig) → Buf (Elt Ideal) ℓ) (g : Dev Cert.WoKernelIdeal.nD → PrngReg), Pre_WoKernelIdeal m →
    θ_run (Cert.WoKernelIdeal.defs (F := Ideal)) (onTc (τ := Cert.WoKernelIdeal.τ) (Cert.WoKernelIdeal.main (F := Ideal))) ⟨m, fun _ => 0, g⟩ (fun r => (∀ c : Dev Cert.WoKernelIdeal.nD,
      r.2.mem ((c.tc : Thread Cert.WoKernelIdeal.nD Cert.WoKernelIdeal.τ).loc Cert.WoKernelIdeal.main_arg0) = m ((c.tc : Thread Cert.WoKernelIdeal.nD Cert.WoKernelIdeal.τ).loc Cert.WoKernelIdeal.main_arg0)
      ∧ r.2.mem ((c.tc : Thread Cert.WoKernelIdeal.nD Cert.WoKernelIdeal.τ).loc Cert.WoKernelIdeal.main_arg1) = m ((c.tc : Thread Cert.WoKernelIdeal.nD Cert.WoKernelIdeal.τ).loc Cert.WoKernelIdeal.main_arg1))
      ∧ r.2.sem = fun _ => 0)

def quiescent_WoReferenceIdeal [hWoReferenceIdeal : Cert.WoReferenceIdeal.Facts] : Prop :=
  ∀ (m : (ℓ : Loc Cert.WoReferenceIdeal.nD Cert.WoReferenceIdeal.τ Cert.WoReferenceIdeal.sig) → Buf (Elt Ideal) ℓ) (g : Dev Cert.WoReferenceIdeal.nD → PrngReg), Pre_WoReferenceIdeal m →
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1))
      ∧ r.2.sem = fun _ => 0)

def quiescent_WqKernel [hWqKernel : Cert.WqKernel.Facts] : Prop :=
  ∀ (m : (ℓ : Loc Cert.WqKernel.nD Cert.WqKernel.τ Cert.WqKernel.sig) → Buf (Elt Bits) ℓ) (g : Dev Cert.WqKernel.nD → PrngReg), Pre_WqKernel m →
    θ_run (Cert.WqKernel.defs (F := Bits)) (onTc (τ := Cert.WqKernel.τ) (Cert.WqKernel.main (F := Bits))) ⟨m, fun _ => 0, g⟩ (fun r => (∀ c : Dev Cert.WqKernel.nD,
      r.2.mem ((c.tc : Thread Cert.WqKernel.nD Cert.WqKernel.τ).loc Cert.WqKernel.main_arg0) = m ((c.tc : Thread Cert.WqKernel.nD Cert.WqKernel.τ).loc Cert.WqKernel.main_arg0)
      ∧ r.2.mem ((c.tc : Thread Cert.WqKernel.nD Cert.WqKernel.τ).loc Cert.WqKernel.main_arg1) = m ((c.tc : Thread Cert.WqKernel.nD Cert.WqKernel.τ).loc Cert.WqKernel.main_arg1))
      ∧ r.2.sem = fun _ => 0)

def quiescent_WqKernelIdeal [hWqKernelIdeal : Cert.WqKernelIdeal.Facts] : Prop :=
  ∀ (m : (ℓ : Loc Cert.WqKernelIdeal.nD Cert.WqKernelIdeal.τ Cert.WqKernelIdeal.sig) → Buf (Elt Ideal) ℓ) (g : Dev Cert.WqKernelIdeal.nD → PrngReg), Pre_WqKernelIdeal m →
    θ_run (Cert.WqKernelIdeal.defs (F := Ideal)) (onTc (τ := Cert.WqKernelIdeal.τ) (Cert.WqKernelIdeal.main (F := Ideal))) ⟨m, fun _ => 0, g⟩ (fun r => (∀ c : Dev Cert.WqKernelIdeal.nD,
      r.2.mem ((c.tc : Thread Cert.WqKernelIdeal.nD Cert.WqKernelIdeal.τ).loc Cert.WqKernelIdeal.main_arg0) = m ((c.tc : Thread Cert.WqKernelIdeal.nD Cert.WqKernelIdeal.τ).loc Cert.WqKernelIdeal.main_arg0)
      ∧ r.2.mem ((c.tc : Thread Cert.WqKernelIdeal.nD Cert.WqKernelIdeal.τ).loc Cert.WqKernelIdeal.main_arg1) = m ((c.tc : Thread Cert.WqKernelIdeal.nD Cert.WqKernelIdeal.τ).loc Cert.WqKernelIdeal.main_arg1))
      ∧ r.2.sem = fun _ => 0)

def quiescent_WqReferenceIdeal [hWqReferenceIdeal : Cert.WqReferenceIdeal.Facts] : Prop :=
  ∀ (m : (ℓ : Loc Cert.WqReferenceIdeal.nD Cert.WqReferenceIdeal.τ Cert.WqReferenceIdeal.sig) → Buf (Elt Ideal) ℓ) (g : Dev Cert.WqReferenceIdeal.nD → PrngReg), Pre_WqReferenceIdeal m →
    θ_run (Cert.WqReferenceIdeal.defs (F := Ideal)) (onTc (τ := Cert.WqReferenceIdeal.τ) (Cert.WqReferenceIdeal.main (F := Ideal))) ⟨m, fun _ => 0, g⟩ (fun r => (∀ c : Dev Cert.WqReferenceIdeal.nD,
      r.2.mem ((c.tc : Thread Cert.WqReferenceIdeal.nD Cert.WqReferenceIdeal.τ).loc Cert.WqReferenceIdeal.main_arg0) = m ((c.tc : Thread Cert.WqReferenceIdeal.nD Cert.WqReferenceIdeal.τ).loc Cert.WqReferenceIdeal.main_arg0)
      ∧ r.2.mem ((c.tc : Thread Cert.WqReferenceIdeal.nD Cert.WqReferenceIdeal.τ).loc Cert.WqReferenceIdeal.main_arg1) = m ((c.tc : Thread Cert.WqReferenceIdeal.nD Cert.WqReferenceIdeal.τ).loc Cert.WqReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6))
      ∧ r.2.sem = fun _ => 0)

def quiescent_XaKernel [hXaKernel : Cert.XaKernel.Facts] : Prop :=
  ∀ (m : (ℓ : Loc Cert.XaKernel.nD Cert.XaKernel.τ Cert.XaKernel.sig) → Buf (Elt Bits) ℓ) (g : Dev Cert.XaKernel.nD → PrngReg), Pre_XaKernel m →
    θ_run (Cert.XaKernel.defs (F := Bits)) (onTc (τ := Cert.XaKernel.τ) (Cert.XaKernel.main (F := Bits))) ⟨m, fun _ => 0, g⟩ (fun r => (∀ c : Dev Cert.XaKernel.nD,
      r.2.mem ((c.tc : Thread Cert.XaKernel.nD Cert.XaKernel.τ).loc Cert.XaKernel.main_arg0) = m ((c.tc : Thread Cert.XaKernel.nD Cert.XaKernel.τ).loc Cert.XaKernel.main_arg0)
      ∧ r.2.mem ((c.tc : Thread Cert.XaKernel.nD Cert.XaKernel.τ).loc Cert.XaKernel.main_arg1) = m ((c.tc : Thread Cert.XaKernel.nD Cert.XaKernel.τ).loc Cert.XaKernel.main_arg1)
      ∧ r.2.mem ((c.tc : Thread Cert.XaKernel.nD Cert.XaKernel.τ).loc Cert.XaKernel.main_arg2) = m ((c.tc : Thread Cert.XaKernel.nD Cert.XaKernel.τ).loc Cert.XaKernel.main_arg2)
      ∧ r.2.mem ((c.tc : Thread Cert.XaKernel.nD Cert.XaKernel.τ).loc Cert.XaKernel.main_arg3) = m ((c.tc : Thread Cert.XaKernel.nD Cert.XaKernel.τ).loc Cert.XaKernel.main_arg3)
      ∧ r.2.mem ((c.tc : Thread Cert.XaKernel.nD Cert.XaKernel.τ).loc Cert.XaKernel.main_arg4) = m ((c.tc : Thread Cert.XaKernel.nD Cert.XaKernel.τ).loc Cert.XaKernel.main_arg4)
      ∧ r.2.mem ((c.tc : Thread Cert.XaKernel.nD Cert.XaKernel.τ).loc Cert.XaKernel.main_arg5) = m ((c.tc : Thread Cert.XaKernel.nD Cert.XaKernel.τ).loc Cert.XaKernel.main_arg5)
      ∧ r.2.mem ((c.tc : Thread Cert.XaKernel.nD Cert.XaKernel.τ).loc Cert.XaKernel.main_arg6) = m ((c.tc : Thread Cert.XaKernel.nD Cert.XaKernel.τ).loc Cert.XaKernel.main_arg6)
      ∧ r.2.mem ((c.tc : Thread Cert.XaKernel.nD Cert.XaKernel.τ).loc Cert.XaKernel.main_arg7) = m ((c.tc : Thread Cert.XaKernel.nD Cert.XaKernel.τ).loc Cert.XaKernel.main_arg7))
      ∧ r.2.sem = fun _ => 0)

def quiescent_XaKernelIdeal [hXaKernelIdeal : Cert.XaKernelIdeal.Facts] : Prop :=
  ∀ (m : (ℓ : Loc Cert.XaKernelIdeal.nD Cert.XaKernelIdeal.τ Cert.XaKernelIdeal.sig) → Buf (Elt Ideal) ℓ) (g : Dev Cert.XaKernelIdeal.nD → PrngReg), Pre_XaKernelIdeal m →
    θ_run (Cert.XaKernelIdeal.defs (F := Ideal)) (onTc (τ := Cert.XaKernelIdeal.τ) (Cert.XaKernelIdeal.main (F := Ideal))) ⟨m, fun _ => 0, g⟩ (fun r => (∀ c : Dev Cert.XaKernelIdeal.nD,
      r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
      ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
      ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
      ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
      ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4)
      ∧ r.2.mem ((c.tc : Thread Cert.XaKernelIdeal.nD Cert.XaKernelIdeal.τ).loc Cert.XaKernelIdeal.main_arg5) = m ((c.tc : Thread Cert.XaKernelIdeal.nD Cert.XaKernelIdeal.τ).loc Cert.XaKernelIdeal.main_arg5)
      ∧ r.2.mem ((c.tc : Thread Cert.XaKernelIdeal.nD Cert.XaKernelIdeal.τ).loc Cert.XaKernelIdeal.main_arg6) = m ((c.tc : Thread Cert.XaKernelIdeal.nD Cert.XaKernelIdeal.τ).loc Cert.XaKernelIdeal.main_arg6)
      ∧ r.2.mem ((c.tc : Thread Cert.XaKernelIdeal.nD Cert.XaKernelIdeal.τ).loc Cert.XaKernelIdeal.main_arg7) = m ((c.tc : Thread Cert.XaKernelIdeal.nD Cert.XaKernelIdeal.τ).loc Cert.XaKernelIdeal.main_arg7))
      ∧ r.2.sem = fun _ => 0)

def quiescent_XaKernelIdeal_pre_finite_xattn [hXaKernelIdeal : Cert.XaKernelIdeal.Facts] [hPre_finite_xattn : Cert.Pre_finite_xattn.Facts] : Prop :=
  ∀ (m : (ℓ : Loc Cert.XaKernelIdeal.nD Cert.XaKernelIdeal.τ Cert.XaKernelIdeal.sig) → Buf (Elt Ideal) ℓ) (g : Dev Cert.XaKernelIdeal.nD → PrngReg), Pre_XaKernelIdeal_finite_xattn m →
    θ_run (Cert.XaKernelIdeal.defs (F := Ideal)) (onTc (τ := Cert.XaKernelIdeal.τ) (Cert.XaKernelIdeal.main (F := Ideal))) ⟨m, fun _ => 0, g⟩ (fun r => (∀ c : Dev Cert.XaKernelIdeal.nD,
      r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
      ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
      ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
      ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
      ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4)
      ∧ r.2.mem ((c.tc : Thread Cert.XaKernelIdeal.nD Cert.XaKernelIdeal.τ).loc Cert.XaKernelIdeal.main_arg5) = m ((c.tc : Thread Cert.XaKernelIdeal.nD Cert.XaKernelIdeal.τ).loc Cert.XaKernelIdeal.main_arg5)
      ∧ r.2.mem ((c.tc : Thread Cert.XaKernelIdeal.nD Cert.XaKernelIdeal.τ).loc Cert.XaKernelIdeal.main_arg6) = m ((c.tc : Thread Cert.XaKernelIdeal.nD Cert.XaKernelIdeal.τ).loc Cert.XaKernelIdeal.main_arg6)
      ∧ r.2.mem ((c.tc : Thread Cert.XaKernelIdeal.nD Cert.XaKernelIdeal.τ).loc Cert.XaKernelIdeal.main_arg7) = m ((c.tc : Thread Cert.XaKernelIdeal.nD Cert.XaKernelIdeal.τ).loc Cert.XaKernelIdeal.main_arg7))
      ∧ r.2.sem = fun _ => 0)

def quiescent_XaReferenceIdeal [hXaReferenceIdeal : Cert.XaReferenceIdeal.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4)
      ∧ r.2.mem ((c.tc : Thread Cert.XaReferenceIdeal.nD Cert.XaReferenceIdeal.τ).loc Cert.XaReferenceIdeal.main_arg5) = m ((c.tc : Thread Cert.XaReferenceIdeal.nD Cert.XaReferenceIdeal.τ).loc Cert.XaReferenceIdeal.main_arg5)
      ∧ r.2.mem ((c.tc : Thread Cert.XaReferenceIdeal.nD Cert.XaReferenceIdeal.τ).loc Cert.XaReferenceIdeal.main_arg6) = m ((c.tc : Thread Cert.XaReferenceIdeal.nD Cert.XaReferenceIdeal.τ).loc Cert.XaReferenceIdeal.main_arg6)
      ∧ r.2.mem ((c.tc : Thread Cert.XaReferenceIdeal.nD Cert.XaReferenceIdeal.τ).loc Cert.XaReferenceIdeal.main_arg7) = m ((c.tc : Thread Cert.XaReferenceIdeal.nD Cert.XaReferenceIdeal.τ).loc Cert.XaReferenceIdeal.main_arg7))
      ∧ r.2.sem = fun _ => 0)

def quiescent_XaReferenceIdeal_pre_finite_xattn [hXaReferenceIdeal : Cert.XaReferenceIdeal.Facts] [hPre_finite_xattn : Cert.Pre_finite_xattn.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal_finite_xattn m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4)
      ∧ r.2.mem ((c.tc : Thread Cert.XaReferenceIdeal.nD Cert.XaReferenceIdeal.τ).loc Cert.XaReferenceIdeal.main_arg5) = m ((c.tc : Thread Cert.XaReferenceIdeal.nD Cert.XaReferenceIdeal.τ).loc Cert.XaReferenceIdeal.main_arg5)
      ∧ r.2.mem ((c.tc : Thread Cert.XaReferenceIdeal.nD Cert.XaReferenceIdeal.τ).loc Cert.XaReferenceIdeal.main_arg6) = m ((c.tc : Thread Cert.XaReferenceIdeal.nD Cert.XaReferenceIdeal.τ).loc Cert.XaReferenceIdeal.main_arg6)
      ∧ r.2.mem ((c.tc : Thread Cert.XaReferenceIdeal.nD Cert.XaReferenceIdeal.τ).loc Cert.XaReferenceIdeal.main_arg7) = m ((c.tc : Thread Cert.XaReferenceIdeal.nD Cert.XaReferenceIdeal.τ).loc Cert.XaReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102_0)) (v1 : (c : Dev Cert.KernelIdeal.nD) → Buf (Elt Ideal) ((c.tc : Thread Cert.KernelIdeal.nD Cert.KernelIdeal.τ).loc Cert.KernelIdeal.main_v102_1)) (v2 : (c : Dev Cert.KernelIdeal.nD) → Buf (Elt Ideal) ((c.tc : Thread Cert.KernelIdeal.nD Cert.KernelIdeal.τ).loc Cert.KernelIdeal.main_v102_2)) (v3 : (c : Dev Cert.KernelIdeal.nD) → Buf (Elt Ideal) ((c.tc : Thread Cert.KernelIdeal.nD Cert.KernelIdeal.τ).loc Cert.KernelIdeal.main_v102_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102_0) = v0 c
          ∧ r.2.mem ((c.tc : Thread Cert.KernelIdeal.nD Cert.KernelIdeal.τ).loc Cert.KernelIdeal.main_v102_1) = v1 c
          ∧ r.2.mem ((c.tc : Thread Cert.KernelIdeal.nD Cert.KernelIdeal.τ).loc Cert.KernelIdeal.main_v102_2) = v2 c
          ∧ r.2.mem ((c.tc : Thread Cert.KernelIdeal.nD Cert.KernelIdeal.τ).loc Cert.KernelIdeal.main_v102_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v3) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v4)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v4) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_WoKernel_WoKernelIdeal : Prop :=
  True

def algebraic_WoKernelIdeal_WoReferenceIdeal [hWoKernelIdeal : Cert.WoKernelIdeal.Facts] [hWoReferenceIdeal : Cert.WoReferenceIdeal.Facts] : Prop :=
  ∀ (m : (ℓ : Loc Cert.WoKernelIdeal.nD Cert.WoKernelIdeal.τ Cert.WoKernelIdeal.sig) → Buf (Elt Ideal) ℓ) (g : Dev Cert.WoKernelIdeal.nD → PrngReg)
    (m' : (ℓ : Loc Cert.WoReferenceIdeal.nD Cert.WoReferenceIdeal.τ Cert.WoReferenceIdeal.sig) → Buf (Elt Ideal) ℓ) (g' : Dev Cert.WoReferenceIdeal.nD → PrngReg), Pre_WoKernelIdeal m →
    (∀ c : Dev Cert.WoKernelIdeal.nD,
      m' ((c.tc : Thread Cert.WoReferenceIdeal.nD Cert.WoReferenceIdeal.τ).loc Cert.WoReferenceIdeal.main_arg0) = m ((c.tc : Thread Cert.WoKernelIdeal.nD Cert.WoKernelIdeal.τ).loc Cert.WoKernelIdeal.main_arg0)
      ∧ m' ((c.tc : Thread Cert.WoReferenceIdeal.nD Cert.WoReferenceIdeal.τ).loc Cert.WoReferenceIdeal.main_arg1) = m ((c.tc : Thread Cert.WoKernelIdeal.nD Cert.WoKernelIdeal.τ).loc Cert.WoKernelIdeal.main_arg1)) →
    ∃ (v0 : (c : Dev Cert.WoKernelIdeal.nD) → Buf (Elt Ideal) ((c.tc : Thread Cert.WoKernelIdeal.nD Cert.WoKernelIdeal.τ).loc Cert.WoKernelIdeal.main_v1)),
      θ_run (Cert.WoKernelIdeal.defs (F := Ideal)) (onTc (τ := Cert.WoKernelIdeal.τ) (Cert.WoKernelIdeal.main (F := Ideal))) ⟨m, fun _ => 0, g⟩ (fun r => ∀ c : Dev Cert.WoKernelIdeal.nD,
          r.2.mem ((c.tc : Thread Cert.WoKernelIdeal.nD Cert.WoKernelIdeal.τ).loc Cert.WoKernelIdeal.main_v1) = v0 c
          ∧ r.2.mem ((c.tc : Thread Cert.WoKernelIdeal.nD Cert.WoKernelIdeal.τ).loc Cert.WoKernelIdeal.main_arg0) = m ((c.tc : Thread Cert.WoKernelIdeal.nD Cert.WoKernelIdeal.τ).loc Cert.WoKernelIdeal.main_arg0)
          ∧ r.2.mem ((c.tc : Thread Cert.WoKernelIdeal.nD Cert.WoKernelIdeal.τ).loc Cert.WoKernelIdeal.main_arg1) = m ((c.tc : Thread Cert.WoKernelIdeal.nD Cert.WoKernelIdeal.τ).loc Cert.WoKernelIdeal.main_arg1))
      ∧ θ_run (Cert.WoReferenceIdeal.defs (F := Ideal)) (onTc (τ := Cert.WoReferenceIdeal.τ) (Cert.WoReferenceIdeal.main (F := Ideal))) ⟨m', fun _ => 0, g'⟩ (fun r => ∀ c : Dev Cert.WoReferenceIdeal.nD,
          r.2.mem ((c.tc : Thread Cert.WoReferenceIdeal.nD Cert.WoReferenceIdeal.τ).loc Cert.WoReferenceIdeal.main_v5) = v0 c
          ∧ r.2.mem ((c.tc : Thread Cert.WoReferenceIdeal.nD Cert.WoReferenceIdeal.τ).loc Cert.WoReferenceIdeal.main_arg0) = m' ((c.tc : Thread Cert.WoReferenceIdeal.nD Cert.WoReferenceIdeal.τ).loc Cert.WoReferenceIdeal.main_arg0)
          ∧ r.2.mem ((c.tc : Thread Cert.WoReferenceIdeal.nD Cert.WoReferenceIdeal.τ).loc Cert.WoReferenceIdeal.main_arg1) = m' ((c.tc : Thread Cert.WoReferenceIdeal.nD Cert.WoReferenceIdeal.τ).loc Cert.WoReferenceIdeal.main_arg1))

def preserves_WqKernel_WqKernelIdeal : Prop :=
  True

def algebraic_WqKernelIdeal_WqReferenceIdeal [hWqKernelIdeal : Cert.WqKernelIdeal.Facts] [hWqReferenceIdeal : Cert.WqReferenceIdeal.Facts] : Prop :=
  ∀ (m : (ℓ : Loc Cert.WqKernelIdeal.nD Cert.WqKernelIdeal.τ Cert.WqKernelIdeal.sig) → Buf (Elt Ideal) ℓ) (g : Dev Cert.WqKernelIdeal.nD → PrngReg)
    (m' : (ℓ : Loc Cert.WqReferenceIdeal.nD Cert.WqReferenceIdeal.τ Cert.WqReferenceIdeal.sig) → Buf (Elt Ideal) ℓ) (g' : Dev Cert.WqReferenceIdeal.nD → PrngReg), Pre_WqKernelIdeal m →
    (∀ c : Dev Cert.WqKernelIdeal.nD,
      m' ((c.tc : Thread Cert.WqReferenceIdeal.nD Cert.WqReferenceIdeal.τ).loc Cert.WqReferenceIdeal.main_arg0) = m ((c.tc : Thread Cert.WqKernelIdeal.nD Cert.WqKernelIdeal.τ).loc Cert.WqKernelIdeal.main_arg0)
      ∧ m' ((c.tc : Thread Cert.WqReferenceIdeal.nD Cert.WqReferenceIdeal.τ).loc Cert.WqReferenceIdeal.main_arg1) = m ((c.tc : Thread Cert.WqKernelIdeal.nD Cert.WqKernelIdeal.τ).loc Cert.WqKernelIdeal.main_arg1)) →
    ∃ (v0 : (c : Dev Cert.WqKernelIdeal.nD) → Buf (Elt Ideal) ((c.tc : Thread Cert.WqKernelIdeal.nD Cert.WqKernelIdeal.τ).loc Cert.WqKernelIdeal.main_v2)),
      θ_run (Cert.WqKernelIdeal.defs (F := Ideal)) (onTc (τ := Cert.WqKernelIdeal.τ) (Cert.WqKernelIdeal.main (F := Ideal))) ⟨m, fun _ => 0, g⟩ (fun r => ∀ c : Dev Cert.WqKernelIdeal.nD,
          r.2.mem ((c.tc : Thread Cert.WqKernelIdeal.nD Cert.WqKernelIdeal.τ).loc Cert.WqKernelIdeal.main_v2) = v0 c
          ∧ r.2.mem ((c.tc : Thread Cert.WqKernelIdeal.nD Cert.WqKernelIdeal.τ).loc Cert.WqKernelIdeal.main_arg0) = m ((c.tc : Thread Cert.WqKernelIdeal.nD Cert.WqKernelIdeal.τ).loc Cert.WqKernelIdeal.main_arg0)
          ∧ r.2.mem ((c.tc : Thread Cert.WqKernelIdeal.nD Cert.WqKernelIdeal.τ).loc Cert.WqKernelIdeal.main_arg1) = m ((c.tc : Thread Cert.WqKernelIdeal.nD Cert.WqKernelIdeal.τ).loc Cert.WqKernelIdeal.main_arg1))
      ∧ θ_run (Cert.WqReferenceIdeal.defs (F := Ideal)) (onTc (τ := Cert.WqReferenceIdeal.τ) (Cert.WqReferenceIdeal.main (F := Ideal))) ⟨m', fun _ => 0, g'⟩ (fun r => ∀ c : Dev Cert.WqReferenceIdeal.nD,
          r.2.mem ((c.tc : Thread Cert.WqReferenceIdeal.nD Cert.WqReferenceIdeal.τ).loc Cert.WqReferenceIdeal.main_v5) = v0 c
          ∧ r.2.mem ((c.tc : Thread Cert.WqReferenceIdeal.nD Cert.WqReferenceIdeal.τ).loc Cert.WqReferenceIdeal.main_arg0) = m' ((c.tc : Thread Cert.WqReferenceIdeal.nD Cert.WqReferenceIdeal.τ).loc Cert.WqReferenceIdeal.main_arg0)
          ∧ r.2.mem ((c.tc : Thread Cert.WqReferenceIdeal.nD Cert.WqReferenceIdeal.τ).loc Cert.WqReferenceIdeal.main_arg1) = m' ((c.tc : Thread Cert.WqReferenceIdeal.nD Cert.WqReferenceIdeal.τ).loc Cert.WqReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v6) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)) →
    ∃ (v0 : (c : Dev Cert.FwdKernelIdeal.nD) → Buf (Elt Ideal) ((c.tc : Thread Cert.FwdKernelIdeal.nD Cert.FwdKernelIdeal.τ).loc Cert.FwdKernelIdeal.main_v13_0)) (v1 : (c : Dev Cert.FwdKernelIdeal.nD) → Buf (Elt Ideal) ((c.tc : Thread Cert.FwdKernelIdeal.nD Cert.FwdKernelIdeal.τ).loc Cert.FwdKernelIdeal.main_v13_1)) (v2 : (c : Dev Cert.FwdKernelIdeal.nD) → Buf (Elt Ideal) ((c.tc : Thread Cert.FwdKernelIdeal.nD Cert.FwdKernelIdeal.τ).loc Cert.FwdKernelIdeal.main_v13_3)) (v3 : (c : Dev Cert.FwdKernelIdeal.nD) → Buf (Elt Ideal) ((c.tc : Thread Cert.FwdKernelIdeal.nD Cert.FwdKernelIdeal.τ).loc Cert.FwdKernelIdeal.main_v13_4)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v13_0) = v0 c
          ∧ r.2.mem ((c.tc : Thread Cert.FwdKernelIdeal.nD Cert.FwdKernelIdeal.τ).loc Cert.FwdKernelIdeal.main_v13_1) = v1 c
          ∧ r.2.mem ((c.tc : Thread Cert.FwdKernelIdeal.nD Cert.FwdKernelIdeal.τ).loc Cert.FwdKernelIdeal.main_v13_3) = v2 c
          ∧ r.2.mem ((c.tc : Thread Cert.FwdKernelIdeal.nD Cert.FwdKernelIdeal.τ).loc Cert.FwdKernelIdeal.main_v13_4) = v3 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v51) = v0 c
          ∧ r.2.mem ((c.tc : Thread Cert.FwdReferenceIdeal.nD Cert.FwdReferenceIdeal.τ).loc Cert.FwdReferenceIdeal.main_v54) = v1 c
          ∧ r.2.mem ((c.tc : Thread Cert.FwdReferenceIdeal.nD Cert.FwdReferenceIdeal.τ).loc Cert.FwdReferenceIdeal.main_v56) = v2 c
          ∧ r.2.mem ((c.tc : Thread Cert.FwdReferenceIdeal.nD Cert.FwdReferenceIdeal.τ).loc Cert.FwdReferenceIdeal.main_v60) = v3 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6))

def preserves_XaKernel_XaKernelIdeal : Prop :=
  True

def algebraic_XaKernelIdeal_XaReferenceIdeal_pre_finite_xattn [hXaKernelIdeal : Cert.XaKernelIdeal.Facts] [hXaReferenceIdeal : Cert.XaReferenceIdeal.Facts] [hPre_finite_xattn : Cert.Pre_finite_xattn.Facts] : Prop :=
  ∀ (m : (ℓ : Loc Cert.XaKernelIdeal.nD Cert.XaKernelIdeal.τ Cert.XaKernelIdeal.sig) → Buf (Elt Ideal) ℓ) (g : Dev Cert.XaKernelIdeal.nD → PrngReg)
    (m' : (ℓ : Loc Cert.XaReferenceIdeal.nD Cert.XaReferenceIdeal.τ Cert.XaReferenceIdeal.sig) → Buf (Elt Ideal) ℓ) (g' : Dev Cert.XaReferenceIdeal.nD → PrngReg), Pre_XaKernelIdeal_finite_xattn m →
    (∀ c : Dev Cert.XaKernelIdeal.nD,
      m' ((c.tc : Thread Cert.XaReferenceIdeal.nD Cert.XaReferenceIdeal.τ).loc Cert.XaReferenceIdeal.main_arg0) = m ((c.tc : Thread Cert.XaKernelIdeal.nD Cert.XaKernelIdeal.τ).loc Cert.XaKernelIdeal.main_arg0)
      ∧ m' ((c.tc : Thread Cert.XaReferenceIdeal.nD Cert.XaReferenceIdeal.τ).loc Cert.XaReferenceIdeal.main_arg1) = m ((c.tc : Thread Cert.XaKernelIdeal.nD Cert.XaKernelIdeal.τ).loc Cert.XaKernelIdeal.main_arg1)
      ∧ m' ((c.tc : Thread Cert.XaReferenceIdeal.nD Cert.XaReferenceIdeal.τ).loc Cert.XaReferenceIdeal.main_arg2) = m ((c.tc : Thread Cert.XaKernelIdeal.nD Cert.XaKernelIdeal.τ).loc Cert.XaKernelIdeal.main_arg2)
      ∧ m' ((c.tc : Thread Cert.XaReferenceIdeal.nD Cert.XaReferenceIdeal.τ).loc Cert.XaReferenceIdeal.main_arg3) = m ((c.tc : Thread Cert.XaKernelIdeal.nD Cert.XaKernelIdeal.τ).loc Cert.XaKernelIdeal.main_arg3)
      ∧ m' ((c.tc : Thread Cert.XaReferenceIdeal.nD Cert.XaReferenceIdeal.τ).loc Cert.XaReferenceIdeal.main_arg4) = m ((c.tc : Thread Cert.XaKernelIdeal.nD Cert.XaKernelIdeal.τ).loc Cert.XaKernelIdeal.main_arg4)
      ∧ m' ((c.tc : Thread Cert.XaReferenceIdeal.nD Cert.XaReferenceIdeal.τ).loc Cert.XaReferenceIdeal.main_arg5) = m ((c.tc : Thread Cert.XaKernelIdeal.nD Cert.XaKernelIdeal.τ).loc Cert.XaKernelIdeal.main_arg5)
      ∧ m' ((c.tc : Thread Cert.XaReferenceIdeal.nD Cert.XaReferenceIdeal.τ).loc Cert.XaReferenceIdeal.main_arg6) = m ((c.tc : Thread Cert.XaKernelIdeal.nD Cert.XaKernelIdeal.τ).loc Cert.XaKernelIdeal.main_arg6)
      ∧ m' ((c.tc : Thread Cert.XaReferenceIdeal.nD Cert.XaReferenceIdeal.τ).loc Cert.XaReferenceIdeal.main_arg7) = m ((c.tc : Thread Cert.XaKernelIdeal.nD Cert.XaKernelIdeal.τ).loc Cert.XaKernelIdeal.main_arg7)) →
    ∃ (v0 : (c : Dev Cert.XaKernelIdeal.nD) → Buf (Elt Ideal) ((c.tc : Thread Cert.XaKernelIdeal.nD Cert.XaKernelIdeal.τ).loc Cert.XaKernelIdeal.main_v10_0)) (v1 : (c : Dev Cert.XaKernelIdeal.nD) → Buf (Elt Ideal) ((c.tc : Thread Cert.XaKernelIdeal.nD Cert.XaKernelIdeal.τ).loc Cert.XaKernelIdeal.main_v10_1)) (v2 : (c : Dev Cert.XaKernelIdeal.nD) → Buf (Elt Ideal) ((c.tc : Thread Cert.XaKernelIdeal.nD Cert.XaKernelIdeal.τ).loc Cert.XaKernelIdeal.main_v10_2)) (v3 : (c : Dev Cert.XaKernelIdeal.nD) → Buf (Elt Ideal) ((c.tc : Thread Cert.XaKernelIdeal.nD Cert.XaKernelIdeal.τ).loc Cert.XaKernelIdeal.main_v10_3)),
      θ_run (Cert.XaKernelIdeal.defs (F := Ideal)) (onTc (τ := Cert.XaKernelIdeal.τ) (Cert.XaKernelIdeal.main (F := Ideal))) ⟨m, fun _ => 0, g⟩ (fun r => ∀ c : Dev Cert.XaKernelIdeal.nD,
          r.2.mem ((c.tc : Thread Cert.XaKernelIdeal.nD Cert.XaKernelIdeal.τ).loc Cert.XaKernelIdeal.main_v10_0) = v0 c
          ∧ r.2.mem ((c.tc : Thread Cert.XaKernelIdeal.nD Cert.XaKernelIdeal.τ).loc Cert.XaKernelIdeal.main_v10_1) = v1 c
          ∧ r.2.mem ((c.tc : Thread Cert.XaKernelIdeal.nD Cert.XaKernelIdeal.τ).loc Cert.XaKernelIdeal.main_v10_2) = v2 c
          ∧ r.2.mem ((c.tc : Thread Cert.XaKernelIdeal.nD Cert.XaKernelIdeal.τ).loc Cert.XaKernelIdeal.main_v10_3) = v3 c
          ∧ r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
          ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
          ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
          ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
          ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4)
          ∧ r.2.mem ((c.tc : Thread Cert.XaKernelIdeal.nD Cert.XaKernelIdeal.τ).loc Cert.XaKernelIdeal.main_arg5) = m ((c.tc : Thread Cert.XaKernelIdeal.nD Cert.XaKernelIdeal.τ).loc Cert.XaKernelIdeal.main_arg5)
          ∧ r.2.mem ((c.tc : Thread Cert.XaKernelIdeal.nD Cert.XaKernelIdeal.τ).loc Cert.XaKernelIdeal.main_arg6) = m ((c.tc : Thread Cert.XaKernelIdeal.nD Cert.XaKernelIdeal.τ).loc Cert.XaKernelIdeal.main_arg6)
          ∧ r.2.mem ((c.tc : Thread Cert.XaKernelIdeal.nD Cert.XaKernelIdeal.τ).loc Cert.XaKernelIdeal.main_arg7) = m ((c.tc : Thread Cert.XaKernelIdeal.nD Cert.XaKernelIdeal.τ).loc Cert.XaKernelIdeal.main_arg7))
      ∧ θ_run (Cert.XaReferenceIdeal.defs (F := Ideal)) (onTc (τ := Cert.XaReferenceIdeal.τ) (Cert.XaReferenceIdeal.main (F := Ideal))) ⟨m', fun _ => 0, g'⟩ (fun r => ∀ c : Dev Cert.XaReferenceIdeal.nD,
          r.2.mem ((c.tc : Thread Cert.XaReferenceIdeal.nD Cert.XaReferenceIdeal.τ).loc Cert.XaReferenceIdeal.main_v1) = v0 c
          ∧ r.2.mem ((c.tc : Thread Cert.XaReferenceIdeal.nD Cert.XaReferenceIdeal.τ).loc Cert.XaReferenceIdeal.main_v39) = v1 c
          ∧ r.2.mem ((c.tc : Thread Cert.XaReferenceIdeal.nD Cert.XaReferenceIdeal.τ).loc Cert.XaReferenceIdeal.main_v38) = v2 c
          ∧ r.2.mem ((c.tc : Thread Cert.XaReferenceIdeal.nD Cert.XaReferenceIdeal.τ).loc Cert.XaReferenceIdeal.main_v54) = v3 c
          ∧ r.2.mem ((c.tc : Thread Cert.XaReferenceIdeal.nD Cert.XaReferenceIdeal.τ).loc Cert.XaReferenceIdeal.main_arg0) = m' ((c.tc : Thread Cert.XaReferenceIdeal.nD Cert.XaReferenceIdeal.τ).loc Cert.XaReferenceIdeal.main_arg0)
          ∧ r.2.mem ((c.tc : Thread Cert.XaReferenceIdeal.nD Cert.XaReferenceIdeal.τ).loc Cert.XaReferenceIdeal.main_arg1) = m' ((c.tc : Thread Cert.XaReferenceIdeal.nD Cert.XaReferenceIdeal.τ).loc Cert.XaReferenceIdeal.main_arg1)
          ∧ r.2.mem ((c.tc : Thread Cert.XaReferenceIdeal.nD Cert.XaReferenceIdeal.τ).loc Cert.XaReferenceIdeal.main_arg2) = m' ((c.tc : Thread Cert.XaReferenceIdeal.nD Cert.XaReferenceIdeal.τ).loc Cert.XaReferenceIdeal.main_arg2)
          ∧ r.2.mem ((c.tc : Thread Cert.XaReferenceIdeal.nD Cert.XaReferenceIdeal.τ).loc Cert.XaReferenceIdeal.main_arg3) = m' ((c.tc : Thread Cert.XaReferenceIdeal.nD Cert.XaReferenceIdeal.τ).loc Cert.XaReferenceIdeal.main_arg3)
          ∧ r.2.mem ((c.tc : Thread Cert.XaReferenceIdeal.nD Cert.XaReferenceIdeal.τ).loc Cert.XaReferenceIdeal.main_arg4) = m' ((c.tc : Thread Cert.XaReferenceIdeal.nD Cert.XaReferenceIdeal.τ).loc Cert.XaReferenceIdeal.main_arg4)
          ∧ r.2.mem ((c.tc : Thread Cert.XaReferenceIdeal.nD Cert.XaReferenceIdeal.τ).loc Cert.XaReferenceIdeal.main_arg5) = m' ((c.tc : Thread Cert.XaReferenceIdeal.nD Cert.XaReferenceIdeal.τ).loc Cert.XaReferenceIdeal.main_arg5)
          ∧ r.2.mem ((c.tc : Thread Cert.XaReferenceIdeal.nD Cert.XaReferenceIdeal.τ).loc Cert.XaReferenceIdeal.main_arg6) = m' ((c.tc : Thread Cert.XaReferenceIdeal.nD Cert.XaReferenceIdeal.τ).loc Cert.XaReferenceIdeal.main_arg6)
          ∧ r.2.mem ((c.tc : Thread Cert.XaReferenceIdeal.nD Cert.XaReferenceIdeal.τ).loc Cert.XaReferenceIdeal.main_arg7) = m' ((c.tc : Thread Cert.XaReferenceIdeal.nD Cert.XaReferenceIdeal.τ).loc Cert.XaReferenceIdeal.main_arg7))

def Claim : Prop :=
  ∃ (hKernel : Cert.Kernel.Facts) (hKernelIdeal : Cert.KernelIdeal.Facts) (hReferenceIdeal : Cert.ReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hWoKernel : Cert.WoKernel.Facts) (hWoKernelIdeal : Cert.WoKernelIdeal.Facts) (hWoReferenceIdeal : Cert.WoReferenceIdeal.Facts) (hWqKernel : Cert.WqKernel.Facts) (hWqKernelIdeal : Cert.WqKernelIdeal.Facts) (hWqReferenceIdeal : Cert.WqReferenceIdeal.Facts) (hInKernel : Cert.InKernel.Facts) (hInKernelIdeal : Cert.InKernelIdeal.Facts) (hInReferenceIdeal : Cert.InReferenceIdeal.Facts) (hFwdKernel : Cert.FwdKernel.Facts) (hFwdKernelIdeal : Cert.FwdKernelIdeal.Facts) (hFwdReferenceIdeal : Cert.FwdReferenceIdeal.Facts) (hXaKernel : Cert.XaKernel.Facts) (hXaKernelIdeal : Cert.XaKernelIdeal.Facts) (hXaReferenceIdeal : Cert.XaReferenceIdeal.Facts) (hPre_finite : Cert.Pre_finite.Facts) (hPre_finite_xattn : Cert.Pre_finite_xattn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_WoKernel (hWoKernel := hWoKernel)
    ∧ quiescent_WoKernelIdeal (hWoKernelIdeal := hWoKernelIdeal)
    ∧ quiescent_WoReferenceIdeal (hWoReferenceIdeal := hWoReferenceIdeal)
    ∧ quiescent_WqKernel (hWqKernel := hWqKernel)
    ∧ quiescent_WqKernelIdeal (hWqKernelIdeal := hWqKernelIdeal)
    ∧ quiescent_WqReferenceIdeal (hWqReferenceIdeal := hWqReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_XaKernel (hXaKernel := hXaKernel)
    ∧ quiescent_XaKernelIdeal (hXaKernelIdeal := hXaKernelIdeal)
    ∧ quiescent_XaKernelIdeal_pre_finite_xattn (hXaKernelIdeal := hXaKernelIdeal) (hPre_finite_xattn := hPre_finite_xattn)
    ∧ quiescent_XaReferenceIdeal (hXaReferenceIdeal := hXaReferenceIdeal)
    ∧ quiescent_XaReferenceIdeal_pre_finite_xattn (hXaReferenceIdeal := hXaReferenceIdeal) (hPre_finite_xattn := hPre_finite_xattn)
    ∧ preserves_Kernel_KernelIdeal
    ∧ algebraic_KernelIdeal_ReferenceIdeal_pre_finite (hKernelIdeal := hKernelIdeal) (hReferenceIdeal := hReferenceIdeal) (hPre_finite := hPre_finite)
    ∧ preserves_DownKernel_DownKernelIdeal
    ∧ algebraic_DownKernelIdeal_DownReferenceIdeal (hDownKernelIdeal := hDownKernelIdeal) (hDownReferenceIdeal := hDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_WoKernel_WoKernelIdeal
    ∧ algebraic_WoKernelIdeal_WoReferenceIdeal (hWoKernelIdeal := hWoKernelIdeal) (hWoReferenceIdeal := hWoReferenceIdeal)
    ∧ preserves_WqKernel_WqKernelIdeal
    ∧ algebraic_WqKernelIdeal_WqReferenceIdeal (hWqKernelIdeal := hWqKernelIdeal) (hWqReferenceIdeal := hWqReferenceIdeal)
    ∧ preserves_InKernel_InKernelIdeal
    ∧ algebraic_InKernelIdeal_InReferenceIdeal (hInKernelIdeal := hInKernelIdeal) (hInReferenceIdeal := hInReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_XaKernel_XaKernelIdeal
    ∧ algebraic_XaKernelIdeal_XaReferenceIdeal_pre_finite_xattn (hXaKernelIdeal := hXaKernelIdeal) (hXaReferenceIdeal := hXaReferenceIdeal) (hPre_finite_xattn := hPre_finite_xattn)
-- ==== Pre_finite.lean ====
abbrev S8192x1024 : Shape := ⟨2, ![8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x3x5632 : S_.BroadcastsInDim S1x3x5632 (![] : Fin 0 → Fin S1x3x5632.rank)
  bcast_S_S1x5632 : S_.BroadcastsInDim S1x5632 (![] : Fin 0 → Fin S1x5632.rank)
  bcast_S_S1x2816x1024 : S_.BroadcastsInDim S1x2816x1024 (![] : Fin 0 → Fin S1x2816x1024.rank)

variable [Facts]

def fn_part1 {F : FTy → Type} [FloatOps F] (main_arg6 : FVec F S1x2816x1024 .f32) (main_v2 : IVec S8192x1024 1) (main_v5 : IVec S8192x1024 1) (main_v8 : IVec S1x1024 1) (main_v11 : IVec S1x1024x5632 1) (main_v14 : IVec S1x3x5632 1) (main_v17 : IVec S1x5632 1) : IVec S8192x1024 1 × IVec S8192x1024 1 × IVec S1x1024 1 × IVec S1x1024x5632 1 × IVec S1x3x5632 1 × IVec S1x5632 1 × IVec S1x2816x1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1x1024 .f32) (main_arg3 : FVec F S1x1024x5632 .f32) (main_arg4 : FVec F S1x3x5632 .f32) (main_arg5 : FVec F S1x5632 .f32) (main_arg6 : FVec F S1x2816x1024 .f32) : IVec S8192x1024 1 × IVec S8192x1024 1 × IVec S1x1024 1 × IVec S1x1024x5632 1 × IVec S1x3x5632 1 × IVec S1x5632 1 × IVec S1x2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5632 .f32 := Host.absf main_arg3
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_v12 : FVec F S1x3x5632 .f32 := Host.absf main_arg4
  let main_cst_3 : FVec F S_ .f32 := constant S_ .f32 0x7F800000#32
  let main_v13 : FVec F S1x3x5632 .f32 := broadcastInDim S1x3x5632 ![] bcast_S_S1x3x5632 main_cst_3
  let main_v14 : IVec S1x3x5632 1 := cmpf .olt main_v12 main_v13
  let main_v15 : FVec F S1x5632 .f32 := Host.absf main_arg5
  let main_cst_4 : FVec F S_ .f32 := constant S_ .f32 0x7F800000#32
  let main_v16 : FVec F S1x5632 .f32 := broadcastInDim S1x5632 ![] bcast_S_S1x5632 main_cst_4
  let main_v17 : IVec S1x5632 1 := cmpf .olt main_v15 main_v16
  fn_part1 (F := F) main_arg6 main_v2 main_v5 main_v8 main_v11 main_v14 main_v17
-- ==== Pre_finite_xattn.lean ====
abbrev S8192x1024 : Shape := ⟨2, ![8192, 1024]⟩
abbrev S256x1024 : Shape := ⟨2, ![256, 1024]⟩
abbrev S1x1024x1024 : Shape := ⟨3, ![1, 1024, 1024]⟩
abbrev S1x256 : Shape := ⟨2, ![1, 256]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S256x1024 : S_.BroadcastsInDim S256x1024 (![] : Fin 0 → Fin S256x1024.rank)
  bcast_S_S1x1024x1024 : S_.BroadcastsInDim S1x1024x1024 (![] : Fin 0 → Fin S1x1024x1024.rank)
  bcast_S_S1x256 : S_.BroadcastsInDim S1x256 (![] : Fin 0 → Fin S1x256.rank)

variable [Facts]

def fn {F : FTy → Type} [FloatOps F] (main_arg0 : FVec F S8192x1024 .f32) (main_arg1 : FVec F S8192x1024 .f32) (main_arg2 : FVec F S256x1024 .f32) (main_arg3 : FVec F S256x1024 .f32) (main_arg4 : FVec F S1x1024x1024 .f32) (main_arg5 : FVec F S1x256 .f32) (main_arg6 : FVec F S1x1024x1024 .f32) (main_arg7 : FVec F S1x1024 .f32) : IVec S8192x1024 1 × IVec S256x1024 1 × IVec S1x1024x1024 1 × IVec S1x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x1024 .f32 := Host.absf main_arg2
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1x1024x1024 .f32 := Host.absf main_arg4
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x256 .f32 := Host.absf main_arg5
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  (main_v2, main_v5, main_v8, main_v11)
-- ==== Kernel.lean ====
abbrev S8192x1024 : Shape := ⟨2, ![8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S3x5632 : Shape := ⟨2, ![3, 5632]⟩
abbrev S5632 : Shape := ⟨1, ![5632]⟩
abbrev S2x5632 : Shape := ⟨2, ![2, 5632]⟩
abbrev S8194x5632 : Shape := ⟨2, ![8194, 5632]⟩
abbrev S8192x2816 : Shape := ⟨2, ![8192, 2816]⟩
abbrev S8192x4x704 : Shape := ⟨3, ![8192, 4, 704]⟩
abbrev S4x8192x704 : Shape := ⟨3, ![4, 8192, 704]⟩
abbrev S8x8192x704 : Shape := ⟨3, ![8, 8192, 704]⟩
abbrev S5632x1024 : Shape := ⟨2, ![5632, 1024]⟩
abbrev S8x704x1024 : Shape := ⟨3, ![8, 704, 1024]⟩
abbrev S3x8x704 : Shape := ⟨3, ![3, 8, 704]⟩
abbrev S8x3x704 : Shape := ⟨3, ![8, 3, 704]⟩
abbrev S2x4x3x704 : Shape := ⟨4, ![2, 4, 3, 704]⟩
abbrev S2816x1024 : Shape := ⟨2, ![2816, 1024]⟩
abbrev S4x704x1024 : Shape := ⟨3, ![4, 704, 1024]⟩
abbrev S8192x8x704 : Shape := ⟨3, ![8192, 8, 704]⟩
abbrev S2x4x8x704 : Shape := ⟨4, ![2, 4, 8, 704]⟩
abbrev S8x1024 : Shape := ⟨2, ![8, 1024]⟩
abbrev S256x1024 : Shape := ⟨2, ![256, 1024]⟩
abbrev S8x256x704 : Shape := ⟨3, ![8, 256, 704]⟩
abbrev S8x8x704 : Shape := ⟨3, ![8, 8, 704]⟩
abbrev S8x704 : Shape := ⟨2, ![8, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S264x704 : Shape := ⟨2, ![264, 704]⟩
abbrev S1x1x3x704 : Shape := ⟨4, ![1, 1, 3, 704]⟩
abbrev S3x704 : Shape := ⟨2, ![3, 704]⟩
abbrev S1x704 : Shape := ⟨2, ![1, 704]⟩
abbrev S704 : Shape := ⟨1, ![704]⟩
abbrev S1x1x8x704 : Shape := ⟨4, ![1, 1, 8, 704]⟩
abbrev S256 : Shape := ⟨1, ![256]⟩
abbrev S256x1 : Shape := ⟨2, ![256, 1]⟩

abbrev nBuf : Space → Nat
  | .hbm => 128
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x5632, .f32⟩
  | .hbm, ⟨25, _⟩ => ⟨S8192x5632, .f32⟩
  | .hbm, ⟨26, _⟩ => ⟨S3x5632, .f32⟩
  | .hbm, ⟨27, _⟩ => ⟨S5632, .f32⟩
  | .hbm, ⟨28, _⟩ => ⟨S_, .f32⟩
  | .hbm, ⟨29, _⟩ => ⟨S2x5632, .f32⟩
  | .hbm, ⟨30, _⟩ => ⟨S8194x5632, .f32⟩
  | .hbm, ⟨31, _⟩ => ⟨S8192x5632, .f32⟩
  | .hbm, ⟨32, _⟩ => ⟨S1x5632, .f32⟩
  | .hbm, ⟨33, _⟩ => ⟨S5632, .f32⟩
  | .hbm, ⟨34, _⟩ => ⟨S1x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S1x5632, .f32⟩
  | .hbm, ⟨39, _⟩ => ⟨S5632, .f32⟩
  | .hbm, ⟨40, _⟩ => ⟨S1x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S1x5632, .f32⟩
  | .hbm, ⟨46, _⟩ => ⟨S5632, .f32⟩
  | .hbm, ⟨47, _⟩ => ⟨S1x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S1x5632, .f32⟩
  | .hbm, ⟨52, _⟩ => ⟨S8192x5632, .f32⟩
  | .hbm, ⟨53, _⟩ => ⟨S8192x5632, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S_, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S_, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S_, .f32⟩
  | .hbm, ⟨78, _⟩ => ⟨S8192x2816, .f32⟩
  | .hbm, ⟨79, _⟩ => ⟨S8192x2816, .f32⟩
  | .hbm, ⟨80, _⟩ => ⟨S_, .f32⟩
  | .hbm, ⟨81, _⟩ => ⟨S8192x2816, .f32⟩
  | .hbm, ⟨82, _⟩ => ⟨S8192x2816, .f32⟩
  | .hbm, ⟨83, _⟩ => ⟨S8192x2816, .f32⟩
  | .hbm, ⟨84, _⟩ => ⟨S8192x2816, .f32⟩
  | .hbm, ⟨85, _⟩ => ⟨S_, .f32⟩
  | .hbm, ⟨86, _⟩ => ⟨S8192x2816, .f32⟩
  | .hbm, ⟨87, _⟩ => ⟨S8192x2816, .f32⟩
  | .hbm, ⟨88, _⟩ => ⟨S8192x2816, .f32⟩
  | .hbm, ⟨89, _⟩ => ⟨S8192x2816, .f32⟩
  | .hbm, ⟨90, _⟩ => ⟨S8192x2816, .f32⟩
  | .hbm, ⟨91, _⟩ => ⟨S_, .f32⟩
  | .hbm, ⟨92, _⟩ => ⟨S8192x2816, .f32⟩
  | .hbm, ⟨93, _⟩ => ⟨S8192x2816, .f32⟩
  | .hbm, ⟨94, _⟩ => ⟨S8192x2816, .f32⟩
  | .hbm, ⟨95, _⟩ => ⟨S_, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S_, .f32⟩
  | .hbm, ⟨100, _⟩ => ⟨S8192x2816, .f32⟩
  | .hbm, ⟨101, _⟩ => ⟨S8192x2816, .f32⟩
  | .hbm, ⟨102, _⟩ => ⟨S8192x2816, .f32⟩
  | .hbm, ⟨103, _⟩ => ⟨S8192x2816, .f32⟩
  | .hbm, ⟨104, _⟩ => ⟨S8192x4x704, .f32⟩
  | .hbm, ⟨105, _⟩ => ⟨S4x8192x704, .f32⟩
  | .hbm, ⟨106, _⟩ => ⟨S8192x4x704, .f32⟩
  | .hbm, ⟨107, _⟩ => ⟨S4x8192x704, .f32⟩
  | .hbm, ⟨108, _⟩ => ⟨S8x8192x704, .f32⟩
  | .hbm, ⟨109, _⟩ => ⟨S8x8192x704, .bf16⟩
  | .hbm, ⟨110, _⟩ => ⟨S1024x5632, .f32⟩
  | .hbm, ⟨111, _⟩ => ⟨S5632x1024, .f32⟩
  | .hbm, ⟨112, _⟩ => ⟨S5632x1024, .bf16⟩
  | .hbm, ⟨113, _⟩ => ⟨S8x704x1024, .bf16⟩
  | .hbm, ⟨114, _⟩ => ⟨S3x5632, .f32⟩
  | .hbm, ⟨115, _⟩ => ⟨S3x8x704, .f32⟩
  | .hbm, ⟨116, _⟩ => ⟨S8x3x704, .f32⟩
  | .hbm, ⟨117, _⟩ => ⟨S2x4x3x704, .f32⟩
  | .hbm, ⟨118, _⟩ => ⟨S2816x1024, .f32⟩
  | .hbm, ⟨119, _⟩ => ⟨S2816x1024, .bf16⟩
  | .hbm, ⟨120, _⟩ => ⟨S4x704x1024, .bf16⟩
  | .hbm, ⟨121, _⟩ => ⟨S8192x8x704, .f32⟩
  | .hbm, ⟨122, _⟩ => ⟨S8x8192x704, .f32⟩
  | .hbm, ⟨123, _⟩ => ⟨S8x8192x704, .bf16⟩
  | .hbm, ⟨124, _⟩ => ⟨S8192x1024, .f32⟩
  | .hbm, ⟨125, _⟩ => ⟨S8x8192x704, .bf16⟩
  | .hbm, ⟨126, _⟩ => ⟨S2x4x8x704, .f32⟩
  | .hbm, ⟨127, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x256x704, .bf16⟩
  | .local _ .vmem, ⟨3, _⟩ => ⟨S8x256x704, .bf16⟩
  | .local _ .vmem, ⟨4, _⟩ => ⟨S8x256x704, .bf16⟩
  | .local _ .vmem, ⟨5, _⟩ => ⟨S8x256x704, .bf16⟩
  | .local _ .vmem, ⟨6, _⟩ => ⟨S256x1024, .f32⟩
  | .local _ .vmem, ⟨7, _⟩ => ⟨S256x1024, .f32⟩
  | .local _ .vmem, ⟨8, _⟩ => ⟨S8x704x1024, .bf16⟩
  | .local _ .vmem, ⟨9, _⟩ => ⟨S2x4x3x704, .f32⟩
  | .local _ .vmem, ⟨10, _⟩ => ⟨S4x704x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S8x256x704, .bf16⟩
  | .local _ .vmem, ⟨15, _⟩ => ⟨S8x256x704, .bf16⟩
  | .local _ .vmem, ⟨16, _⟩ => ⟨S2x4x8x704, .f32⟩
  | .local _ .vmem, ⟨17, _⟩ => ⟨S8x1024, .f32⟩
  | .local _ .vmem, ⟨18, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102_0 : Ref sig .tc := ⟨.hbm, 124, rfl⟩
abbrev main_v102_1 : Ref sig .tc := ⟨.hbm, 125, rfl⟩
abbrev main_v102_2 : Ref sig .tc := ⟨.hbm, 126, rfl⟩
abbrev main_v102_3 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x4x8x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S3x5632 : Shape := ⟨2, ![3, 5632]⟩
abbrev S5632 : Shape := ⟨1, ![5632]⟩
abbrev S2x5632 : Shape := ⟨2, ![2, 5632]⟩
abbrev S8194x5632 : Shape := ⟨2, ![8194, 5632]⟩
abbrev S8192x2816 : Shape := ⟨2, ![8192, 2816]⟩
abbrev S2816x1024 : Shape := ⟨2, ![2816, 1024]⟩
abbrev S1024x2816 : Shape := ⟨2, ![1024, 2816]⟩
abbrev S5632x1024 : Shape := ⟨2, ![5632, 1024]⟩
abbrev S4x5632 : Shape := ⟨2, ![4, 5632]⟩
abbrev S8x5632 : Shape := ⟨2, ![8, 5632]⟩
abbrev S8192x8x704 : Shape := ⟨3, ![8192, 8, 704]⟩
abbrev S8x8192x704 : Shape := ⟨3, ![8, 8192, 704]⟩
abbrev S8x8x704 : Shape := ⟨3, ![8, 8, 704]⟩
abbrev S2x4x8x704 : Shape := ⟨4, ![2, 4, 8, 704]⟩
abbrev S8x1024 : Shape := ⟨2, ![8, 1024]⟩

abbrev nBuf : Space → Nat
  | .hbm => 211
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024x5632, .f32⟩
  | 4 => ⟨S1x3x5632, .f32⟩
  | 5 => ⟨S1x5632, .f32⟩
  | 6 => ⟨S1x2816x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1024x5632, .f32⟩
  | 29 => ⟨S8192x5632, .f32⟩
  | 30 => ⟨S3x5632, .f32⟩
  | 31 => ⟨S5632, .f32⟩
  | 32 => ⟨S_, .f32⟩
  | 33 => ⟨S2x5632, .f32⟩
  | 34 => ⟨S8194x5632, .f32⟩
  | 35 => ⟨S_, .f32⟩
  | 36 => ⟨S2x5632, .f32⟩
  | 37 => ⟨S8192x5632, .f32⟩
  | 38 => ⟨S1x5632, .f32⟩
  | 39 => ⟨S5632, .f32⟩
  | 40 => ⟨S1x5632, .f32⟩
  | 41 => ⟨S8192x5632, .f32⟩
  | 42 => ⟨S8192x5632, .f32⟩
  | 43 => ⟨S8192x5632, .f32⟩
  | 44 => ⟨S1x5632, .f32⟩
  | 45 => ⟨S5632, .f32⟩
  | 46 => ⟨S1x5632, .f32⟩
  | 47 => ⟨S8192x5632, .f32⟩
  | 48 => ⟨S8192x5632, .f32⟩
  | 49 => ⟨S8192x5632, .f32⟩
  | 50 => ⟨S8192x5632, .f32⟩
  | 51 => ⟨S1x5632, .f32⟩
  | 52 => ⟨S5632, .f32⟩
  | 53 => ⟨S1x5632, .f32⟩
  | 54 => ⟨S8192x5632, .f32⟩
  | 55 => ⟨S8192x5632, .f32⟩
  | 56 => ⟨S8192x5632, .f32⟩
  | 57 => ⟨S1x5632, .f32⟩
  | 58 => ⟨S8192x5632, .f32⟩
  | 59 => ⟨S8192x5632, .f32⟩
  | 60 => ⟨S8192x2816, .f32⟩
  | 61 => ⟨S8192x2816, .f32⟩
  | 62 => ⟨S8192x2816, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S_, .f32⟩
  | 69 => ⟨S8192x2816, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S8192x2816, .f32⟩
  | 76 => ⟨S_, .f32⟩
  | 77 => ⟨S8192x2816, .f32⟩
  | 78 => ⟨S8192x2816, .f32⟩
  | 79 => ⟨S_, .f32⟩
  | 80 => ⟨S8192x2816, .f32⟩
  | 81 => ⟨S8192x2816, .f32⟩
  | 82 => ⟨S8192x2816, .f32⟩
  | 83 => ⟨S_, .f32⟩
  | 84 => ⟨S8192x2816, .f32⟩
  | 85 => ⟨S8192x2816, .f32⟩
  | 86 => ⟨S_, .f32⟩
  | 87 => ⟨S8192x2816, .f32⟩
  | 88 => ⟨S8192x2816, .f32⟩
  | 89 => ⟨S8192x2816, .f32⟩
  | 90 => ⟨S8192x2816, .f32⟩
  | 91 => ⟨S2816x1024, .f32⟩
  | 92 => ⟨S8192x1024, .f32⟩
  | 93 => ⟨S1024x2816, .f32⟩
  | 94 => ⟨S2816x1024, .f32⟩
  | 95 => ⟨S8192x2816, .f32⟩
  | 96 => ⟨S1x2816x1024, .f32⟩
  | 97 => ⟨S8192x2816, .f32⟩
  | 98 => ⟨S8192x2816, .f32⟩
  | 99 => ⟨S8192x2816, .f32⟩
  | 100 => ⟨S8192x2816, .f32⟩
  | 101 => ⟨S_, .f32⟩
  | 102 => ⟨S8192x2816, .f32⟩
  | 103 => ⟨S8192x2816, .f32⟩
  | 104 => ⟨S8192x2816, .f32⟩
  | 105 => ⟨S_, .f32⟩
  | 106 => ⟨S8192x2816, .f32⟩
  | 107 => ⟨S8192x2816, .f32⟩
  | 108 => ⟨S8192x2816, .f32⟩
  | 109 => ⟨S_, .f32⟩
  | 110 => ⟨S8192x2816, .f32⟩
  | 111 => ⟨S8192x2816, .f32⟩
  | 112 => ⟨S8192x2816, .f32⟩
  | 113 => ⟨S8192x2816, .f32⟩
  | 114 => ⟨S8192x5632, .f32⟩
  | 115 => ⟨S_, .f32⟩
  | 116 => ⟨S5632, .f32⟩
  | 117 => ⟨S1x5632, .f32⟩
  | 118 => ⟨S_, .f32⟩
  | 119 => ⟨S5632, .f32⟩
  | 120 => ⟨S8192x5632, .f32⟩
  | 121 => ⟨S_, .f32⟩
  | 122 => ⟨S5632, .f32⟩
  | 123 => ⟨S1x5632, .f32⟩
  | 124 => ⟨S8192x5632, .f32⟩
  | 125 => ⟨S8192x5632, .f32⟩
  | 126 => ⟨S_, .f32⟩
  | 127 => ⟨S5632, .f32⟩
  | _ => ⟨S8192x1024, .f32⟩

abbrev hbmTy0_1 (i : Nat) : BufTy := match i % 128 with
  | 0 => ⟨S1x5632, .f32⟩
  | 1 => ⟨S_, .f32⟩
  | 2 => ⟨S3x5632, .f32⟩
  | 3 => ⟨S_, .f32⟩
  | 4 => ⟨S8194x5632, .f32⟩
  | 5 => ⟨S8192x5632, .f32⟩
  | 6 => ⟨S_, .f32⟩
  | 7 => ⟨S5632, .f32⟩
  | 8 => ⟨S1x5632, .f32⟩
  | 9 => ⟨S8192x5632, .f32⟩
  | 10 => ⟨S8192x5632, .f32⟩
  | 11 => ⟨S_, .f32⟩
  | 12 => ⟨S5632, .f32⟩
  | 13 => ⟨S1x5632, .f32⟩
  | 14 => ⟨S_, .f32⟩
  | 15 => ⟨S3x5632, .f32⟩
  | 16 => ⟨S3x5632, .f32⟩
  | 17 => ⟨S_, .f32⟩
  | 18 => ⟨S8194x5632, .f32⟩
  | 19 => ⟨S8194x5632, .f32⟩
  | 20 => ⟨S8192x5632, .f32⟩
  | 21 => ⟨S_, .f32⟩
  | 22 => ⟨S5632, .f32⟩
  | 23 => ⟨S1x5632, .f32⟩
  | 24 => ⟨S8192x5632, .f32⟩
  | 25 => ⟨S8192x5632, .f32⟩
  | 26 => ⟨S_, .f32⟩
  | 27 => ⟨S5632, .f32⟩
  | 28 => ⟨S1x5632, .f32⟩
  | 29 => ⟨S_, .f32⟩
  | 30 => ⟨S3x5632, .f32⟩
  | 31 => ⟨S3x5632, .f32⟩
  | 32 => ⟨S_, .f32⟩
  | 33 => ⟨S8194x5632, .f32⟩
  | 34 => ⟨S8194x5632, .f32⟩
  | 35 => ⟨S2x5632, .f32⟩
  | 36 => ⟨S8192x5632, .f32⟩
  | 37 => ⟨S1x5632, .f32⟩
  | 38 => ⟨S1x3x5632, .f32⟩
  | 39 => ⟨S5632x1024, .f32⟩
  | 40 => ⟨S1024x5632, .f32⟩
  | 41 => ⟨S8192x1024, .f32⟩
  | 42 => ⟨S1x1024x5632, .f32⟩
  | 43 => ⟨S8192x1024, .f32⟩
  | 44 => ⟨S_, .f32⟩
  | 45 => ⟨S1024, .f32⟩
  | 46 => ⟨S1x1024, .f32⟩
  | 47 => ⟨S8192x1024, .f32⟩
  | 48 => ⟨S8192x1024, .f32⟩
  | 49 => ⟨S_, .f32⟩
  | 50 => ⟨S1024, .f32⟩
  | 51 => ⟨S8192x1024, .f32⟩
  | 52 => ⟨S_, .f32⟩
  | 53 => ⟨S8192, .f32⟩
  | 54 => ⟨S8192x1, .f32⟩
  | 55 => ⟨S8192x1024, .f32⟩
  | 56 => ⟨S8192x1024, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S1x1024, .f32⟩
  | 69 => ⟨S3x5632, .f32⟩
  | 70 => ⟨S_, .f32⟩
  | 71 => ⟨S4x5632, .f32⟩
  | 72 => ⟨S8x5632, .f32⟩
  | 73 => ⟨S8192x1024, .f32⟩
  | 74 => ⟨S8192x8x704, .f32⟩
  | 75 => ⟨S8x8192x704, .f32⟩
  | 76 => ⟨S8x8192x704, .bf16⟩
  | 77 => ⟨S8x8x704, .f32⟩
  | 78 => ⟨S8x8x704, .f32⟩
  | 79 => ⟨S2x4x8x704, .f32⟩
  | 80 => ⟨S_, .i32⟩
  | 81 => ⟨S_, .f32⟩
  | 82 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_15 : Ref sig .tc := ⟨.hbm, 115, rfl⟩
abbrev main_v92 : Ref sig .tc := ⟨.hbm, 116, rfl⟩
abbrev main_v93 : Ref sig .tc := ⟨.hbm, 117, rfl⟩
abbrev main_cst_16 : Ref sig .tc := ⟨.hbm, 118, rfl⟩
abbrev main_v94 : Ref sig .tc := ⟨.hbm, 119, rfl⟩
abbrev main_v95 : Ref sig .tc := ⟨.hbm, 120, rfl⟩
abbrev main_cst_17 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_18 : Ref sig .tc := ⟨.hbm, 126, rfl⟩
abbrev main_v100 : Ref sig .tc := ⟨.hbm, 127, rfl⟩
abbrev main_v101 : Ref sig .tc := ⟨.hbm, 128, rfl⟩
abbrev main_cst_19 : Ref sig .tc := ⟨.hbm, 129, rfl⟩
abbrev main_v102 : Ref sig .tc := ⟨.hbm, 130, rfl⟩
abbrev main_cst_20 : Ref sig .tc := ⟨.hbm, 131, rfl⟩
abbrev main_v103 : Ref sig .tc := ⟨.hbm, 132, rfl⟩
abbrev main_v104 : Ref sig .tc := ⟨.hbm, 133, rfl⟩
abbrev main_cst_21 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_22 : Ref sig .tc := ⟨.hbm, 139, rfl⟩
abbrev main_v109 : Ref sig .tc := ⟨.hbm, 140, rfl⟩
abbrev main_v110 : Ref sig .tc := ⟨.hbm, 141, rfl⟩
abbrev main_cst_23 : Ref sig .tc := ⟨.hbm, 142, rfl⟩
abbrev main_v111 : Ref sig .tc := ⟨.hbm, 143, rfl⟩
abbrev main_v112 : Ref sig .tc := ⟨.hbm, 144, rfl⟩
abbrev main_cst_24 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_25 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_26 : Ref sig .tc := ⟨.hbm, 154, rfl⟩
abbrev main_v120 : Ref sig .tc := ⟨.hbm, 155, rfl⟩
abbrev main_v121 : Ref sig .tc := ⟨.hbm, 156, rfl⟩
abbrev main_cst_27 : Ref sig .tc := ⟨.hbm, 157, rfl⟩
abbrev main_v122 : Ref sig .tc := ⟨.hbm, 158, rfl⟩
abbrev main_v123 : Ref sig .tc := ⟨.hbm, 159, rfl⟩
abbrev main_cst_28 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_29 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_30 : Ref sig .tc := ⟨.hbm, 177, rfl⟩
abbrev main_v139 : Ref sig .tc := ⟨.hbm, 178, rfl⟩
abbrev main_v140 : Ref sig .tc := ⟨.hbm, 179, rfl⟩
abbrev main_cst_31 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_32 : Ref sig .tc := ⟨.hbm, 186, rfl⟩
abbrev main_v146 : Ref sig .tc := ⟨.hbm, 187, rfl⟩
abbrev main_v147 : Ref sig .tc := ⟨.hbm, 188, rfl⟩
abbrev main_cst_33 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_34 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_c : Ref sig .tc := ⟨.hbm, 208, rfl⟩
abbrev main_call0_v0 : Ref sig .tc := ⟨.hbm, 209, rfl⟩
abbrev main_v165 : Ref sig .tc := ⟨.hbm, 210, rfl⟩

abbrev nD : Nat := 1
abbrev τ : Topo := Topo.v7x

variable {F : FTy → Type} [FloatOps F]
-- ==== DownKernel.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpKernel.lean ====
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8x704x1024 : Shape := ⟨3, ![8, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x8x704, .f32⟩
  | .hbm, ⟨3, _⟩ => ⟨S8x8192x704, .f32⟩
  | .hbm, ⟨4, _⟩ => ⟨S8x8192x704, .bf16⟩
  | .hbm, ⟨5, _⟩ => ⟨S8192x1024, .bf16⟩
  | .hbm, ⟨6, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WoKernel.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoReferenceIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WqKernel.lean ====
abbrev S8192x1024 : Shape := ⟨2, ![8192, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WqReferenceIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InKernel.lean ====
abbrev S8192x1024 : Shape := ⟨2, ![8192, 1024]⟩
abbrev S8192x1792 : Shape := ⟨2, ![8192, 1792]⟩
abbrev S1x1792x1024 : Shape := ⟨3, ![1, 1792, 1024]⟩
abbrev S2048x1792 : Shape := ⟨2, ![2048, 1792]⟩
abbrev S2048x1024 : Shape := ⟨2, ![2048, 1024]⟩
abbrev S1792x1024 : Shape := ⟨2, ![1792, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S8192x1792, .bf16⟩
  | .hbm, ⟨3, _⟩ => ⟨S8192x1024, .bf16⟩
  | .hbm, ⟨4, _⟩ => ⟨S1x1792x1024, .bf16⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S2048x1024, .bf16⟩
  | .local _ .vmem, ⟨4, _⟩ => ⟨S1x1792x1024, .bf16⟩
  | .local _ .vmem, ⟨5, _⟩ => ⟨S1792x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== InReferenceIdeal.lean ====
abbrev S8192x1024 : Shape := ⟨2, ![8192, 1024]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩
abbrev S1x1792x1024 : Shape := ⟨3, ![1, 1792, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S_, .f32⟩
  | .hbm, ⟨3, _⟩ => ⟨S1024x1792, .f32⟩
  | .hbm, ⟨4, _⟩ => ⟨S8192x1792, .f32⟩
  | .hbm, ⟨5, _⟩ => ⟨S1792x1024, .f32⟩
  | .hbm, ⟨6, _⟩ => ⟨S1024x1792, .f32⟩
  | .hbm, ⟨7, _⟩ => ⟨S1792x1024, .f32⟩
  | .hbm, ⟨8, _⟩ => ⟨S1x1792x1024, .f32⟩
  | .hbm, ⟨9, _⟩ => ⟨S1x1792x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FwdKernel.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S5632x1024 : Shape := ⟨2, ![5632, 1024]⟩
abbrev S8x704x1024 : Shape := ⟨3, ![8, 704, 1024]⟩
abbrev S3x5632 : Shape := ⟨2, ![3, 5632]⟩
abbrev S3x8x704 : Shape := ⟨3, ![3, 8, 704]⟩
abbrev S8x3x704 : Shape := ⟨3, ![8, 3, 704]⟩
abbrev S2x4x3x704 : Shape := ⟨4, ![2, 4, 3, 704]⟩
abbrev S2x4x1x704 : Shape := ⟨4, ![2, 4, 1, 704]⟩
abbrev S2816x1024 : Shape := ⟨2, ![2816, 1024]⟩
abbrev S4x704x1024 : Shape := ⟨3, ![4, 704, 1024]⟩
abbrev S8x8192x704 : Shape := ⟨3, ![8, 8192, 704]⟩
abbrev S4x8192x704 : Shape := ⟨3, ![4, 8192, 704]⟩
abbrev S8x128 : Shape := ⟨2, ![8, 128]⟩
abbrev S256x1024 : Shape := ⟨2, ![256, 1024]⟩
abbrev S8x256x704 : Shape := ⟨3, ![8, 256, 704]⟩
abbrev S4x256x704 : Shape := ⟨3, ![4, 256, 704]⟩
abbrev S1x1024 : Shape := ⟨2, ![1, 1024]⟩
abbrev S8x8x704 : Shape := ⟨3, ![8, 8, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S8x704 : Shape := ⟨2, ![8, 704]⟩
abbrev S264x704 : Shape := ⟨2, ![264, 704]⟩
abbrev S1x1x3x704 : Shape := ⟨4, ![1, 1, 3, 704]⟩
abbrev S3x704 : Shape := ⟨2, ![3, 704]⟩
abbrev S1x704 : Shape := ⟨2, ![1, 704]⟩
abbrev S1x1x1x704 : Shape := ⟨4, ![1, 1, 1, 704]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 25
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S8x704x1024, .bf16⟩
  | .hbm, ⟨11, _⟩ => ⟨S3x5632, .f32⟩
  | .hbm, ⟨12, _⟩ => ⟨S3x8x704, .f32⟩
  | .hbm, ⟨13, _⟩ => ⟨S8x3x704, .f32⟩
  | .hbm, ⟨14, _⟩ => ⟨S2x4x3x704, .f32⟩
  | .hbm, ⟨15, _⟩ => ⟨S2x4x1x704, .f32⟩
  | .hbm, ⟨16, _⟩ => ⟨S2816x1024, .f32⟩
  | .hbm, ⟨17, _⟩ => ⟨S2816x1024, .bf16⟩
  | .hbm, ⟨18, _⟩ => ⟨S4x704x1024, .bf16⟩
  | .hbm, ⟨19, _⟩ => ⟨S8192x1024, .bf16⟩
  | .hbm, ⟨20, _⟩ => ⟨S8x8192x704, .bf16⟩
  | .hbm, ⟨21, _⟩ => ⟨S4x8192x704, .bf16⟩
  | .hbm, ⟨22, _⟩ => ⟨S8x8192x704, .bf16⟩
  | .hbm, ⟨23, _⟩ => ⟨S8192x1024, .f32⟩
  | .hbm, ⟨24, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x704x1024, .bf16⟩
  | .local _ .vmem, ⟨7, _⟩ => ⟨S2x4x3x704, .f32⟩
  | .local _ .vmem, ⟨8, _⟩ => ⟨S2x4x1x704, .f32⟩
  | .local _ .vmem, ⟨9, _⟩ => ⟨S4x704x1024, .bf16⟩
  | .local _ .vmem, ⟨10, _⟩ => ⟨S8x256x704, .bf16⟩
  | .local _ .vmem, ⟨11, _⟩ => ⟨S8x256x704, .bf16⟩
  | .local _ .vmem, ⟨12, _⟩ => ⟨S4x256x704, .bf16⟩
  | .local _ .vmem, ⟨13, _⟩ => ⟨S4x256x704, .bf16⟩
  | .local _ .vmem, ⟨14, _⟩ => ⟨S8x256x704, .bf16⟩
  | .local _ .vmem, ⟨15, _⟩ => ⟨S8x256x704, .bf16⟩
  | .local _ .vmem, ⟨16, _⟩ => ⟨S256x1024, .f32⟩
  | .local _ .vmem, ⟨17, _⟩ => ⟨S256x1024, .f32⟩
  | .local _ .vmem, ⟨18, _⟩ => ⟨S8x128, .f32⟩
  | .local _ .vmem, ⟨19, _⟩ => ⟨S1x1024, .f32⟩
  | .local _ .vmem, ⟨20, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v455 : BitVec 1 := Scalar.cmpi .eq arg0 c31_i32
  let v456 : BitVec 32 := Scalar.extui v455
  let c0_i32_269 : BitVec 32 := 0#32
  let v457 : BitVec 1 := Scalar.cmpi .ne v456 c0_i32_269
  v457

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4x1x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FwdReferenceIdeal.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S8192x2816 : Shape := ⟨2, ![8192, 2816]⟩
abbrev S2816x1024 : Shape := ⟨2, ![2816, 1024]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1024x5632, .f32⟩
  | .hbm, ⟨8, _⟩ => ⟨S8192x5632, .f32⟩
  | .hbm, ⟨9, _⟩ => ⟨S3x5632, .f32⟩
  | .hbm, ⟨10, _⟩ => ⟨S5632, .f32⟩
  | .hbm, ⟨11, _⟩ => ⟨S_, .f32⟩
  | .hbm, ⟨12, _⟩ => ⟨S2x5632, .f32⟩
  | .hbm, ⟨13, _⟩ => ⟨S8194x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S8192x5632, .f32⟩
  | .hbm, ⟨36, _⟩ => ⟨S8192x5632, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S2816x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x8x704, .f32⟩
  | .hbm, ⟨62, _⟩ => ⟨S8x8192x704, .f32⟩
  | .hbm, ⟨63, _⟩ => ⟨S8x8192x704, .bf16⟩
  | .hbm, ⟨64, _⟩ => ⟨S8192x4x704, .f32⟩
  | .hbm, ⟨65, _⟩ => ⟨S4x8192x704, .f32⟩
  | .hbm, ⟨66, _⟩ => ⟨S4x8192x704, .bf16⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== XaKernel.lean ====
abbrev S8192x1024 : Shape := ⟨2, ![8192, 1024]⟩
abbrev S256x1024 : Shape := ⟨2, ![256, 1024]⟩
abbrev S1x1024x1024 : Shape := ⟨3, ![1, 1024, 1024]⟩
abbrev S1x256 : Shape := ⟨2, ![1, 256]⟩
abbrev S1x1024 : Shape := ⟨2, ![1, 1024]⟩
abbrev S1x1x1x256 : Shape := ⟨4, ![1, 1, 1, 256]⟩
abbrev S1x1x4x256 : Shape := ⟨4, ![1, 1, 4, 256]⟩
abbrev S1024x1024 : Shape := ⟨2, ![1024, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 22
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S256x1024, .f32⟩
  | .hbm, ⟨3, _⟩ => ⟨S256x1024, .f32⟩
  | .hbm, ⟨4, _⟩ => ⟨S1x1024x1024, .f32⟩
  | .hbm, ⟨5, _⟩ => ⟨S1x256, .f32⟩
  | .hbm, ⟨6, _⟩ => ⟨S1x1024x1024, .f32⟩
  | .hbm, ⟨7, _⟩ => ⟨S1x1024, .f32⟩
  | .hbm, ⟨8, _⟩ => ⟨S1x1x1x256, .f32⟩
  | .hbm, ⟨9, _⟩ => ⟨S1x1x4x256, .f32⟩
  | .hbm, ⟨10, _⟩ => ⟨S1x1024, .f32⟩
  | .hbm, ⟨11, _⟩ => ⟨S8192x1024, .bf16⟩
  | .hbm, ⟨12, _⟩ => ⟨S1024x1024, .f32⟩
  | .hbm, ⟨13, _⟩ => ⟨S1024x1024, .bf16⟩
  | .hbm, ⟨14, _⟩ => ⟨S256x1024, .bf16⟩
  | .hbm, ⟨15, _⟩ => ⟨S256x1024, .bf16⟩
  | .hbm, ⟨16, _⟩ => ⟨S1024x1024, .f32⟩
  | .hbm, ⟨17, _⟩ => ⟨S1024x1024, .bf16⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== XaReferenceIdeal.lean ====
abbrev S8192x1024 : Shape := ⟨2, ![8192, 1024]⟩
abbrev S256x1024 : Shape := ⟨2, ![256, 1024]⟩
abbrev S1x1024x1024 : Shape := ⟨3, ![1, 1024, 1024]⟩
abbrev S1x256 : Shape := ⟨2, ![1, 256]⟩
abbrev S1x1024 : Shape := ⟨2, ![1, 1024]⟩
abbrev S1024x1024 : Shape := ⟨2, ![1024, 1024]⟩
abbrev S8192x4x256 : Shape := ⟨3, ![8192, 4, 256]⟩
abbrev S256 : Shape := ⟨1, ![256]⟩
abbrev S_ : Shape := ⟨0, ![]⟩
abbrev S8192x4 : Shape := ⟨2, ![8192, 4]⟩
abbrev S8192x4x1 : Shape := ⟨3, ![8192, 4, 1]⟩
abbrev S1x1x256 : Shape := ⟨3, ![1, 1, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S1024 : Shape := ⟨1, ![1024]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S256x1024, .f32⟩
  | .hbm, ⟨3, _⟩ => ⟨S256x1024, .f32⟩
  | .hbm, ⟨4, _⟩ => ⟨S1x1024x1024, .f32⟩
  | .hbm, ⟨5, _⟩ => ⟨S1x256, .f32⟩
  | .hbm, ⟨6, _⟩ => ⟨S1x1024x1024, .f32⟩
  | .hbm, ⟨7, _⟩ => ⟨S1x1024, .f32⟩
  | .hbm, ⟨8, _⟩ => ⟨S1024x1024, .f32⟩
  | .hbm, ⟨9, _⟩ => ⟨S8192x1024, .f32⟩
  | .hbm, ⟨10, _⟩ => ⟨S8192x4x256, .f32⟩
  | .hbm, ⟨11, _⟩ => ⟨S256, .f32⟩
  | .hbm, ⟨12, _⟩ => ⟨S8192x4x256, .f32⟩
  | .hbm, ⟨13, _⟩ => ⟨S_, .f32⟩
  | .hbm, ⟨14, _⟩ => ⟨S8192x4, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S_, .f32⟩
  | .hbm, ⟨20, _⟩ => ⟨S8192x4x1, .f32⟩
  | .hbm, ⟨21, _⟩ => ⟨S8192x4x1, .f32⟩
  | .hbm, ⟨22, _⟩ => ⟨S8192x4x1, .f32⟩
  | .hbm, ⟨23, _⟩ => ⟨S8192x4x256, .f32⟩
  | .hbm, ⟨24, _⟩ => ⟨S8192x4x256, .f32⟩
  | .hbm, ⟨25, _⟩ => ⟨S1x1x256, .f32⟩
  | .hbm, ⟨26, _⟩ => ⟨S8192x4x256, .f32⟩
  | .hbm, ⟨27, _⟩ => ⟨S8192x4x256, .f32⟩
  | .hbm, ⟨28, _⟩ => ⟨S256x4x256, .f32⟩
  | .hbm, ⟨29, _⟩ => ⟨S4x8192x256, .f32⟩
  | .hbm, ⟨30, _⟩ => ⟨S_, .f32⟩
  | .hbm, ⟨31, _⟩ => ⟨S4x8192x256, .f32⟩
  | .hbm, ⟨32, _⟩ => ⟨S4x8192x256, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S256x4x256, .f32⟩
  | .hbm, ⟨48, _⟩ => ⟨S4x256x8192, .f32⟩
  | .hbm, ⟨49, _⟩ => ⟨S8192x4x256, .f32⟩
  | .hbm, ⟨50, _⟩ => ⟨S8192x1024, .f32⟩
  | .hbm, ⟨51, _⟩ => ⟨S1024x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Proof.Ffn.Host.lean ====
module

public import proofs.«01_k».proof.Proof.Gen.KernelIdeal.Frame
public import proofs.«01_k».proof.Proof.Gen.ReferenceIdeal.Read
public import Idealize.ShloMosaic.Lib.Claim

@[expose] public section

set_option maxRecDepth 16384

noncomputable section

namespace Cert.Ffn

open Idealize.ShloMosaic Idealize.ShloMosaic.TcCoe Cert.KernelIdeal Cert.KernelIdeal.Gen Idealize.SL.Sem

/-! The arrays that the host prepares for the kernel. Its forward lines are the reference's, so they are named by the reference's terms. -/

open Cert.ReferenceIdeal.Read

/-- The up projection, as the kernel's blocks of columns have it. -/
def hUp (x3 : FVec Ideal S1x1024x5632 .f32) : FVec Ideal S8x704x1024 .bf16 :=
  shapeCast S8x704x1024 (truncf .bf16 (transpose S5632x1024 [1, 0] (shapeCast S1024x5632 x3 shapeCasts_S1x1024x5632_S1024x5632)
    transposes_S1024x5632_S5632x1024_1_0) bitsLt_bf16_f32) shapeCasts_S5632x1024_S8x704x1024

/-- The convolution's taps, in blocks of columns. -/
def hTaps (x4 : FVec Ideal S1x3x5632 .f32) : FVec Ideal S2x4x3x704 .f32 :=
  shapeCast S2x4x3x704 (transpose S8x3x704 [1, 0, 2] (shapeCast S3x8x704 (shapeCast S3x5632 x4 shapeCasts_S1x3x5632_S3x5632)
    shapeCasts_S3x5632_S3x8x704) transposes_S3x8x704_S8x3x704_1_0_2) shapeCasts_S8x3x704_S2x4x3x704

/-- The down projection, in blocks of rows. -/
def hDown (x6 : FVec Ideal S1x2816x1024 .f32) : FVec Ideal S4x704x1024 .bf16 :=
  shapeCast S4x704x1024 (truncf .bf16 (shapeCast S2816x1024 x6 shapeCasts_S1x2816x1024_S2816x1024) bitsLt_bf16_f32)
    shapeCasts_S2816x1024_S4x704x1024

/-- The up projection's result, in blocks of columns. -/
def hCols (a : FVec Ideal S8192x5632 .f32) : FVec Ideal S8x8192x704 .bf16 :=
  truncf .bf16 (transpose S8x8192x704 [1, 0, 2] (shapeCast S8192x8x704 a shapeCasts_S8192x5632_S8192x8x704)
    transposes_S8192x8x704_S8x8192x704_1_0_2) bitsLt_bf16_f32

/-- A half's factors, in blocks of columns. -/
def hHalf (a : FVec Ideal S8192x2816 .f32) : FVec Ideal S4x8192x704 .f32 :=
  transpose S4x8192x704 [1, 0, 2] (shapeCast S8192x4x704 a shapeCasts_S8192x2816_S8192x4x704)
    transposes_S8192x4x704_S4x8192x704_1_0_2

/-- The two halves' factors, one after the other. -/
def hBoth (u g : FVec Ideal S8192x2816 .f32) : FVec Ideal S8x8192x704 .bf16 :=
  truncf .bf16 (concatenate S8x8192x704 0 [⟨S4x8192x704, hHalf u⟩, ⟨S4x8192x704, hHalf g⟩]
    concatenates_S4x8192x704_S4x8192x704_S8x8192x704_d0) bitsLt_bf16_f32

/-- A constant over a half. -/
def hConst (w : BitVec 32) : FVec Ideal S8192x2816 .f32 := broadcastInDim S8192x2816 ![] bcast_S_S8192x2816 (constant S_ .f32 w)

/-- The gate's inner term. -/
def hInner (g : FVec Ideal S8192x2816 .f32) : FVec Ideal S8192x2816 .f32 :=
  mulf (hConst 0x3F4C422A#32) (addf g (mulf (hConst 0x3D372713#32) (mulf (mulf g g) g)))

/-- Half of one plus the inner term's hyperbolic tangent. -/
def hSig (g : FVec Ideal S8192x2816 .f32) : FVec Ideal S8192x2816 .f32 :=
  mulf (hConst 0x3F000000#32) (addf (hConst 0x3F800000#32) (Host.tanh (hInner g)))

/-- The factor of the up half. -/
def hDu (g : FVec Ideal S8192x2816 .f32) : FVec Ideal S8192x2816 .f32 := mulf (mulf g (hSig g)) (hConst 0x3F800000#32)

/-- The inner term's share of the gate half's factor. -/
def hIn (g u : FVec Ideal S8192x2816 .f32) : FVec Ideal S8192x2816 .f32 :=
  mulf (hConst 0x3F4C422A#32) (mulf (mulf (hConst 0x3F000000#32) (mulf g (mulf (hConst 0x3F800000#32) u)))
    (mulf (addf (hConst 0x3F800000#32) (Host.tanh (hInner g))) (subf (hConst 0x3F800000#32) (Host.tanh (hInner g)))))

/-- The factor of the gate half. -/
def hDg (g u : FVec Ideal S8192x2816 .f32) : FVec Ideal S8192x2816 .f32 :=
  addf (addf (mulf (mulf (hConst 0x3F800000#32) u) (hSig g)) (hIn g u))
    (mulf (mulf (hConst 0x3D372713#32) (hIn g u)) (mulf (hConst 0x40400000#32) (mulf g g)))

variable (m : (ℓ : Loc nD τ sig) → Buf (Elt Ideal) ℓ)

/-- The up projection is as laid out. -/
theorem V_up (c : Dev nD) : V m c main_v91 = hUp (m ((c : Thread nD τ).loc main_arg3)) := by
  entry_read
  rfl

/-- The taps are as laid out. -/
theorem V_taps (c : Dev nD) : V m c main_v95 = hTaps (m ((c : Thread nD τ).loc main_arg4)) := by
  entry_read
  rfl

/-- The down projection is as laid out. -/
theorem V_down (c : Dev nD) : V m c main_v98 = hDown (m ((c : Thread nD τ).loc main_arg6)) := by
  entry_read
  rfl

/-- The up projection's result is the reference's. -/
theorem V_cols (c : Dev nD) : V m c main_v101 = hCols (val_main_v18 (F := Ideal) (m ((c : Thread nD τ).loc main_arg1)) (m ((c : Thread nD τ).loc main_arg2)) (m ((c : Thread nD τ).loc main_arg3))) := by
  entry_read
  rfl

/-- The gate's factors are of the reference's gate and up halves. -/
theorem V_both (c : Dev nD) : V m c main_v87 = hBoth (hDu (val_main_v47 (F := Ideal) (m ((c : Thread nD τ).loc main_arg1)) (m ((c : Thread nD τ).loc main_arg2)) (m ((c : Thread nD τ).loc main_arg3)) (m ((c : Thread nD τ).loc main_arg4)) (m ((c : Thread nD τ).loc main_arg5)))) (hDg (val_main_v47 (F := Ideal) (m ((c : Thread nD τ).loc main_arg1)) (m ((c : Thread nD τ).loc main_arg2)) (m ((c : Thread nD τ).loc main_arg3)) (m ((c : Thread nD τ).loc main_arg4)) (m ((c : Thread nD τ).loc main_arg5)))
    (val_main_v48 (F := Ideal) (m ((c : Thread nD τ).loc main_arg1)) (m ((c : Thread nD τ).loc main_arg2)) (m ((c : Thread nD τ).loc main_arg3)) (m ((c : Thread nD τ).loc main_arg4)) (m ((c : Thread nD τ).loc main_arg5)))) := by
  entry_read
  rfl

end Cert.Ffn
-- ==== Proof.Ffn.HostAt.lean ====
module

public import proofs.«01_k».proof.Proof.Ffn.Host
public import Idealize.ShloMosaic.Lib.Pointwise

@[expose] public section

set_option maxRecDepth 16384

noncomputable section

namespace Cert.Ffn

open Idealize.ShloMosaic Idealize.ShloMosaic.TcCoe Idealize.ShloMosaic.Tactic Cert.KernelIdeal Cert.KernelIdeal.Gen Idealize.SL.Sem

/-! The host's arrays at an entry. -/

/-- The column of the whole width that a shard's column is. -/
def col (j : Fin 8) (n : Fin 704) : Fin 5632 := ⟨j.val * 704 + n.val, by omega⟩

/-- The column of a half that a shard's column is. -/
def half (j : Fin 8) (n : Fin 704) : Fin 2816 := ⟨j.val % 4 * 704 + n.val, by omega⟩

/-- The up projection's entries. -/
theorem hUp_apply (x3 : FVec Ideal S1x1024x5632 .f32) (j : Fin 8) (n : Fin 704) (k : Fin 1024) :
    hUp x3 (ix3 j n k) = x3 (ix3 0 k (col j n)) := by
  unfold hUp col
  pointwise

/-- The taps' entries. -/
theorem hTaps_apply (x4 : FVec Ideal S1x3x5632 .f32) (s : Fin 2) (d : Fin 4) (w : Fin 3) (n : Fin 704) :
    hTaps x4 (ix4 s d w n) = x4 (ix3 0 w (col ⟨s.val * 4 + d.val, by omega⟩ n)) := by
  unfold hTaps col
  pointwise

/-- The down projection's entries. -/
theorem hDown_apply (x6 : FVec Ideal S1x2816x1024 .f32) (d : Fin 4) (n : Fin 704) (k : Fin 1024) :
    hDown x6 (ix3 d n k) = x6 (ix3 0 ⟨d.val * 704 + n.val, by omega⟩ k) := by
  unfold hDown
  pointwise

/-- The up projection's result's entries. -/
theorem hCols_apply (a : FVec Ideal S8192x5632 .f32) (j : Fin 8) (R : Fin 8192) (n : Fin 704) :
    hCols a (ix3 j R n) = a (ix2 R (col j n)) := by
  unfold hCols col
  pointwise

/-- The factors' entries: the up half's first. -/
theorem hBoth_apply (u g : FVec Ideal S8192x2816 .f32) (e : Fin 8) (R : Fin 8192) (n : Fin 704) :
    hBoth u g (ix3 e R n) = if e.val < 4 then u (ix2 R (half e n)) else g (ix2 R (half e n)) := by
  unfold hBoth hHalf half
  pointwise
  split
  · congr 2
    exact Fin.ext (by show e.val * 704 + n.val = e.val % 4 * 704 + n.val; omega)
  · congr 2
    exact Fin.ext (by show (e.val - 4) * 704 + n.val = e.val % 4 * 704 + n.val; omega)

/-- The gate's inner term of a number. -/
def sInner (g : EReal) : EReal := Ideal.ofBits .f32 0x3F4C422A#32 * (g + Ideal.ofBits .f32 0x3D372713#32 * (g * g * g))

/-- Half of one plus its hyperbolic tangent. -/
def sSig (g : EReal) : EReal := Ideal.ofBits .f32 0x3F000000#32 * (Ideal.ofBits .f32 0x3F800000#32 + Ideal.tanh (sInner g))

/-- The inner term's share of the gate's gradient, `w` the gradient of the gated product's first factor. -/
def sIn (g w : EReal) : EReal :=
  Ideal.ofBits .f32 0x3F4C422A#32 * (Ideal.ofBits .f32 0x3F000000#32 * (g * w)
    * ((Ideal.ofBits .f32 0x3F800000#32 + Ideal.tanh (sInner g)) * (Ideal.ofBits .f32 0x3F800000#32 - Ideal.tanh (sInner g))))

/-- The gate's gradient. -/
def sDg (g w : EReal) : EReal :=
  w * sSig g + sIn g w + Ideal.ofBits .f32 0x3D372713#32 * sIn g w * (Ideal.ofBits .f32 0x40400000#32 * (g * g))

/-- The up half's factor at an entry. -/
theorem hDu_apply (g : FVec Ideal S8192x2816 .f32) (i : S8192x2816.Idx) :
    hDu g i = g i * sSig (g i) * Ideal.ofBits .f32 0x3F800000#32 := rfl

/-- The gate half's factor at an entry. -/
theorem hDg_apply (g u : FVec Ideal S8192x2816 .f32) (i : S8192x2816.Idx) :
    hDg g u i = sDg (g i) (Ideal.ofBits .f32 0x3F800000#32 * u i) := rfl

end Cert.Ffn
-- ==== Proof.Ffn.Words.lean ====
module

public import proofs.«01_k».proof.Proof.Gen.KernelIdeal.Skeleton
public import Idealize.ShloMosaic.Lib.Pointwise

@[expose] public section

set_option synthInstance.maxSize 4096

noncomputable section

/-! The vectors one shard of the gated gradient goes through, each named once and read at an index. -/

namespace Cert.Ffn

open Idealize.ShloMosaic Cert.KernelIdeal Cert.KernelIdeal.Gen

/-- The rows of the output gradient times one transposed block of the down projection. -/
def wDu (v3 : FVec Ideal S256x1024 .f32) (v7 : FVec Ideal S1x704x1024 .bf16) : FVec Ideal S256x704 .f32 :=
  matmul dot_S256x1024_S704x1024_S256x704_1_1_0_0_n_n none (truncf .bf16 v3 bitsLt_bf16_f32)
    (shapeCast S704x1024 v7 shapeCasts_S1x704x1024_S704x1024) (constant S256x704 .f32 0x00000000#32)

/-- That product times the gate's saved factor: the gradient of the convolution's result. -/
def wDc (v3 : FVec Ideal S256x1024 .f32) (v7 : FVec Ideal S1x704x1024 .bf16) (v10 : FVec Ideal S1x256x704 .bf16) :
    FVec Ideal S256x704 .f32 :=
  mulf (wDu v3 v7) (extf .f32 (shapeCast S256x704 v10 shapeCasts_S1x256x704_S256x704) bitsLt_bf16_f32)

/-- The block's rows followed by the first rows of the block after it. -/
def wCat (d : FVec Ideal S256x704 .f32) (v14 : FVec Ideal S1x8x704 .f32) : FVec Ideal S264x704 .f32 :=
  concatenate S264x704 0 [⟨S256x704, d⟩, ⟨S8x704, shapeCast S8x704 v14 shapeCasts_S1x8x704_S8x704⟩]
    concatenates_S256x704_S8x704_S264x704_d0

/-- The rows moved up by one. -/
def wRot (x : FVec Ideal S264x704 .f32) : FVec Ideal S264x704 .f32 :=
  dynamicRotate 0 263#32 none x rotates_S264x704_d0

/-- The first 256 rows. -/
def wTop (x : FVec Ideal S264x704 .f32) : FVec Ideal S256x704 .f32 :=
  extractStridedSlice S256x704 ![0, 0] x slices_S264x704_o0_0_S256x704

/-- The first eight rows of a block, as kept for the block before it. -/
def wHead (d : FVec Ideal S256x704 .f32) : FVec Ideal S1x8x704 .f32 :=
  shapeCast S1x8x704 (extractStridedSlice S8x704 ![0, 0] d slices_S256x704_o0_0_S8x704) shapeCasts_S8x704_S1x8x704

/-- The three taps of one shard. -/
def wTaps (v21 : FVec Ideal S1x1x3x704 .f32) : FVec Ideal S3x704 .f32 := shapeCast S3x704 v21 shapeCasts_S1x1x3x704_S3x704

/-- The transposed convolution of the rows. -/
def wDa (c : FVec Ideal S264x704 .f32) (v21 : FVec Ideal S1x1x3x704 .f32) : FVec Ideal S256x704 .bf16 :=
  truncf .bf16 (wTop (addf (addf
    (mulf (broadcastTo S264x704 (extractStridedSlice S1x704 ![2, 0] (wTaps v21) slices_S3x704_o2_0_S1x704) broadcasts_S1x704_S264x704) c)
    (mulf (broadcastTo S264x704 (extractStridedSlice S1x704 ![1, 0] (wTaps v21) slices_S3x704_o1_0_S1x704) broadcasts_S1x704_S264x704) (wRot c)))
    (mulf (broadcastTo S264x704 (extractStridedSlice S1x704 ![0, 0] (wTaps v21) slices_S3x704_o0_0_S1x704) broadcasts_S1x704_S264x704) (wRot (wRot c)))))
    bitsLt_bf16_f32

/-- The gradient of the up projection's result as it is stored. -/
def wDaOut (c : FVec Ideal S264x704 .f32) (v21 : FVec Ideal S1x1x3x704 .f32) : FVec Ideal S1x256x704 .bf16 :=
  shapeCast S1x256x704 (wDa c v21) shapeCasts_S256x704_S1x256x704

/-- One shard's part of the gradient of the normed rows, added to what was there. -/
def wDh (acc : FVec Ideal S256x1024 .f32) (c : FVec Ideal S264x704 .f32) (v21 : FVec Ideal S1x1x3x704 .f32)
    (v44 : FVec Ideal S1x704x1024 .bf16) : FVec Ideal S256x1024 .f32 :=
  addf acc (matmul dot_S256x704_S704x1024_S256x1024_1_0_0_1_n_n none (wDa c v21)
    (shapeCast S704x1024 v44 shapeCasts_S1x704x1024_S704x1024) (constant S256x1024 .f32 0x00000000#32))

/-- The sum of each column. -/
def wCol (x : FVec Ideal S256x704 .f32) : FVec Ideal S1x704 .f32 :=
  shapeCast S1x704 (multiReduction .add [0] S704 x 0x00000000#32 reduces_S256x704_S704 (.inl rfl) rfl) shapeCasts_S704_S1x704

/-- A row of sums put at row `k` of eight. -/
def wRow (k : BitVec 32) (x : FVec Ideal S1x704 .f32) (prev : FVec Ideal S8x704 .f32) : FVec Ideal S8x704 .f32 :=
  select (cmpi .eq (iota .tc S8x704 32 [0] iota_S8x704_d0_w32) (broadcast S8x704 k))
    (broadcastTo S8x704 (shapeCast S1x704 x shapeCasts_S1x704_S1x704) broadcasts_S1x704_S8x704) prev

/-- The four rows of sums of one shard: of the three taps and of the bias. -/
def wStat (c : FVec Ideal S264x704 .f32) (v23 : FVec Ideal S1x256x704 .bf16) : FVec Ideal S8x704 .f32 :=
  have a : FVec Ideal S256x704 .f32 := extf .f32 (shapeCast S256x704 v23 shapeCasts_S1x256x704_S256x704) bitsLt_bf16_f32
  wRow 3#32 (wCol (wTop c)) (wRow 2#32 (wCol (mulf (wTop c) a)) (wRow 1#32 (wCol (mulf (wTop (wRot c)) a))
    (wRow 0#32 (wCol (mulf (wTop (wRot (wRot c))) a)) (broadcast S8x704 (FloatOps.ofBits .f32 0x00000000#32)))))

/-- The running sums of one shard with a block's sums added. -/
def wAcc (c : FVec Ideal S264x704 .f32) (v23 : FVec Ideal S1x256x704 .bf16) (v : FVec Ideal S1x1x8x704 .f32) :
    FVec Ideal S1x1x8x704 .f32 :=
  shapeCast S1x1x8x704 (addf (shapeCast S8x704 v shapeCasts_S1x1x8x704_S8x704) (wStat c v23)) shapeCasts_S8x704_S1x1x8x704

/-- One over the root of each row's mean square. -/
def wInv (x : FVec Ideal S256x1024 .f32) : FVec Ideal S256x1 .f32 :=
  rsqrt (addf (divf (shapeCast S256x1 (multiReduction .add [1] S256 (mulf x x) 0x00000000#32 reduces_S256x1024_S256 (.inl rfl) rfl)
    shapeCasts_S256_S256x1) (broadcast S256x1 (FloatOps.ofBits .f32 0x44800000#32))) (broadcast S256x1 (FloatOps.ofBits .f32 0x358637BD#32)))

/-- The rows over the root of their mean square. -/
def wXh (x : FVec Ideal S256x1024 .f32) : FVec Ideal S256x1024 .f32 := mulf x (broadcastTo S256x1024 (wInv x) broadcasts_S256x1_S256x1024)

/-- The gradient of the rows: the output gradient and the part through the norm. -/
def wDx (dy dh x : FVec Ideal S256x1024 .f32) (g : FVec Ideal S1x1024 .f32) : FVec Ideal S256x1024 .f32 :=
  have d : FVec Ideal S256x1024 .f32 := mulf dh (broadcastTo S256x1024 g broadcasts_S1x1024_S256x1024)
  addf dy (mulf (broadcastTo S256x1024 (wInv x) broadcasts_S256x1_S256x1024) (subf d (mulf (wXh x)
    (broadcastTo S256x1024 (divf (shapeCast S256x1 (multiReduction .add [1] S256 (mulf d (wXh x)) 0x00000000#32
      reduces_S256x1024_S256 (.inl rfl) rfl) shapeCasts_S256_S256x1) (broadcast S256x1 (FloatOps.ofBits .f32 0x44800000#32)))
      broadcasts_S256x1_S256x1024))))

/-- The running gradient of the norm's gain with a block's sums added to its first row. -/
def wDg (dh x : FVec Ideal S256x1024 .f32) (v : FVec Ideal S8x1024 .f32) : FVec Ideal S8x1024 .f32 :=
  addf (shapeCast S8x1024 v shapeCasts_S8x1024_S8x1024)
    (select (cmpi .eq (iota .tc S8x1024 32 [0] iota_S8x1024_d0_w32) (broadcast S8x1024 0#32))
      (broadcastTo S8x1024 (shapeCast S1x1024 (shapeCast S1x1024 (multiReduction .add [0] S1024 (mulf dh (wXh x)) 0x00000000#32
        reduces_S256x1024_S1024 (.inl rfl) rfl) shapeCasts_S1024_S1x1024) shapeCasts_S1x1024_S1x1024) broadcasts_S1x1024_S8x1024)
      (broadcast S8x1024 (FloatOps.ofBits .f32 0x00000000#32)))

/-- One over the root of a row's mean square. -/
def invAt (x : Fin 1024 → EReal) : EReal :=
  Ideal.rsqrt (Ideal.div (∑ k : Fin 1024, x k * x k) (Ideal.ofBits .f32 0x44800000#32) + Ideal.ofBits .f32 0x358637BD#32)

/-- A row's entry of the gradient through the norm. -/
def dxAt (dy dh x g : Fin 1024 → EReal) (k : Fin 1024) : EReal :=
  dy k + invAt x * (dh k * g k - x k * invAt x
    * Ideal.div (∑ l : Fin 1024, dh l * g l * (x l * invAt x)) (Ideal.ofBits .f32 0x44800000#32))

/-- A choice by whether two words are equal. -/
theorem select_eq (a b : BitVec 32) (x y : EReal) : Scalar.select (IntOp.cmpi .eq a b) x y = if a = b then x else y := by
  by_cases h : a = b
  · simp [Scalar.select, IntOp.cmpi, h]
  · have e : (a == b) = false := by simpa using h
    simp only [Scalar.select, IntOp.cmpi, e, if_neg h]
    rfl

theorem wInv_apply (x : FVec Ideal S256x1024 .f32) (r : Fin 256) : wInv x (ix2 r 0) = invAt fun k => x (ix2 r k) := by
  pointwise [wInv, invAt]

theorem wXh_apply (x : FVec Ideal S256x1024 .f32) (r : Fin 256) (k : Fin 1024) :
    wXh x (ix2 r k) = x (ix2 r k) * invAt fun k => x (ix2 r k) := by
  pointwise [wXh, wInv_apply]

theorem wDx_apply (dy dh x : FVec Ideal S256x1024 .f32) (g : FVec Ideal S1x1024 .f32) (r : Fin 256) (k : Fin 1024) :
    wDx dy dh x g (ix2 r k) = dxAt (fun k => dy (ix2 r k)) (fun k => dh (ix2 r k)) (fun k => x (ix2 r k)) (fun k => g (ix2 0 k)) k := by
  pointwise [wDx, wXh_apply, wInv_apply, dxAt]

theorem wDg_apply (dh x : FVec Ideal S256x1024 .f32) (v : FVec Ideal S8x1024 .f32) (q : Fin 8) (k : Fin 1024) :
    wDg dh x v (ix2 q k) = v (ix2 q k)
      + if q.val = 0 then ∑ r : Fin 256, dh (ix2 r k) * (x (ix2 r k) * invAt fun k => x (ix2 r k)) else 0 := by
  pointwise [wDg, wXh_apply]
  rw [select_eq]
  refine congrArg (v (ix2 q k) + ·) (if_congr ?_ rfl rfl)
  fin_cases q <;> decide

theorem wDu_apply (v3 : FVec Ideal S256x1024 .f32) (v7 : FVec Ideal S1x704x1024 .bf16) (r : Fin 256) (n : Fin 704) :
    wDu v3 v7 (ix2 r n) = ∑ k : Fin 1024, v3 (ix2 r k) * v7 (ix3 0 n k) := by
  pointwise [wDu, dot_S256x1024_S704x1024_S256x704_1_1_0_0_n_n]

theorem wDc_apply (v3 : FVec Ideal S256x1024 .f32) (v7 : FVec Ideal S1x704x1024 .bf16) (v10 : FVec Ideal S1x256x704 .bf16)
    (r : Fin 256) (n : Fin 704) :
    wDc v3 v7 v10 (ix2 r n) = (∑ k : Fin 1024, v3 (ix2 r k) * v7 (ix3 0 n k)) * v10 (ix3 0 r n) := by
  pointwise [wDc, wDu_apply]

theorem wCat_top (d : FVec Ideal S256x704 .f32) (v14 : FVec Ideal S1x8x704 .f32) (r : Fin 264) (n : Fin 704) (h : r.val < 256) :
    wCat d v14 (ix2 r n) = d (ix2 ⟨r.val, h⟩ n) := by
  pointwise [wCat, h]

theorem wCat_head (d : FVec Ideal S256x704 .f32) (v14 : FVec Ideal S1x8x704 .f32) (r : Fin 264) (n : Fin 704) (h : ¬ r.val < 256) :
    wCat d v14 (ix2 r n) = v14 (ix3 0 ⟨r.val - 256, by omega⟩ n) := by
  pointwise [wCat, h]

theorem wRot_apply (x : FVec Ideal S264x704 .f32) (r : Fin 264) (n : Fin 704) (h : r.val + 1 < 264) :
    wRot x (ix2 r n) = x (ix2 ⟨r.val + 1, h⟩ n) := by
  pointwise [wRot]
  exact congrArg x (congrArg (fun a => ix2 a n) (Fin.ext (by show (r.val + 264 - 263) % 264 = r.val + 1; omega)))

theorem wRot2_apply (x : FVec Ideal S264x704 .f32) (r : Fin 264) (n : Fin 704) (h : r.val + 2 < 264) :
    wRot (wRot x) (ix2 r n) = x (ix2 ⟨r.val + 2, h⟩ n) := by
  rw [wRot_apply _ _ _ (by omega), wRot_apply _ _ _ (by show r.val + 1 + 1 < 264; omega)]

theorem wTop_apply (x : FVec Ideal S264x704 .f32) (r : Fin 256) (n : Fin 704) :
    wTop x (ix2 r n) = x (ix2 ⟨r.val, by omega⟩ n) := by
  pointwise [wTop]

theorem wDa_apply (c : FVec Ideal S264x704 .f32) (v21 : FVec Ideal S1x1x3x704 .f32) (r : Fin 256) (n : Fin 704) :
    wDa c v21 (ix2 r n) = v21 (ix4 0 0 2 n) * c (ix2 ⟨r.val, by omega⟩ n) + v21 (ix4 0 0 1 n) * c (ix2 ⟨r.val + 1, by omega⟩ n)
      + v21 (ix4 0 0 0 n) * c (ix2 ⟨r.val + 2, by omega⟩ n) := by
  pointwise [wDa, wTop, wTaps]
  rw [wRot_apply _ _ _ (by show r.val + 1 < 264; omega), wRot2_apply _ _ _ (by show r.val + 2 < 264; omega)]

theorem wHead_apply (d : FVec Ideal S256x704 .f32) (r : Fin 8) (n : Fin 704) :
    wHead d (ix3 0 r n) = d (ix2 ⟨r.val, by omega⟩ n) := by
  pointwise [wHead]

theorem wDaOut_apply (c : FVec Ideal S264x704 .f32) (v21 : FVec Ideal S1x1x3x704 .f32) (r : Fin 256) (n : Fin 704) :
    wDaOut c v21 (ix3 0 r n) = wDa c v21 (ix2 r n) := by
  pointwise [wDaOut]

theorem wDh_apply (acc : FVec Ideal S256x1024 .f32) (c : FVec Ideal S264x704 .f32) (v21 : FVec Ideal S1x1x3x704 .f32)
    (v44 : FVec Ideal S1x704x1024 .bf16) (r : Fin 256) (k : Fin 1024) :
    wDh acc c v21 v44 (ix2 r k) = acc (ix2 r k) + ∑ n : Fin 704, wDa c v21 (ix2 r n) * v44 (ix3 0 n k) := by
  pointwise [wDh, dot_S256x704_S704x1024_S256x1024_1_0_0_1_n_n]

theorem wCol_apply (x : FVec Ideal S256x704 .f32) (n : Fin 704) : wCol x (ix2 0 n) = ∑ r : Fin 256, x (ix2 r n) := by
  pointwise [wCol]

theorem wRow_apply (k : BitVec 32) (x : FVec Ideal S1x704 .f32) (prev : FVec Ideal S8x704 .f32) (q : Fin 8) (n : Fin 704) :
    wRow k x prev (ix2 q n) = if BitVec.ofNat 32 q.val = k then x (ix2 0 n) else prev (ix2 q n) := by
  pointwise [wRow]
  exact select_eq _ _ _ _

/-- The four sums a row of eight holds: the three taps' and the bias's. -/
def statAt (c : ℕ → EReal) (a : Fin 256 → EReal) (q : Fin 8) : EReal :=
  match q.val with
  | 0 => ∑ r : Fin 256, c (r.val + 2) * a r
  | 1 => ∑ r : Fin 256, c (r.val + 1) * a r
  | 2 => ∑ r : Fin 256, c r.val * a r
  | 3 => ∑ r : Fin 256, c r.val
  | _ => 0

theorem wStat_apply (c : FVec Ideal S264x704 .f32) (v23 : FVec Ideal S1x256x704 .bf16) (q : Fin 8) (n : Fin 704)
    (C : ℕ → EReal) (A : Fin 256 → EReal) (hC : ∀ r : Fin 264, c (ix2 r n) = C r.val) (hA : ∀ r : Fin 256, v23 (ix3 0 r n) = A r) :
    wStat c v23 (ix2 q n) = statAt C A q := by
  fin_cases q <;> simp [wStat, wRow_apply, statAt, wCol_apply] <;>
    pointwise [wTop_apply] <;> refine Finset.sum_congr rfl fun r _ => ?_
  · rw [wRot2_apply _ _ _ (by show r.val + 2 < 264; omega), hC, hA]
  · rw [wRot_apply _ _ _ (by show r.val + 1 < 264; omega), hC, hA]
  · rw [hC, hA]
  · rw [hC]

theorem wAcc_apply (c : FVec Ideal S264x704 .f32) (v23 : FVec Ideal S1x256x704 .bf16) (v : FVec Ideal S1x1x8x704 .f32)
    (q : Fin 8) (n : Fin 704) :
    wAcc c v23 v (ix4 0 0 q n) = v (ix4 0 0 q n) + wStat c v23 (ix2 q n) := by
  pointwise [wAcc]

end Cert.Ffn

end
-- ==== Proof.Ffn.RefAt.lean ====
module

public import proofs.«01_k».proof.Proof.Gen.ReferenceIdeal.Read
public import proofs.«01_k».proof.Proof.Ffn.HostAt
public import proofs.«01_k».proof.Proof.Ffn.Words

@[expose] public section

set_option maxRecDepth 16384

noncomputable section

namespace Cert.Ffn

open Idealize.ShloMosaic Idealize.ShloMosaic.TcCoe Idealize.ShloMosaic.Tactic Cert.ReferenceIdeal Cert.ReferenceIdeal.Read

/-! The reference's values at an entry. -/

/-- The integer zero as a number. -/
theorem sitofp_zero : FloatOps.sitofp (F := Ideal) .f32 (0#32) = (0 : EReal) := by
  simp [FloatOps.sitofp]

variable (x0 x1 : (⟨S8192x1024, .f32⟩ : BufTy).Contents (Elt Ideal)) (x2 : (⟨S1x1024, .f32⟩ : BufTy).Contents (Elt Ideal))
  (x3 : (⟨S1x1024x5632, .f32⟩ : BufTy).Contents (Elt Ideal)) (x4 : (⟨S1x3x5632, .f32⟩ : BufTy).Contents (Elt Ideal))
  (x5 : (⟨S1x5632, .f32⟩ : BufTy).Contents (Elt Ideal)) (x6 : (⟨S1x2816x1024, .f32⟩ : BufTy).Contents (Elt Ideal))

/-- The gate half's gradient. -/
theorem v90_apply (i : S8192x2816.Idx) : val_main_v90 (F := Ideal) x0 x1 x2 x3 x4 x5 x6 i
    = sDg (val_main_v47 (F := Ideal) x1 x2 x3 x4 x5 i) (val_main_v75 (F := Ideal) x0 x6 i * val_main_v48 (F := Ideal) x1 x2 x3 x4 x5 i) := rfl

/-- The up half's gradient. -/
theorem v77_apply (i : S8192x2816.Idx) : val_main_v77 (F := Ideal) x0 x1 x2 x3 x4 x5 x6 i
    = val_main_v47 (F := Ideal) x1 x2 x3 x4 x5 i * sSig (val_main_v47 (F := Ideal) x1 x2 x3 x4 x5 i) * val_main_v75 (F := Ideal) x0 x6 i := rfl

/-- The gradient of the gated product. -/
theorem v75_apply (R : Fin 8192) (q : Fin 2816) : val_main_v75 (F := Ideal) x0 x6 (ix2 R q) = ∑ k : Fin 1024, x0 (ix2 R k) * x6 (ix3 0 q k) := by
  unfold val_main_v75 val_main_v71
  pointwise

/-- The two halves' gradients beside each other. -/
theorem v91_apply (R : Fin 8192) (q : Fin 5632) : val_main_v91 (F := Ideal) x0 x1 x2 x3 x4 x5 x6 (ix2 R q)
    = if h : q.val < 2816 then val_main_v90 (F := Ideal) x0 x1 x2 x3 x4 x5 x6 (ix2 R ⟨q.val, h⟩)
      else val_main_v77 (F := Ideal) x0 x1 x2 x3 x4 x5 x6 (ix2 R ⟨q.val - 2816, by omega⟩) := by
  unfold val_main_v91
  pointwise

/-- The rows under two rows of zeros. -/
theorem v22_apply (R : Fin 8194) (q : Fin 5632) : val_main_v22 (F := Ideal) x1 x2 x3 (ix2 R q)
    = if h : R.val < 2 then 0 else val_main_v18 (F := Ideal) x1 x2 x3 (ix2 ⟨R.val - 2, by omega⟩ q) := by
  unfold val_main_v22 val_main_v21 val_main_cst_3
  pointwise

/-- The up projection's gradient. -/
theorem v127_apply (R : Fin 8192) (q : Fin 5632) : val_main_v127 (F := Ideal) x0 x1 x2 x3 x4 x5 x6 (ix2 R q) = val_main_v91 (F := Ideal) x0 x1 x2 x3 x4 x5 x6 (ix2 R q) * x4 (ix3 0 2 q)
    + (if h : R.val + 1 < 8192 then val_main_v91 (F := Ideal) x0 x1 x2 x3 x4 x5 x6 (ix2 ⟨R.val + 1, h⟩ q) * x4 (ix3 0 1 q) else 0)
    + (if h : R.val + 2 < 8192 then val_main_v91 (F := Ideal) x0 x1 x2 x3 x4 x5 x6 (ix2 ⟨R.val + 2, h⟩ q) * x4 (ix3 0 0 q) else 0) := by
  unfold val_main_v127 val_main_v125 val_main_v124 val_main_v119 val_main_v114 val_main_v113 val_main_v103 val_main_v99 val_main_v108
    val_main_v98 val_main_v107 val_main_v118 val_main_v40 val_main_v33 val_main_v27 val_main_v39 val_main_v32 val_main_v26
    val_main_v38 val_main_v31 val_main_v25 val_main_v19 val_main_cst_20 val_main_cst_24 val_main_cst_28
  pointwise
  congr 1
  · congr 1
    by_cases h : R.val + 1 < 8192
    · rw [dif_pos h, dif_pos ⟨by omega, by omega⟩]
      congr 3
      exact Fin.ext (by show 2 + R.val - 1 = R.val + 1; omega)
    · rw [dif_neg h, dif_neg (by omega)]
  · by_cases h : R.val + 2 < 8192
    · rw [dif_pos h, dif_pos (by omega)]
      congr 3
      exact Fin.ext (Nat.add_comm _ _)
    · rw [dif_neg h, dif_neg (by omega)]

/-- The up projection's gradient, in blocks. -/
theorem v161_apply (j : Fin 8) (R : Fin 8192) (n : Fin 704) : val_main_v161 (F := Ideal) x0 x1 x2 x3 x4 x5 x6 (ix3 j R n)
    = val_main_v127 (F := Ideal) x0 x1 x2 x3 x4 x5 x6 (ix2 R (col j n)) := by
  unfold val_main_v161 val_main_v160 val_main_v159 col
  pointwise

/-- The gradient of the normed rows. -/
theorem v132_apply (R : Fin 8192) (k : Fin 1024) : val_main_v132 (F := Ideal) x0 x1 x2 x3 x4 x5 x6 (ix2 R k)
    = ∑ q : Fin 5632, val_main_v127 (F := Ideal) x0 x1 x2 x3 x4 x5 x6 (ix2 R q) * x3 (ix3 0 k q) := by
  unfold val_main_v132 val_main_v17
  pointwise

/-- The inverse root of a row's mean square. -/
theorem v8_apply (R : Fin 8192) (e : Fin 1) : val_main_v8 (F := Ideal) x1 (ix2 R e) = invAt fun k => x1 (ix2 R k) := by
  unfold val_main_v8 val_main_v7 val_main_v6 val_main_v5 val_main_v4 val_main_v3 val_main_v2 val_main_v1 val_main_cst val_main_cst_0 val_main_cst_1 invAt
  pointwise

/-- The rows' gradient. -/
theorem v158_apply (R : Fin 8192) (k : Fin 1024) : val_main_v158 (F := Ideal) x0 x1 x2 x3 x4 x5 x6 (ix2 R k) = x0 (ix2 R k) + (val_main_v132 (F := Ideal) x0 x1 x2 x3 x4 x5 x6 (ix2 R k) * x2 (ix2 0 k) * val_main_v8 (F := Ideal) x1 (ix2 R 0)
      + x1 (ix2 R k) * Ideal.div ((∑ l : Fin 1024, x1 (ix2 R l) * (val_main_v132 (F := Ideal) x0 x1 x2 x3 x4 x5 x6 (ix2 R l) * x2 (ix2 0 l)))
          * (Ideal.ofBits .f32 0xBF000000#32 * Ideal.div (val_main_v8 (F := Ideal) x1 (ix2 R 0)) (val_main_v7 (F := Ideal) x1 (ix2 R 0))))
          (Ideal.ofBits .f32 0x44800000#32)
      + Ideal.div ((∑ l : Fin 1024, x1 (ix2 R l) * (val_main_v132 (F := Ideal) x0 x1 x2 x3 x4 x5 x6 (ix2 R l) * x2 (ix2 0 l)))
          * (Ideal.ofBits .f32 0xBF000000#32 * Ideal.div (val_main_v8 (F := Ideal) x1 (ix2 R 0)) (val_main_v7 (F := Ideal) x1 (ix2 R 0))))
          (Ideal.ofBits .f32 0x44800000#32) * x1 (ix2 R k)) := by
  unfold val_main_v158 val_main_v153 val_main_v152 val_main_v151 val_main_v150 val_main_v149 val_main_v148 val_main_v147 val_main_v146
    val_main_v145 val_main_v144 val_main_v143 val_main_v142 val_main_v141 val_main_v140 val_main_v138 val_main_v137 val_main_v14
    val_main_v11 val_main_v10 val_main_v9 val_main_v0 val_main_cst_2 val_main_cst_31 val_main_cst_32 val_main_cst_33
  pointwise
  rw [Fin.sum_univ_one]

/-- The taps' gradients, the bias's under them and rows of zeros. -/
theorem v157_apply (e : Fin 8) (q : Fin 5632) : val_main_v157 (F := Ideal) x0 x1 x2 x3 x4 x5 x6 (ix2 e q)
    = if h : e.val < 3 then val_main_v123 (F := Ideal) x0 x1 x2 x3 x4 x5 x6 (ix2 ⟨e.val, h⟩ q)
      else if e.val - 3 < 1 then ∑ x : Fin 1, ∑ R : Fin 8192, val_main_v91 (F := Ideal) x0 x1 x2 x3 x4 x5 x6 (ix2 R q) else 0 := by
  unfold val_main_v157 val_main_v156 val_main_cst_34 val_main_v155 val_main_v129 val_main_v128
    val_main_v94 val_main_v93 val_main_v92 val_main_cst_15 val_main_cst_16
  pointwise
  try rfl

/-- The sums, in blocks. -/
theorem v164_apply (s : Fin 2) (d : Fin 4) (e : Fin 8) (n : Fin 704) : val_main_v164 (F := Ideal) x0 x1 x2 x3 x4 x5 x6 (ix4 s d e n)
    = val_main_v157 (F := Ideal) x0 x1 x2 x3 x4 x5 x6 (ix2 e (col ⟨s.val * 4 + d.val, by omega⟩ n)) := by
  unfold val_main_v164 val_main_v163 val_main_v162 col
  pointwise

/-- The taps' gradients. -/
theorem v123_apply (w : Fin 3) (q : Fin 5632) : val_main_v123 (F := Ideal) x0 x1 x2 x3 x4 x5 x6 (ix2 w q) = if w.val = 2 then ∑ x : Fin 8192, val_main_v22 (F := Ideal) x1 x2 x3 (ix2 ⟨2 + x.val, by omega⟩ q) * val_main_v91 (F := Ideal) x0 x1 x2 x3 x4 x5 x6 (ix2 x q)
    else if w.val = 1 then ∑ x : Fin 8192, val_main_v22 (F := Ideal) x1 x2 x3 (ix2 ⟨1 + x.val, by omega⟩ q) * val_main_v91 (F := Ideal) x0 x1 x2 x3 x4 x5 x6 (ix2 x q)
    else ∑ x : Fin 8192, val_main_v22 (F := Ideal) x1 x2 x3 (ix2 ⟨x.val, by omega⟩ q) * val_main_v91 (F := Ideal) x0 x1 x2 x3 x4 x5 x6 (ix2 x q) := by
  unfold val_main_v123 val_main_v112 val_main_v122 val_main_v121 val_main_v120 val_main_v117 val_main_v116 val_main_v115
    val_main_v111 val_main_v110 val_main_v109 val_main_v106 val_main_v105 val_main_v104 val_main_v102 val_main_v101 val_main_v100
    val_main_v97 val_main_v96 val_main_v95 val_main_v24 val_main_v30 val_main_v37 val_main_cst_17 val_main_cst_18
    val_main_cst_21 val_main_cst_22 val_main_cst_23 val_main_cst_25 val_main_cst_26 val_main_cst_27 val_main_cst_19
  pointwise
  simp only [Fin.sum_univ_one]
  fin_cases w
  · rw [dif_neg (by decide), dif_neg (by decide), dif_pos (by decide), if_neg (by decide), if_neg (by decide), zero_add, zero_add]
  · rw [dif_neg (by decide), dif_pos (by decide), dif_neg (by decide), if_neg (by decide), if_pos (by decide), zero_add, add_zero]
  · rw [dif_pos (by decide), dif_neg (by decide), dif_neg (by decide), if_pos (by decide), add_zero, add_zero]

/-- The gain's gradient, in a block of rows. -/
theorem v165_apply (e : Fin 8) (k : Fin 1024) : val_main_v165 (F := Ideal) x0 x1 x2 x3 x4 x5 x6 (ix2 e k) = if e.val = 0 then
      ∑ x : Fin 8192, x1 (ix2 x k) * val_main_v8 (F := Ideal) x1 (ix2 x 0) * val_main_v132 (F := Ideal) x0 x1 x2 x3 x4 x5 x6 (ix2 x k)
    else 0 := by
  unfold val_main_v165 val_main_v154 val_main_v139 val_main_v136 val_main_v135 val_main_v134 val_main_v13 val_main_v12 val_main_call0_v0 val_main_c val_main_cst_29 val_main_cst_30
  pointwise
  rw [Fin.sum_univ_one]
  by_cases h : e.val = 0
  · rw [dif_pos (by omega), if_pos h]
  · rw [dif_neg (by omega), if_neg h]
    exact sitofp_zero

end Cert.Ffn
-- ==== Proof.Ffn.Block.lean ====
module

public import proofs.«01_k».proof.Proof.Gen.KernelIdeal.Frame
public import proofs.«01_k».proof.Proof.Ffn.Words
public import Idealize.ShloMosaic.Lib.Pipeline.ReadBack

@[expose] public section

set_option maxRecDepth 16384

noncomputable section

namespace Cert.Ffn

open Idealize.ShloMosaic Idealize.ShloMosaic.TcCoe Idealize.ShloMosaic.Tactic Cert.KernelIdeal Cert.KernelIdeal.Gen Idealize.SL.Sem

/-! What one grid point leaves in each output and in the rows it keeps, from the blocks it reads. -/

/-- The convolution's gradient rows `C` (shard, row of the block, column) that a point sees: its own 256 rows, computed,
    and the eight rows after them, kept from the point before. -/
structure Rows (x0 : Vec Ideal S256x1024 .f32) (x2 : Vec Ideal S8x256x704 .bf16) (x6 : Vec Ideal S4x704x1024 .bf16)
    (xs0 : Vec Ideal S8x8x704 .f32) (C : Fin 8 → ℕ → Fin 704 → EReal) : Prop where
  own : ∀ (d : Fin 4) (j e : Fin 8) (r : Fin 256) (n : Fin 704), d.val = j.val % 4 → e.val = (j.val + 4) % 8 →
    (∑ k : Fin 1024, x0 (ix2 r k) * x6 (ix3 d n k)) * x2 (ix3 e r n) = C j r.val n
  next : ∀ (j : Fin 8) (r : Fin 8) (n : Fin 704), xs0 (ix3 j r n) = C j (256 + r.val) n

/-- The gradient of the up projection's result: three taps over the rows. -/
def daAt (x5 : Vec Ideal S2x4x3x704 .f32) (C : Fin 8 → ℕ → Fin 704 → EReal) (j : Fin 8) (r : ℕ) (n : Fin 704) : EReal :=
  x5 (ix4 ⟨j.val / 4, by omega⟩ ⟨j.val % 4, by omega⟩ 2 n) * C j r n + x5 (ix4 ⟨j.val / 4, by omega⟩ ⟨j.val % 4, by omega⟩ 1 n) * C j (r + 1) n
    + x5 (ix4 ⟨j.val / 4, by omega⟩ ⟨j.val % 4, by omega⟩ 0 n) * C j (r + 2) n

/-- The same, as the block that is stored. -/
def daOf (x5 : Vec Ideal S2x4x3x704 .f32) (C : Fin 8 → ℕ → Fin 704 → EReal) : Vec Ideal S8x256x704 .bf16 :=
  fun y => daAt x5 C (y 0) (y 1).val (y 2)

/-- The gradient of the normed rows: over the shards, the gradient times the up projection. -/
def dhAt (x4 : Vec Ideal S8x704x1024 .bf16) (x5 : Vec Ideal S2x4x3x704 .f32) (C : Fin 8 → ℕ → Fin 704 → EReal) (r : ℕ) (k : Fin 1024) : EReal :=
  ∑ j : Fin 8, ∑ n : Fin 704, daAt x5 C j r n * x4 (ix3 j n k)

variable {x0 : Vec Ideal S256x1024 .f32} {x2 : Vec Ideal S8x256x704 .bf16} {x6 : Vec Ideal S4x704x1024 .bf16}
    {xs0 : Vec Ideal S8x8x704 .f32} {C : Fin 8 → ℕ → Fin 704 → EReal}

/-- The joined rows of a shard are `C`'s. -/
theorem Rows.cat (h : Rows x0 x2 x6 xs0 C) (d : Fin 4) (j e : Fin 8) (hd : d.val = j.val % 4) (he : e.val = (j.val + 4) % 8)
    (X : FVec Ideal S256x1024 .f32) (P : FVec Ideal S1x704x1024 .bf16) (Q : FVec Ideal S1x256x704 .bf16) (H : FVec Ideal S1x8x704 .f32)
    (hX : ∀ r k, X (ix2 r k) = x0 (ix2 r k)) (hP : ∀ n k, P (ix3 0 n k) = x6 (ix3 d n k)) (hQ : ∀ r n, Q (ix3 0 r n) = x2 (ix3 e r n))
    (hH : ∀ r n, H (ix3 0 r n) = xs0 (ix3 j r n)) (r : Fin 264) (n : Fin 704) :
    wCat (wDc X P Q) H (ix2 r n) = C j r.val n := by
  by_cases hr : r.val < 256
  · rw [wCat_top _ _ _ _ hr, wDc_apply]
    simp only [hX, hP, hQ]
    exact h.own d j e ⟨r.val, hr⟩ n hd he
  · rw [wCat_head _ _ _ _ hr, hH, h.next]
    refine congrArg (C j · n) ?_
    show 256 + (r.val - 256) = r.val
    omega

/-- The kept rows of a shard are `C`'s first eight. -/
theorem Rows.head (h : Rows x0 x2 x6 xs0 C) (d : Fin 4) (j e : Fin 8) (hd : d.val = j.val % 4) (he : e.val = (j.val + 4) % 8)
    (X : FVec Ideal S256x1024 .f32) (P : FVec Ideal S1x704x1024 .bf16) (Q : FVec Ideal S1x256x704 .bf16)
    (hX : ∀ r k, X (ix2 r k) = x0 (ix2 r k)) (hP : ∀ n k, P (ix3 0 n k) = x6 (ix3 d n k)) (hQ : ∀ r n, Q (ix3 0 r n) = x2 (ix3 e r n))
    (r : Fin 8) (n : Fin 704) :
    wHead (wDc X P Q) (ix3 0 r n) = C j r.val n := by
  rw [wHead_apply, wDc_apply]
  simp only [hX, hP, hQ]
  exact h.own d j e ⟨r.val, by omega⟩ n hd he

/-- The stored gradient of a shard is `daAt`. -/
theorem wDa_of (x5 : Vec Ideal S2x4x3x704 .f32) (s : Fin 2) (d : Fin 4) (j : Fin 8) (hs : s.val = j.val / 4) (hd : d.val = j.val % 4)
    (c : FVec Ideal S264x704 .f32) (T : FVec Ideal S1x1x3x704 .f32) (hc : ∀ r n, c (ix2 r n) = C j r.val n)
    (hT : ∀ q n, T (ix4 0 0 q n) = x5 (ix4 s d q n)) (r : Fin 256) (n : Fin 704) :
    wDa c T (ix2 r n) = daAt x5 C j r.val n := by
  rw [wDa_apply]
  simp only [hT, hc]
  unfold daAt
  rw [show (⟨j.val / 4, by omega⟩ : Fin 2) = s from Fin.ext hs.symm, show (⟨j.val % 4, by omega⟩ : Fin 4) = d from Fin.ext hd.symm]

/-- One shard's store of the up projection's gradient. -/
theorem Rows.da (h : Rows x0 x2 x6 xs0 C) (x5 : Vec Ideal S2x4x3x704 .f32) (s : Fin 2) (d : Fin 4) (j e : Fin 8) (hs : s.val = j.val / 4)
    (hd : d.val = j.val % 4) (he : e.val = (j.val + 4) % 8) (i0 i6 i2 is i5 io) (x : S1x256x704.Idx) :
    wDaOut (wCat (wDc (View.ld x0 (Rect.unit ![0, 0] ![256, 1024] i0)) (View.ld x6 (Rect.unit ![d.val, 0, 0] ![1, 704, 1024] i6))
      (View.ld x2 (Rect.unit ![e.val, 0, 0] ![1, 256, 704] i2))) (View.ld xs0 (Rect.unit ![j.val, 0, 0] ![1, 8, 704] is)))
      (View.ld x5 (Rect.unit ![s.val, d.val, 0, 0] ![1, 1, 3, 704] i5)) x
      = View.ld (daOf x5 C) (Rect.unit ![j.val, 0, 0] ![1, 256, 704] io) x := by
  obtain ⟨q, r, n, rfl⟩ : ∃ q r n, x = ix3 q r n := ⟨x 0, x 1, x 2, eq_ix3 x⟩
  obtain rfl : q = 0 := Subsingleton.elim _ _
  rw [wDaOut_apply, wDa_of x5 s d j hs hd _ _ (h.cat d j e hd he _ _ _ _ (fun r k => by pointwise) (fun n k => by pointwise)
    (fun r n => by pointwise) (fun r n => by pointwise)) (fun q n => by pointwise)]
  pointwise [daOf]

/-- The rows a point keeps for the next one, as a block. -/
def keepOf (C : Fin 8 → ℕ → Fin 704 → EReal) : Vec Ideal S8x8x704 .f32 := fun y => C (y 0) (y 1).val (y 2)

/-- One shard's store of the rows kept for the next point. -/
theorem Rows.keep (h : Rows x0 x2 x6 xs0 C) (d : Fin 4) (j e : Fin 8)
    (hd : d.val = j.val % 4) (he : e.val = (j.val + 4) % 8) (i0 i6 i2 io) (x : S1x8x704.Idx) :
    wHead (wDc (View.ld x0 (Rect.unit ![0, 0] ![256, 1024] i0)) (View.ld x6 (Rect.unit ![d.val, 0, 0] ![1, 704, 1024] i6))
      (View.ld x2 (Rect.unit ![e.val, 0, 0] ![1, 256, 704] i2))) x
      = View.ld (keepOf C) (Rect.unit ![j.val, 0, 0] ![1, 8, 704] io) x := by
  obtain ⟨q, r, n, rfl⟩ : ∃ q r n, x = ix3 q r n := ⟨x 0, x 1, x 2, eq_ix3 x⟩
  obtain rfl : q = 0 := Subsingleton.elim _ _
  rw [h.head d j e hd he _ _ _ (fun r k => by pointwise) (fun n k => by pointwise) (fun r n => by pointwise)]
  pointwise [keepOf]

/-- The running sums with a block's sums added. -/
def statOf (x1 : Vec Ideal S8x256x704 .bf16) (xo : Vec Ideal S2x4x8x704 .f32) (C : Fin 8 → ℕ → Fin 704 → EReal) : Vec Ideal S2x4x8x704 .f32 :=
  fun y => xo y + statAt (fun r => C ⟨4 * (y 0).val + (y 1).val, by have h0 := (y 0).isLt; have h1 := (y 1).isLt; simp at h0 h1; omega⟩ r (y 3))
    (fun r => x1 (ix3 ⟨4 * (y 0).val + (y 1).val, by have h0 := (y 0).isLt; have h1 := (y 1).isLt; simp at h0 h1; omega⟩ r (y 3))) (y 2)

/-- One shard's store of the running sums. -/
theorem Rows.stat (h : Rows x0 x2 x6 xs0 C) (x1 : Vec Ideal S8x256x704 .bf16) (xo : Vec Ideal S2x4x8x704 .f32) (s : Fin 2) (d : Fin 4)
    (j e : Fin 8) (hs : s.val = j.val / 4) (hd : d.val = j.val % 4) (he : e.val = (j.val + 4) % 8) (i0 i6 i2 is i1 io) (x : S1x1x8x704.Idx) :
    wAcc (wCat (wDc (View.ld x0 (Rect.unit ![0, 0] ![256, 1024] i0)) (View.ld x6 (Rect.unit ![d.val, 0, 0] ![1, 704, 1024] i6))
      (View.ld x2 (Rect.unit ![e.val, 0, 0] ![1, 256, 704] i2))) (View.ld xs0 (Rect.unit ![j.val, 0, 0] ![1, 8, 704] is)))
      (View.ld x1 (Rect.unit ![j.val, 0, 0] ![1, 256, 704] i1)) (View.ld xo (Rect.unit ![s.val, d.val, 0, 0] ![1, 1, 8, 704] io)) x
      = View.ld (statOf x1 xo C) (Rect.unit ![s.val, d.val, 0, 0] ![1, 1, 8, 704] io) x := by
  obtain ⟨p, q, r, n, rfl⟩ : ∃ p q r n, x = ix4 p q r n := ⟨x 0, x 1, x 2, x 3, eq_ix4 x⟩
  obtain rfl : p = 0 := Subsingleton.elim _ _
  obtain rfl : q = 0 := Subsingleton.elim _ _
  rw [wAcc_apply, wStat_apply _ _ r n (fun r => C j r n) (fun r => x1 (ix3 j r n))
    (h.cat d j e hd he _ _ _ _ (fun r k => by pointwise) (fun n k => by pointwise) (fun r n => by pointwise) (fun r n => by pointwise) · n)
    (fun r => by pointwise)]
  pointwise [statOf]
  rw [show (⟨4 * s.val + d.val, by omega⟩ : Fin 8) = j from Fin.ext (by show 4 * s.val + d.val = j.val; omega)]

/-- The gradient of the normed rows, over the eight shards as the kernel adds them. -/
def dhBlk (x0 : Vec Ideal S256x1024 .f32) (x2 : Vec Ideal S8x256x704 .bf16) (x4 : Vec Ideal S8x704x1024 .bf16)
    (x5 : Vec Ideal S2x4x3x704 .f32) (x6 : Vec Ideal S4x704x1024 .bf16) (xs0 : Vec Ideal S8x8x704 .f32) : FVec Ideal S256x1024 .f32 :=
  (wDh (wDh (wDh (wDh (wDh (wDh (wDh (wDh (broadcast S256x1024 (FloatOps.ofBits .f32 0x00000000#32))
    (wCat (wDc (View.ld x0 (Rect.unit ![0, 0] ![256, 1024] inb_S256x1024_S256x1024_0_0)) (View.ld x6 (Rect.unit ![0, 0, 0] ![1, 704, 1024] inb_S4x704x1024_S1x704x1024_0_0_0)) (View.ld x2 (Rect.unit ![4, 0, 0] ![1, 256, 704] inb_S8x256x704_S1x256x704_4_0_0))) (View.ld xs0 (Rect.unit ![0, 0, 0] ![1, 8, 704] inb_S8x8x704_S1x8x704_0_0_0))) (View.ld x5 (Rect.unit ![0, 0, 0, 0] ![1, 1, 3, 704] inb_S2x4x3x704_S1x1x3x704_0_0_0_0)) (View.ld x4 (Rect.unit ![0, 0, 0] ![1, 704, 1024] inb_S8x704x1024_S1x704x1024_0_0_0)))
    (wCat (wDc (View.ld x0 (Rect.unit ![0, 0] ![256, 1024] inb_S256x1024_S256x1024_0_0)) (View.ld x6 (Rect.unit ![0, 0, 0] ![1, 704, 1024] inb_S4x704x1024_S1x704x1024_0_0_0)) (View.ld x2 (Rect.unit ![0, 0, 0] ![1, 256, 704] inb_S8x256x704_S1x256x704_0_0_0))) (View.ld xs0 (Rect.unit ![4, 0, 0] ![1, 8, 704] inb_S8x8x704_S1x8x704_4_0_0))) (View.ld x5 (Rect.unit ![1, 0, 0, 0] ![1, 1, 3, 704] inb_S2x4x3x704_S1x1x3x704_1_0_0_0)) (View.ld x4 (Rect.unit ![4, 0, 0] ![1, 704, 1024] inb_S8x704x1024_S1x704x1024_4_0_0)))
    (wCat (wDc (View.ld x0 (Rect.unit ![0, 0] ![256, 1024] inb_S256x1024_S256x1024_0_0)) (View.ld x6 (Rect.unit ![1, 0, 0] ![1, 704, 1024] inb_S4x704x1024_S1x704x1024_1_0_0)) (View.ld x2 (Rect.unit ![5, 0, 0] ![1, 256, 704] inb_S8x256x704_S1x256x704_5_0_0))) (View.ld xs0 (Rect.unit ![1, 0, 0] ![1, 8, 704] inb_S8x8x704_S1x8x704_1_0_0))) (View.ld x5 (Rect.unit ![0, 1, 0, 0] ![1, 1, 3, 704] inb_S2x4x3x704_S1x1x3x704_0_1_0_0)) (View.ld x4 (Rect.unit ![1, 0, 0] ![1, 704, 1024] inb_S8x704x1024_S1x704x1024_1_0_0)))
    (wCat (wDc (View.ld x0 (Rect.unit ![0, 0] ![256, 1024] inb_S256x1024_S256x1024_0_0)) (View.ld x6 (Rect.unit ![1, 0, 0] ![1, 704, 1024] inb_S4x704x1024_S1x704x1024_1_0_0)) (View.ld x2 (Rect.unit ![1, 0, 0] ![1, 256, 704] inb_S8x256x704_S1x256x704_1_0_0))) (View.ld xs0 (Rect.unit ![5, 0, 0] ![1, 8, 704] inb_S8x8x704_S1x8x704_5_0_0))) (View.ld x5 (Rect.unit ![1, 1, 0, 0] ![1, 1, 3, 704] inb_S2x4x3x704_S1x1x3x704_1_1_0_0)) (View.ld x4 (Rect.unit ![5, 0, 0] ![1, 704, 1024] inb_S8x704x1024_S1x704x1024_5_0_0)))
    (wCat (wDc (View.ld x0 (Rect.unit ![0, 0] ![256, 1024] inb_S256x1024_S256x1024_0_0)) (View.ld x6 (Rect.unit ![2, 0, 0] ![1, 704, 1024] inb_S4x704x1024_S1x704x1024_2_0_0)) (View.ld x2 (Rect.unit ![6, 0, 0] ![1, 256, 704] inb_S8x256x704_S1x256x704_6_0_0))) (View.ld xs0 (Rect.unit ![2, 0, 0] ![1, 8, 704] inb_S8x8x704_S1x8x704_2_0_0))) (View.ld x5 (Rect.unit ![0, 2, 0, 0] ![1, 1, 3, 704] inb_S2x4x3x704_S1x1x3x704_0_2_0_0)) (View.ld x4 (Rect.unit ![2, 0, 0] ![1, 704, 1024] inb_S8x704x1024_S1x704x1024_2_0_0)))
    (wCat (wDc (View.ld x0 (Rect.unit ![0, 0] ![256, 1024] inb_S256x1024_S256x1024_0_0)) (View.ld x6 (Rect.unit ![2, 0, 0] ![1, 704, 1024] inb_S4x704x1024_S1x704x1024_2_0_0)) (View.ld x2 (Rect.unit ![2, 0, 0] ![1, 256, 704] inb_S8x256x704_S1x256x704_2_0_0))) (View.ld xs0 (Rect.unit ![6, 0, 0] ![1, 8, 704] inb_S8x8x704_S1x8x704_6_0_0))) (View.ld x5 (Rect.unit ![1, 2, 0, 0] ![1, 1, 3, 704] inb_S2x4x3x704_S1x1x3x704_1_2_0_0)) (View.ld x4 (Rect.unit ![6, 0, 0] ![1, 704, 1024] inb_S8x704x1024_S1x704x1024_6_0_0)))
    (wCat (wDc (View.ld x0 (Rect.unit ![0, 0] ![256, 1024] inb_S256x1024_S256x1024_0_0)) (View.ld x6 (Rect.unit ![3, 0, 0] ![1, 704, 1024] inb_S4x704x1024_S1x704x1024_3_0_0)) (View.ld x2 (Rect.unit ![7, 0, 0] ![1, 256, 704] inb_S8x256x704_S1x256x704_7_0_0))) (View.ld xs0 (Rect.unit ![3, 0, 0] ![1, 8, 704] inb_S8x8x704_S1x8x704_3_0_0))) (View.ld x5 (Rect.unit ![0, 3, 0, 0] ![1, 1, 3, 704] inb_S2x4x3x704_S1x1x3x704_0_3_0_0)) (View.ld x4 (Rect.unit ![3, 0, 0] ![1, 704, 1024] inb_S8x704x1024_S1x704x1024_3_0_0)))
    (wCat (wDc (View.ld x0 (Rect.unit ![0, 0] ![256, 1024] inb_S256x1024_S256x1024_0_0)) (View.ld x6 (Rect.unit ![3, 0, 0] ![1, 704, 1024] inb_S4x704x1024_S1x704x1024_3_0_0)) (View.ld x2 (Rect.unit ![3, 0, 0] ![1, 256, 704] inb_S8x256x704_S1x256x704_3_0_0))) (View.ld xs0 (Rect.unit ![7, 0, 0] ![1, 8, 704] inb_S8x8x704_S1x8x704_7_0_0))) (View.ld x5 (Rect.unit ![1, 3, 0, 0] ![1, 1, 3, 704] inb_S2x4x3x704_S1x1x3x704_1_3_0_0)) (View.ld x4 (Rect.unit ![7, 0, 0] ![1, 704, 1024] inb_S8x704x1024_S1x704x1024_7_0_0)))

/-- It is the sum over the shards. -/
theorem Rows.dh (h : Rows x0 x2 x6 xs0 C) (x4 : Vec Ideal S8x704x1024 .bf16) (x5 : Vec Ideal S2x4x3x704 .f32) (r : Fin 256) (k : Fin 1024) :
    dhBlk x0 x2 x4 x5 x6 xs0 (ix2 r k) = dhAt x4 x5 C r.val k := by
  have one (s : Fin 2) (d : Fin 4) (j e : Fin 8) (hs : s.val = j.val / 4) (hd : d.val = j.val % 4) (he : e.val = (j.val + 4) % 8)
      (i6 i2 is i5 i4) (acc : FVec Ideal S256x1024 .f32) :
      wDh acc (wCat (wDc (View.ld x0 (Rect.unit ![0, 0] ![256, 1024] inb_S256x1024_S256x1024_0_0)) (View.ld x6 (Rect.unit ![d.val, 0, 0] ![1, 704, 1024] i6))
        (View.ld x2 (Rect.unit ![e.val, 0, 0] ![1, 256, 704] i2))) (View.ld xs0 (Rect.unit ![j.val, 0, 0] ![1, 8, 704] is)))
        (View.ld x5 (Rect.unit ![s.val, d.val, 0, 0] ![1, 1, 3, 704] i5)) (View.ld x4 (Rect.unit ![j.val, 0, 0] ![1, 704, 1024] i4)) (ix2 r k)
        = acc (ix2 r k) + ∑ n : Fin 704, daAt x5 C j r.val n * x4 (ix3 j n k) := by
    rw [wDh_apply]
    refine congrArg (acc (ix2 r k) + ·) (Finset.sum_congr rfl fun n _ => ?_)
    rw [wDa_of x5 s d j hs hd _ _ (h.cat d j e hd he _ _ _ _ (fun r k => by pointwise) (fun n k => by pointwise)
      (fun r n => by pointwise) (fun r n => by pointwise)) (fun q n => by pointwise)]
    pointwise
  have z : (broadcast S256x1024 (FloatOps.ofBits .f32 0x00000000#32) : FVec Ideal S256x1024 .f32) (ix2 r k) = 0 := by pointwise
  have e : dhBlk x0 x2 x4 x5 x6 xs0 (ix2 r k) = 0 + (∑ n : Fin 704, daAt x5 C 0 r.val n * x4 (ix3 0 n k)) + (∑ n : Fin 704, daAt x5 C 4 r.val n * x4 (ix3 4 n k)) + (∑ n : Fin 704, daAt x5 C 1 r.val n * x4 (ix3 1 n k)) + (∑ n : Fin 704, daAt x5 C 5 r.val n * x4 (ix3 5 n k)) + (∑ n : Fin 704, daAt x5 C 2 r.val n * x4 (ix3 2 n k)) + (∑ n : Fin 704, daAt x5 C 6 r.val n * x4 (ix3 6 n k)) + (∑ n : Fin 704, daAt x5 C 3 r.val n * x4 (ix3 3 n k)) + (∑ n : Fin 704, daAt x5 C 7 r.val n * x4 (ix3 7 n k)) :=
    ((one 1 3 7 3 rfl rfl rfl inb_S4x704x1024_S1x704x1024_3_0_0 inb_S8x256x704_S1x256x704_3_0_0 inb_S8x8x704_S1x8x704_7_0_0 inb_S2x4x3x704_S1x1x3x704_1_3_0_0 inb_S8x704x1024_S1x704x1024_7_0_0 _).trans
    (congrArg (· + (∑ n : Fin 704, daAt x5 C 7 r.val n * x4 (ix3 7 n k))) ((one 0 3 3 7 rfl rfl rfl inb_S4x704x1024_S1x704x1024_3_0_0 inb_S8x256x704_S1x256x704_7_0_0 inb_S8x8x704_S1x8x704_3_0_0 inb_S2x4x3x704_S1x1x3x704_0_3_0_0 inb_S8x704x1024_S1x704x1024_3_0_0 _).trans
    (congrArg (· + (∑ n : Fin 704, daAt x5 C 3 r.val n * x4 (ix3 3 n k))) ((one 1 2 6 2 rfl rfl rfl inb_S4x704x1024_S1x704x1024_2_0_0 inb_S8x256x704_S1x256x704_2_0_0 inb_S8x8x704_S1x8x704_6_0_0 inb_S2x4x3x704_S1x1x3x704_1_2_0_0 inb_S8x704x1024_S1x704x1024_6_0_0 _).trans
    (congrArg (· + (∑ n : Fin 704, daAt x5 C 6 r.val n * x4 (ix3 6 n k))) ((one 0 2 2 6 rfl rfl rfl inb_S4x704x1024_S1x704x1024_2_0_0 inb_S8x256x704_S1x256x704_6_0_0 inb_S8x8x704_S1x8x704_2_0_0 inb_S2x4x3x704_S1x1x3x704_0_2_0_0 inb_S8x704x1024_S1x704x1024_2_0_0 _).trans
    (congrArg (· + (∑ n : Fin 704, daAt x5 C 2 r.val n * x4 (ix3 2 n k))) ((one 1 1 5 1 rfl rfl rfl inb_S4x704x1024_S1x704x1024_1_0_0 inb_S8x256x704_S1x256x704_1_0_0 inb_S8x8x704_S1x8x704_5_0_0 inb_S2x4x3x704_S1x1x3x704_1_1_0_0 inb_S8x704x1024_S1x704x1024_5_0_0 _).trans
    (congrArg (· + (∑ n : Fin 704, daAt x5 C 5 r.val n * x4 (ix3 5 n k))) ((one 0 1 1 5 rfl rfl rfl inb_S4x704x1024_S1x704x1024_1_0_0 inb_S8x256x704_S1x256x704_5_0_0 inb_S8x8x704_S1x8x704_1_0_0 inb_S2x4x3x704_S1x1x3x704_0_1_0_0 inb_S8x704x1024_S1x704x1024_1_0_0 _).trans
    (congrArg (· + (∑ n : Fin 704, daAt x5 C 1 r.val n * x4 (ix3 1 n k))) ((one 1 0 4 0 rfl rfl rfl inb_S4x704x1024_S1x704x1024_0_0_0 inb_S8x256x704_S1x256x704_0_0_0 inb_S8x8x704_S1x8x704_4_0_0 inb_S2x4x3x704_S1x1x3x704_1_0_0_0 inb_S8x704x1024_S1x704x1024_4_0_0 _).trans
    (congrArg (· + (∑ n : Fin 704, daAt x5 C 4 r.val n * x4 (ix3 4 n k))) ((one 0 0 0 4 rfl rfl rfl inb_S4x704x1024_S1x704x1024_0_0_0 inb_S8x256x704_S1x256x704_4_0_0 inb_S8x8x704_S1x8x704_0_0_0 inb_S2x4x3x704_S1x1x3x704_0_0_0_0 inb_S8x704x1024_S1x704x1024_0_0_0 _).trans
    (congrArg (· + (∑ n : Fin 704, daAt x5 C 0 r.val n * x4 (ix3 0 n k))) z))))))))))))))))
  rw [e, dhAt, Fin.sum_univ_eight]
  abel

/-- The block of the rows' gradient. -/
def dxOf (x0 : Vec Ideal S256x1024 .f32) (x3 : Vec Ideal S256x1024 .f32) (x4 : Vec Ideal S8x704x1024 .bf16) (x5 : Vec Ideal S2x4x3x704 .f32)
    (x7 : Vec Ideal S1x1024 .f32) (C : Fin 8 → ℕ → Fin 704 → EReal) : Vec Ideal S256x1024 .f32 :=
  fun y => dxAt (fun k => x0 (ix2 (y 0) k)) (dhAt x4 x5 C (y 0).val) (fun k => x3 (ix2 (y 0) k)) (fun k => x7 (ix2 0 k)) (y 1)

/-- The running gradient of the gain with a block's sums added. -/
def dgOf (x3 : Vec Ideal S256x1024 .f32) (x4 : Vec Ideal S8x704x1024 .bf16) (x5 : Vec Ideal S2x4x3x704 .f32) (xo : Vec Ideal S8x1024 .f32)
    (C : Fin 8 → ℕ → Fin 704 → EReal) : Vec Ideal S8x1024 .f32 :=
  fun y => xo y + if (y 0).val = 0 then
    ∑ r : Fin 256, dhAt x4 x5 C r.val (y 1) * (x3 (ix2 r (y 1)) * invAt fun k => x3 (ix2 r k)) else 0

/-- The last store of the rows' gradient. -/
theorem Rows.dx (h : Rows x0 x2 x6 xs0 C) (x3 : Vec Ideal S256x1024 .f32) (x4 : Vec Ideal S8x704x1024 .bf16)
    (x5 : Vec Ideal S2x4x3x704 .f32) (x7 : Vec Ideal S1x1024 .f32) (x : S256x1024.Idx) :
    wDx (View.ld x0 (Rect.unit ![0, 0] ![256, 1024] inb_S256x1024_S256x1024_0_0))
      (dhBlk x0 x2 x4 x5 x6 xs0) (View.ld x3 (Rect.unit ![0, 0] ![256, 1024] inb_S256x1024_S256x1024_0_0)) (View.ld x7 (Rect.unit ![0, 0] ![1, 1024] inb_S1x1024_S1x1024_0_0)) x
      = View.ld (dxOf x0 x3 x4 x5 x7 C) (Rect.unit ![0, 0] ![256, 1024] inb_S256x1024_S256x1024_0_0) x := by
  obtain ⟨r, k, rfl⟩ : ∃ r k, x = ix2 r k := ⟨x 0, x 1, eq_ix2 x⟩
  rw [wDx_apply]
  pointwise [dxOf, h.dh]

/-- The last store of the gain's gradient. -/
theorem Rows.dg (h : Rows x0 x2 x6 xs0 C) (x3 : Vec Ideal S256x1024 .f32) (x4 : Vec Ideal S8x704x1024 .bf16)
    (x5 : Vec Ideal S2x4x3x704 .f32) (xo11 : Vec Ideal S8x1024 .f32) (x : S8x1024.Idx) :
    wDg (dhBlk x0 x2 x4 x5 x6 xs0) (View.ld x3 (Rect.unit ![0, 0] ![256, 1024] inb_S256x1024_S256x1024_0_0))
      (View.ld xo11 (Rect.unit ![0, 0] ![8, 1024] inb_S8x1024_S8x1024_0_0)) x
      = View.ld (dgOf x3 x4 x5 xo11 C) (Rect.unit ![0, 0] ![8, 1024] inb_S8x1024_S8x1024_0_0) x := by
  obtain ⟨r, k, rfl⟩ : ∃ r k, x = ix2 r k := ⟨x 0, x 1, eq_ix2 x⟩
  rw [wDg_apply]
  pointwise [dgOf, h.dh]

end Cert.Ffn

end
-- ==== Proof.Ffn.RealNums.lean ====
module

public import proofs.«01_k».proof.Proof.Ffn.HostAt
public import proofs.«01_k».proof.Proof.Ffn.Block

@[expose] public section

noncomputable section

namespace Cert.Ffn

open Idealize.ShloMosaic

/-! Extended reals that are real numbers, and the two identities that need them. -/

/-- The value is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.tanh {x : EReal} (hx : IsReal x) : IsReal (Ideal.tanh x) := by
  obtain ⟨a, rfl⟩ := hx
  exact ⟨Real.tanh a, rfl⟩

/-- A sum of real numbers, taken either way. -/
theorem coe_sum_real {n : ℕ} (g : Fin n → ℝ) : ((∑ i, g i : ℝ) : EReal) = ∑ i, (g i : EReal) :=
  map_sum (⟨⟨Real.toEReal, EReal.coe_zero⟩, EReal.coe_add⟩ : ℝ →+ EReal) g Finset.univ

theorem IsReal.sum {n : ℕ} {f : Fin n → EReal} (hf : ∀ i, IsReal (f i)) : IsReal (∑ i, f i) := by
  choose g hg using hf
  refine ⟨∑ i, g i, ?_⟩
  rw [coe_sum_real]
  exact Finset.sum_congr rfl fun i _ => hg i

/-- A value below infinity in size is a real number. -/
theorem IsReal.of_abs_lt {x : EReal} (h : max x (-x) < ⊤) : IsReal x := by
  induction x with
  | bot => simp at h
  | top => simp at h
  | coe r => exact ⟨r, rfl⟩

theorem isReal_of_bits : IsReal (Ideal.ofBits .f32 0x3F4C422A#32) ∧ IsReal (Ideal.ofBits .f32 0x3D372713#32)
    ∧ IsReal (Ideal.ofBits .f32 0x3F000000#32) ∧ IsReal (Ideal.ofBits .f32 0x40400000#32) := by
  refine ⟨?_, ?_, ?_, ?_⟩ <;> simp only [Ideal.ofBits, Ideal.ieee] <;> norm_num <;> exact ⟨_, rfl⟩

theorem bits_one : Ideal.ofBits .f32 0x3F800000#32 = 1 := by
  simp [Ideal.ofBits, Ideal.ieee, -EReal.coe_mul]
  norm_num

theorem bits_1024 : Ideal.ofBits .f32 0x44800000#32 = ((1024 : ℝ) : EReal) := by
  simp [Ideal.ofBits, Ideal.ieee, -EReal.coe_mul]
  norm_num

theorem bits_neg_half : Ideal.ofBits .f32 0xBF000000#32 = ((-(1 / 2) : ℝ) : EReal) := by
  simp [Ideal.ofBits, Ideal.ieee, -EReal.coe_mul]
  norm_num

/-- The small number under the root is positive. -/
theorem bits_eps : ∃ e : ℝ, 0 < e ∧ Ideal.ofBits .f32 0x358637BD#32 = (e : EReal) := by
  refine ⟨(2 ^ 23 + 407485 : ℕ) * (2 : ℝ) ^ (107 - 127 - 23 : ℤ), by positivity, ?_⟩
  simp [Ideal.ofBits, Ideal.ieee, -EReal.coe_mul]

theorem IsReal.inner {g : EReal} (hg : IsReal g) : IsReal (sInner g) :=
  isReal_of_bits.1.mul (hg.add (isReal_of_bits.2.1.mul ((hg.mul hg).mul hg)))

theorem IsReal.sig {g : EReal} (hg : IsReal g) : IsReal (sSig g) :=
  isReal_of_bits.2.2.1.mul ((bits_one ▸ IsReal.one).add hg.inner.tanh)

theorem IsReal.sIn {g w : EReal} (hg : IsReal g) (hw : IsReal w) : IsReal (sIn g w) :=
  isReal_of_bits.1.mul ((isReal_of_bits.2.2.1.mul (hg.mul hw)).mul
    (((bits_one ▸ IsReal.one).add hg.inner.tanh).mul ((bits_one ▸ IsReal.one).sub hg.inner.tanh)))

theorem IsReal.sDg {g w : EReal} (hg : IsReal g) (hw : IsReal w) : IsReal (sDg g w) :=
  ((hw.mul hg.sig).add (hg.sIn hw)).add ((isReal_of_bits.2.1.mul (hg.sIn hw)).mul (isReal_of_bits.2.2.2.mul (hg.mul hg)))

/-- The gate's gradient is linear in what it is scaled by. -/
theorem sDg_mul {d g u : EReal} (hd : IsReal d) (hg : IsReal g) (hu : IsReal u) :
    d * sDg g (Ideal.ofBits .f32 0x3F800000#32 * u) = sDg g (d * u) := by
  obtain ⟨a, ha⟩ := isReal_of_bits.1
  obtain ⟨b, hb⟩ := isReal_of_bits.2.1
  obtain ⟨c, hc⟩ := isReal_of_bits.2.2.1
  obtain ⟨e, he⟩ := isReal_of_bits.2.2.2
  obtain ⟨s, hs⟩ := hg.sig
  obtain ⟨t, ht⟩ := hg.inner.tanh
  obtain ⟨d, rfl⟩ := hd
  obtain ⟨g, rfl⟩ := hg
  obtain ⟨u, rfl⟩ := hu
  unfold Cert.Ffn.sDg Cert.Ffn.sIn
  rw [bits_one, ha, hb, hc, he, hs, ht]
  norm_cast
  ring

/-- The inverse root of a row's mean square plus a little, squared, is the inverse of that mean. -/
theorem rsqrt_pos {v : ℝ} (hv : 0 < v) : ∃ r : ℝ, Ideal.rsqrt (v : EReal) = (r : EReal) ∧ r * r * v = 1 := by
  refine ⟨(Real.sqrt v)⁻¹, ?_, ?_⟩
  · rw [Ideal.rsqrt_coe, if_neg (not_lt.mpr hv.le), if_neg hv.ne']
  · rw [← mul_inv, Real.mul_self_sqrt hv.le, inv_mul_cancel₀ hv.ne']

/-- The mean of squares plus a little is a positive real number. -/
theorem meanSq_pos {x : Fin 1024 → EReal} (hx : ∀ k, IsReal (x k)) :
    ∃ v : ℝ, 0 < v ∧ Ideal.div (∑ k, x k * x k) (Ideal.ofBits .f32 0x44800000#32) + Ideal.ofBits .f32 0x358637BD#32 = (v : EReal) := by
  choose y hy using hx
  obtain ⟨e, he, hb⟩ := bits_eps
  refine ⟨(∑ k, y k * y k) * (1 / 1024) + e, ?_, ?_⟩
  · have : 0 ≤ ∑ k, y k * y k := Finset.sum_nonneg fun k _ => mul_self_nonneg _
    positivity
  · have e3 : ∑ k, x k * x k = ((∑ k, y k * y k : ℝ) : EReal) := by
      rw [coe_sum_real]
      exact Finset.sum_congr rfl fun k _ => by rw [hy k, EReal.coe_mul]
    rw [hb, bits_1024, Ideal.div_coe (by norm_num), e3, EReal.coe_add, EReal.coe_mul]

theorem IsReal.inv {x : Fin 1024 → EReal} (hx : ∀ k, IsReal (x k)) : IsReal (invAt x) := by
  obtain ⟨v, hv, e⟩ := meanSq_pos hx
  obtain ⟨r, hr, _⟩ := rsqrt_pos hv
  unfold invAt
  rw [e]
  exact ⟨r, hr⟩

/-- The gradient of a row under the normalisation, in the two orders. -/
theorem dx_eq {dy dh x g : Fin 1024 → EReal} (hdy : ∀ k, IsReal (dy k)) (hdh : ∀ k, IsReal (dh k)) (hx : ∀ k, IsReal (x k)) (hg : ∀ k, IsReal (g k))
    (v : EReal) (hv : v = Ideal.div (∑ k, x k * x k) (Ideal.ofBits .f32 0x44800000#32) + Ideal.ofBits .f32 0x358637BD#32) (k : Fin 1024) :
    dxAt dy dh x g k = dy k + (dh k * g k * invAt x
      + x k * Ideal.div ((∑ l, x l * (dh l * g l)) * (Ideal.ofBits .f32 0xBF000000#32 * Ideal.div (invAt x) v)) (Ideal.ofBits .f32 0x44800000#32)
      + Ideal.div ((∑ l, x l * (dh l * g l)) * (Ideal.ofBits .f32 0xBF000000#32 * Ideal.div (invAt x) v)) (Ideal.ofBits .f32 0x44800000#32) * x k) := by
  obtain ⟨w, hw, e⟩ := meanSq_pos hx
  obtain ⟨r, hr, hrr⟩ := rsqrt_pos hw
  have hi : invAt x = (r : EReal) := by unfold invAt; rw [e]; exact hr
  choose y hy using hdy
  choose h hh using hdh
  choose z hz using hx
  choose q hq using hg
  have e1 : ∑ l, x l * (dh l * g l) = ((∑ l, z l * (h l * q l) : ℝ) : EReal) := by
    rw [coe_sum_real]
    exact Finset.sum_congr rfl fun l _ => by rw [hz, hh, hq, EReal.coe_mul, EReal.coe_mul]
  have e2 : ∑ l, dh l * g l * (x l * (r : EReal)) = (((∑ l, z l * (h l * q l)) * r : ℝ) : EReal) := by
    rw [Finset.sum_mul, coe_sum_real]
    exact Finset.sum_congr rfl fun l _ => by rw [hz, hh, hq]; norm_cast; ring
  unfold dxAt
  rw [hv, e, hi, e1, e2, bits_1024, bits_neg_half, Ideal.div_coe (by norm_num), Ideal.div_coe (by norm_num), Ideal.div_coe hw.ne', hy, hh, hz, hq]
  have hw' : 1 / w = r * r := by field_simp; linarith
  rw [hw']
  norm_cast
  ring

end Cert.Ffn
-- ==== Proof.Ffn.RealVals.lean ====
module

public import proofs.«01_k».proof.Proof.Ffn.RefAt
public import proofs.«01_k».proof.Proof.Ffn.RealNums

@[expose] public section

set_option maxRecDepth 16384

noncomputable section

namespace Cert.Ffn

open Idealize.ShloMosaic Idealize.ShloMosaic.TcCoe Cert.ReferenceIdeal Cert.ReferenceIdeal.Read

/-! On finite arguments the reference's values are real numbers. -/

/-- Every entry is a real number. -/
def AllReal {s : Shape} (v : FVec Ideal s .f32) : Prop := ∀ i, IsReal (v i)

variable (x0 x1 : (⟨S8192x1024, .f32⟩ : BufTy).Contents (Elt Ideal)) (x2 : (⟨S1x1024, .f32⟩ : BufTy).Contents (Elt Ideal))
  (x3 : (⟨S1x1024x5632, .f32⟩ : BufTy).Contents (Elt Ideal)) (x4 : (⟨S1x3x5632, .f32⟩ : BufTy).Contents (Elt Ideal))
  (x5 : (⟨S1x5632, .f32⟩ : BufTy).Contents (Elt Ideal)) (x6 : (⟨S1x2816x1024, .f32⟩ : BufTy).Contents (Elt Ideal))

theorem real_v8 (h1 : AllReal x1) : AllReal (s := S8192x1) (val_main_v8 (F := Ideal) x1) := fun i => by
  obtain ⟨R, q, rfl⟩ : ∃ (R : Fin 8192) (q : Fin 1), i = ix2 R q := ⟨i 0, i 1, eq_ix2 i⟩
  rw [v8_apply]
  exact IsReal.inv fun k => h1 _

theorem real_v16 (h1 : AllReal x1) (h2 : AllReal x2) : AllReal (s := S8192x1024) (val_main_v16 (F := Ideal) x1 x2) := fun i => by
  rw [val_main_v16_apply, val_main_v13_apply, val_main_v12_apply, val_main_v15_apply, val_main_v14_apply, val_main_v0_apply]
  exact ((h1 _).mul (real_v8 x1 h1 _)).mul (h2 _)

theorem real_v18 (h1 : AllReal x1) (h2 : AllReal x2) (h3 : AllReal x3) : AllReal (s := S8192x5632) (val_main_v18 (F := Ideal) x1 x2 x3) := fun i => by
  rw [val_main_v18_apply]
  refine IsReal.sum fun k => (real_v16 x1 x2 h1 h2 _).mul ?_
  rw [val_main_v17_apply]
  exact h3 _

theorem real_v22 (h1 : AllReal x1) (h2 : AllReal x2) (h3 : AllReal x3) : AllReal (s := S8194x5632) (val_main_v22 (F := Ideal) x1 x2 x3) := fun i => by
  obtain ⟨R, q, rfl⟩ : ∃ (R : Fin 8194) (q : Fin 5632), i = ix2 R q := ⟨i 0, i 1, eq_ix2 i⟩
  rw [v22_apply]
  split
  · exact IsReal.zero
  · exact real_v18 x1 x2 x3 h1 h2 h3 _

theorem real_v46 (h1 : AllReal x1) (h2 : AllReal x2) (h3 : AllReal x3) (h4 : AllReal x4) (h5 : AllReal x5) :
    AllReal (s := S8192x5632) (val_main_v46 (F := Ideal) x1 x2 x3 x4 x5) := fun i => by
  rw [val_main_v46_apply, val_main_v43_apply, val_main_v36_apply, val_main_v29_apply, val_main_v35_apply, val_main_v42_apply,
    val_main_v24_apply, val_main_v30_apply, val_main_v37_apply, val_main_v28_apply, val_main_v34_apply, val_main_v41_apply,
    val_main_v27_apply, val_main_v33_apply, val_main_v40_apply, val_main_v26_apply, val_main_v32_apply, val_main_v39_apply,
    val_main_v25_apply, val_main_v31_apply, val_main_v38_apply, val_main_v19_apply, val_main_v19_apply, val_main_v19_apply,
    val_main_v45_apply, val_main_v44_apply, val_main_v20_apply]
  have h := real_v22 x1 x2 x3 h1 h2 h3
  exact ((((h _).mul (h4 _)).add ((h _).mul (h4 _))).add ((h _).mul (h4 _))).add (h5 _)

theorem real_v47 (h1 : AllReal x1) (h2 : AllReal x2) (h3 : AllReal x3) (h4 : AllReal x4) (h5 : AllReal x5) :
    AllReal (s := S8192x2816) (val_main_v47 (F := Ideal) x1 x2 x3 x4 x5) := fun i => by
  rw [val_main_v47_apply]
  exact real_v46 x1 x2 x3 x4 x5 h1 h2 h3 h4 h5 _

theorem real_v48 (h1 : AllReal x1) (h2 : AllReal x2) (h3 : AllReal x3) (h4 : AllReal x4) (h5 : AllReal x5) :
    AllReal (s := S8192x2816) (val_main_v48 (F := Ideal) x1 x2 x3 x4 x5) := fun i => by
  rw [val_main_v48_apply]
  exact real_v46 x1 x2 x3 x4 x5 h1 h2 h3 h4 h5 _

theorem real_v75 (h0 : AllReal x0) (h6 : AllReal x6) : AllReal (s := S8192x2816) (val_main_v75 (F := Ideal) x0 x6) := fun i => by
  obtain ⟨R, q, rfl⟩ : ∃ (R : Fin 8192) (q : Fin 2816), i = ix2 R q := ⟨i 0, i 1, eq_ix2 i⟩
  rw [v75_apply]
  exact IsReal.sum fun k => (h0 _).mul (h6 _)

theorem real_v91 (h0 : AllReal x0) (h1 : AllReal x1) (h2 : AllReal x2) (h3 : AllReal x3) (h4 : AllReal x4) (h5 : AllReal x5) (h6 : AllReal x6) :
    AllReal (s := S8192x5632) (val_main_v91 (F := Ideal) x0 x1 x2 x3 x4 x5 x6) := fun i => by
  have hg := real_v47 x1 x2 x3 x4 x5 h1 h2 h3 h4 h5
  have hu := real_v48 x1 x2 x3 x4 x5 h1 h2 h3 h4 h5
  have hd := real_v75 x0 x6 h0 h6
  obtain ⟨R, q, rfl⟩ : ∃ (R : Fin 8192) (q : Fin 5632), i = ix2 R q := ⟨i 0, i 1, eq_ix2 i⟩
  rw [v91_apply]
  split
  · rw [v90_apply]
    exact (hg _).sDg ((hd _).mul (hu _))
  · rw [v77_apply]
    exact ((hg _).mul (hg _).sig).mul (hd _)

theorem real_v127 (h0 : AllReal x0) (h1 : AllReal x1) (h2 : AllReal x2) (h3 : AllReal x3) (h4 : AllReal x4) (h5 : AllReal x5) (h6 : AllReal x6) :
    AllReal (s := S8192x5632) (val_main_v127 (F := Ideal) x0 x1 x2 x3 x4 x5 x6) := fun i => by
  have h := real_v91 x0 x1 x2 x3 x4 x5 x6 h0 h1 h2 h3 h4 h5 h6
  obtain ⟨R, q, rfl⟩ : ∃ (R : Fin 8192) (q : Fin 5632), i = ix2 R q := ⟨i 0, i 1, eq_ix2 i⟩
  rw [v127_apply]
  refine (((h _).mul (h4 _)).add ?_).add ?_
  · split
    · exact (h _).mul (h4 _)
    · exact IsReal.zero
  · split
    · exact (h _).mul (h4 _)
    · exact IsReal.zero

theorem real_v132 (h0 : AllReal x0) (h1 : AllReal x1) (h2 : AllReal x2) (h3 : AllReal x3) (h4 : AllReal x4) (h5 : AllReal x5) (h6 : AllReal x6) :
    AllReal (s := S8192x1024) (val_main_v132 (F := Ideal) x0 x1 x2 x3 x4 x5 x6) := fun i => by
  obtain ⟨R, q, rfl⟩ : ∃ (R : Fin 8192) (q : Fin 1024), i = ix2 R q := ⟨i 0, i 1, eq_ix2 i⟩
  rw [v132_apply]
  exact IsReal.sum fun k => (real_v127 x0 x1 x2 x3 x4 x5 x6 h0 h1 h2 h3 h4 h5 h6 _).mul (h3 _)

end Cert.Ffn
-- ==== Proof.Ffn.Blocks.lean ====
module

public import proofs.«01_k».proof.Proof.Gen.KernelIdeal.Frame
public import Idealize.ShloMosaic.Lib.Pipeline.ValueKit

@[expose] public section

set_option maxRecDepth 16384

noncomputable section

namespace Cert.Ffn

open Idealize.ShloMosaic Idealize.ShloMosaic.TcCoe Idealize.ShloMosaic.Tactic Cert.KernelIdeal Cert.KernelIdeal.Gen Idealize.SL.Sem

/-! The blocks that a grid point reads, as entries of the arrays that the kernel is given. -/

variable (m : (ℓ : Loc nD τ sig) → Buf (Elt Ideal) ℓ)

/-- Row `r` of the block of rows at point `t`, counted from the last block. -/
def row (t : Fin cfg0.N) (r : Fin 256) : Fin 8192 := ⟨256 * (31 - t.val) + r.val, by have := r.isLt; omega⟩

/-- A block of the upstream gradient, out of any array. -/
theorem read0 (c : Dev nD) (A : Buf (Elt Ideal) ((c : Thread nD τ).loc (Pipeline.arrRef spec0 0))) (t : Fin cfg0.N) (r : Fin 256) (k : Fin 1024) :
    ((cfg0.win 0).blk t).view.read (Elt Ideal) A (ix2 r k) = A (ix2 (row t r) k) := by
  have idx : ∀ t : Fin grid0.N, win0_0.index t = ![31 - t.val, 0] := by decide +kernel
  unfold row
  blk_ext [idx t]

/-- The block of the upstream gradient at a point. -/
theorem iblk0_apply (c : Dev nD) (t : Fin cfg0.N) (r : Fin 256) (k : Fin 1024) :
    iblk m c 0 t (ix2 r k) = V m c main_arg0 (ix2 (row t r) k) := read0 c (V m c main_arg0) t r k

/-- A block of the up projection, out of any array. -/
theorem read1 (c : Dev nD) (A : Buf (Elt Ideal) ((c : Thread nD τ).loc (Pipeline.arrRef spec0 1))) (t : Fin cfg0.N) (j : Fin 8) (r : Fin 256) (n : Fin 704) :
    ((cfg0.win 1).blk t).view.read (Elt Ideal) A (ix3 j r n) = A (ix3 j (row t r) n) := by
  have idx : ∀ t : Fin grid0.N, win0_1.index t = ![0, 31 - t.val, 0] := by decide +kernel
  unfold row
  blk_ext [idx t]

/-- The block of the up projection at a point. -/
theorem iblk1_apply (c : Dev nD) (t : Fin cfg0.N) (j : Fin 8) (r : Fin 256) (n : Fin 704) :
    iblk m c 1 t (ix3 j r n) = V m c main_v101 (ix3 j (row t r) n) := read1 c (V m c main_v101) t j r n

/-- A block of the gate factors, out of any array. -/
theorem read2 (c : Dev nD) (A : Buf (Elt Ideal) ((c : Thread nD τ).loc (Pipeline.arrRef spec0 2))) (t : Fin cfg0.N) (j : Fin 8) (r : Fin 256) (n : Fin 704) :
    ((cfg0.win 2).blk t).view.read (Elt Ideal) A (ix3 j r n) = A (ix3 j (row t r) n) := by
  have idx : ∀ t : Fin grid0.N, win0_2.index t = ![0, 31 - t.val, 0] := by decide +kernel
  unfold row
  blk_ext [idx t]

/-- The block of the gate factors at a point. -/
theorem iblk2_apply (c : Dev nD) (t : Fin cfg0.N) (j : Fin 8) (r : Fin 256) (n : Fin 704) :
    iblk m c 2 t (ix3 j r n) = V m c main_v87 (ix3 j (row t r) n) := read2 c (V m c main_v87) t j r n

/-- A block of the residual stream, out of any array. -/
theorem read3 (c : Dev nD) (A : Buf (Elt Ideal) ((c : Thread nD τ).loc (Pipeline.arrRef spec0 3))) (t : Fin cfg0.N) (r : Fin 256) (k : Fin 1024) :
    ((cfg0.win 3).blk t).view.read (Elt Ideal) A (ix2 r k) = A (ix2 (row t r) k) := by
  have idx : ∀ t : Fin grid0.N, win0_3.index t = ![31 - t.val, 0] := by decide +kernel
  unfold row
  blk_ext [idx t]

/-- The block of the residual stream at a point. -/
theorem iblk3_apply (c : Dev nD) (t : Fin cfg0.N) (r : Fin 256) (k : Fin 1024) :
    iblk m c 3 t (ix2 r k) = V m c main_arg1 (ix2 (row t r) k) := read3 c (V m c main_arg1) t r k

/-- The block of the up weights is the array, any array. -/
theorem read4 (c : Dev nD) (A : Buf (Elt Ideal) ((c : Thread nD τ).loc (Pipeline.arrRef spec0 4))) (t : Fin cfg0.N) (a : Fin 8) (b : Fin 704) (d : Fin 1024) :
    ((cfg0.win 4).blk t).view.read (Elt Ideal) A (ix3 a b d) = A (ix3 a b d) := by
  have idx : ∀ t : Fin grid0.N, win0_4.index t = ![0, 0, 0] := by decide +kernel
  blk_ext [idx t]

/-- The block of the up weights at a point. -/
theorem iblk4_apply (c : Dev nD) (t : Fin cfg0.N) (a : Fin 8) (b : Fin 704) (d : Fin 1024) :
    iblk m c 4 t (ix3 a b d) = V m c main_v91 (ix3 a b d) := read4 c (V m c main_v91) t a b d

/-- The block of the convolution taps is the array, any array. -/
theorem read5 (c : Dev nD) (A : Buf (Elt Ideal) ((c : Thread nD τ).loc (Pipeline.arrRef spec0 5))) (t : Fin cfg0.N) (a : Fin 2) (b : Fin 4) (d : Fin 3) (e : Fin 704) :
    ((cfg0.win 5).blk t).view.read (Elt Ideal) A (ix4 a b d e) = A (ix4 a b d e) := by
  have idx : ∀ t : Fin grid0.N, win0_5.index t = ![0, 0, 0, 0] := by decide +kernel
  blk_ext [idx t]

/-- The block of the convolution taps at a point. -/
theorem iblk5_apply (c : Dev nD) (t : Fin cfg0.N) (a : Fin 2) (b : Fin 4) (d : Fin 3) (e : Fin 704) :
    iblk m c 5 t (ix4 a b d e) = V m c main_v95 (ix4 a b d e) := read5 c (V m c main_v95) t a b d e

/-- The block of the down weights is the array, any array. -/
theorem read6 (c : Dev nD) (A : Buf (Elt Ideal) ((c : Thread nD τ).loc (Pipeline.arrRef spec0 6))) (t : Fin cfg0.N) (a : Fin 4) (b : Fin 704) (d : Fin 1024) :
    ((cfg0.win 6).blk t).view.read (Elt Ideal) A (ix3 a b d) = A (ix3 a b d) := by
  have idx : ∀ t : Fin grid0.N, win0_6.index t = ![0, 0, 0] := by decide +kernel
  blk_ext [idx t]

/-- The block of the down weights at a point. -/
theorem iblk6_apply (c : Dev nD) (t : Fin cfg0.N) (a : Fin 4) (b : Fin 704) (d : Fin 1024) :
    iblk m c 6 t (ix3 a b d) = V m c main_v98 (ix3 a b d) := read6 c (V m c main_v98) t a b d

/-- The block of the gains is the array, any array. -/
theorem read7 (c : Dev nD) (A : Buf (Elt Ideal) ((c : Thread nD τ).loc (Pipeline.arrRef spec0 7))) (t : Fin cfg0.N) (a : Fin 1) (b : Fin 1024) :
    ((cfg0.win 7).blk t).view.read (Elt Ideal) A (ix2 a b) = A (ix2 a b) := by
  have idx : ∀ t : Fin grid0.N, win0_7.index t = ![0, 0] := by decide +kernel
  blk_ext [idx t]

/-- The block of the gains at a point. -/
theorem iblk7_apply (c : Dev nD) (t : Fin cfg0.N) (a : Fin 1) (b : Fin 1024) :
    iblk m c 7 t (ix2 a b) = V m c main_arg2 (ix2 a b) := read7 c (V m c main_arg2) t a b

end Cert.Ffn
-- ==== Proof.Ffn.PointA.lean ====
module

public import proofs.«01_k».proof.Proof.Gen.KernelIdeal.Frame
public import proofs.«01_k».proof.Proof.Ffn.Block

@[expose] public section

set_option maxRecDepth 16384
set_option maxHeartbeats 400000

noncomputable section

namespace Cert.Ffn

open Idealize.ShloMosaic Idealize.ShloMosaic.TcCoe Idealize.ShloMosaic.Tactic Cert.KernelIdeal Cert.KernelIdeal.Gen Idealize.SL.Sem

/-! What the first point leaves in its outputs: the running sums and the kept rows start from zero. -/

/-- The eight shards' kept rows are the whole block. -/
theorem keep_cover (w7 w3 w6 w2 w5 w1 w4 w0 : Vec Ideal S1x8x704 .f32) (y : S8x8x704.Idx) :
    ∃ p ∈ ([⟨Rect.unit ![7, 0, 0] ![1, 8, 704] inb_S8x8x704_S1x8x704_7_0_0, w7⟩,
      ⟨Rect.unit ![3, 0, 0] ![1, 8, 704] inb_S8x8x704_S1x8x704_3_0_0, w3⟩,
      ⟨Rect.unit ![6, 0, 0] ![1, 8, 704] inb_S8x8x704_S1x8x704_6_0_0, w6⟩,
      ⟨Rect.unit ![2, 0, 0] ![1, 8, 704] inb_S8x8x704_S1x8x704_2_0_0, w2⟩,
      ⟨Rect.unit ![5, 0, 0] ![1, 8, 704] inb_S8x8x704_S1x8x704_5_0_0, w5⟩,
      ⟨Rect.unit ![1, 0, 0] ![1, 8, 704] inb_S8x8x704_S1x8x704_1_0_0, w1⟩,
      ⟨Rect.unit ![4, 0, 0] ![1, 8, 704] inb_S8x8x704_S1x8x704_4_0_0, w4⟩,
      ⟨Rect.unit ![0, 0, 0] ![1, 8, 704] inb_S8x8x704_S1x8x704_0_0_0, w0⟩] : List (View.Piece (Elt Ideal) S8x8x704 .f32)), y ∈ p.1.set :=
  View.cover_of_tiledL (s := S8x8x704) _ S1x8x704.size (by sl_kernel_rfl) y

/-- The eight shards' sums are the whole block. -/
theorem stat_cover (w7 w3 w6 w2 w5 w1 w4 w0 : Vec Ideal S1x1x8x704 .f32) (y : S2x4x8x704.Idx) :
    ∃ p ∈ ([⟨Rect.unit ![1, 3, 0, 0] ![1, 1, 8, 704] inb_S2x4x8x704_S1x1x8x704_1_3_0_0, w7⟩,
      ⟨Rect.unit ![0, 3, 0, 0] ![1, 1, 8, 704] inb_S2x4x8x704_S1x1x8x704_0_3_0_0, w3⟩,
      ⟨Rect.unit ![1, 2, 0, 0] ![1, 1, 8, 704] inb_S2x4x8x704_S1x1x8x704_1_2_0_0, w6⟩,
      ⟨Rect.unit ![0, 2, 0, 0] ![1, 1, 8, 704] inb_S2x4x8x704_S1x1x8x704_0_2_0_0, w2⟩,
      ⟨Rect.unit ![1, 1, 0, 0] ![1, 1, 8, 704] inb_S2x4x8x704_S1x1x8x704_1_1_0_0, w5⟩,
      ⟨Rect.unit ![0, 1, 0, 0] ![1, 1, 8, 704] inb_S2x4x8x704_S1x1x8x704_0_1_0_0, w1⟩,
      ⟨Rect.unit ![1, 0, 0, 0] ![1, 1, 8, 704] inb_S2x4x8x704_S1x1x8x704_1_0_0_0, w4⟩,
      ⟨Rect.unit ![0, 0, 0, 0] ![1, 1, 8, 704] inb_S2x4x8x704_S1x1x8x704_0_0_0_0, w0⟩] : List (View.Piece (Elt Ideal) S2x4x8x704 .f32)), y ∈ p.1.set :=
  View.cover_of_tiledL (s := S2x4x8x704) _ S1x1x8x704.size (by sl_kernel_rfl) y

/-- The eight shards' gradients are the whole block. -/
theorem da_cover (w7 w3 w6 w2 w5 w1 w4 w0 : Vec Ideal S1x256x704 .bf16) (y : S8x256x704.Idx) :
    ∃ p ∈ ([⟨Rect.unit ![7, 0, 0] ![1, 256, 704] inb_S8x256x704_S1x256x704_7_0_0, w7⟩,
      ⟨Rect.unit ![3, 0, 0] ![1, 256, 704] inb_S8x256x704_S1x256x704_3_0_0, w3⟩,
      ⟨Rect.unit ![6, 0, 0] ![1, 256, 704] inb_S8x256x704_S1x256x704_6_0_0, w6⟩,
      ⟨Rect.unit ![2, 0, 0] ![1, 256, 704] inb_S8x256x704_S1x256x704_2_0_0, w2⟩,
      ⟨Rect.unit ![5, 0, 0] ![1, 256, 704] inb_S8x256x704_S1x256x704_5_0_0, w5⟩,
      ⟨Rect.unit ![1, 0, 0] ![1, 256, 704] inb_S8x256x704_S1x256x704_1_0_0, w1⟩,
      ⟨Rect.unit ![4, 0, 0] ![1, 256, 704] inb_S8x256x704_S1x256x704_4_0_0, w4⟩,
      ⟨Rect.unit ![0, 0, 0] ![1, 256, 704] inb_S8x256x704_S1x256x704_0_0_0, w0⟩] : List (View.Piece (Elt Ideal) S8x256x704 .bf16)), y ∈ p.1.set :=
  View.cover_of_tiledL (s := S8x256x704) _ S1x256x704.size (by sl_kernel_rfl) y

/-- One store of the whole block. -/
theorem dx_cover (w0 : Vec Ideal S256x1024 .f32) (y : S256x1024.Idx) :
    ∃ p ∈ ([⟨Rect.unit ![0, 0] ![256, 1024] inb_S256x1024_S256x1024_0_0, w0⟩] : List (View.Piece (Elt Ideal) S256x1024 .f32)), y ∈ p.1.set :=
  View.cover_of_tiledL (s := S256x1024) _ S256x1024.size (by sl_kernel_rfl) y

/-- The rows kept for the next point. -/
theorem sout0_A_0_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (C : Fin 8 → ℕ → Fin 704 → EReal) (h : Rows x0 x2 x6 (k0_pay4 (F := Ideal)) C) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = keepOf C := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  funext y
  refine View.canon_append_of_piecesOf (keepOf C) [_] [_, _, _, _, _, _, _, _] ?_ y ?_
  rotate_left
  · exact keep_cover _ _ _ _ _ _ _ _ y
  exact ⟨fun x => h.keep 3 7 3 rfl rfl inb_S256x1024_S256x1024_0_0 inb_S4x704x1024_S1x704x1024_3_0_0 inb_S8x256x704_S1x256x704_3_0_0 inb_S8x8x704_S1x8x704_7_0_0 x,
    fun x => h.keep 3 3 7 rfl rfl inb_S256x1024_S256x1024_0_0 inb_S4x704x1024_S1x704x1024_3_0_0 inb_S8x256x704_S1x256x704_7_0_0 inb_S8x8x704_S1x8x704_3_0_0 x,
    fun x => h.keep 2 6 2 rfl rfl inb_S256x1024_S256x1024_0_0 inb_S4x704x1024_S1x704x1024_2_0_0 inb_S8x256x704_S1x256x704_2_0_0 inb_S8x8x704_S1x8x704_6_0_0 x,
    fun x => h.keep 2 2 6 rfl rfl inb_S256x1024_S256x1024_0_0 inb_S4x704x1024_S1x704x1024_2_0_0 inb_S8x256x704_S1x256x704_6_0_0 inb_S8x8x704_S1x8x704_2_0_0 x,
    fun x => h.keep 1 5 1 rfl rfl inb_S256x1024_S256x1024_0_0 inb_S4x704x1024_S1x704x1024_1_0_0 inb_S8x256x704_S1x256x704_1_0_0 inb_S8x8x704_S1x8x704_5_0_0 x,
    fun x => h.keep 1 1 5 rfl rfl inb_S256x1024_S256x1024_0_0 inb_S4x704x1024_S1x704x1024_1_0_0 inb_S8x256x704_S1x256x704_5_0_0 inb_S8x8x704_S1x8x704_1_0_0 x,
    fun x => h.keep 0 4 0 rfl rfl inb_S256x1024_S256x1024_0_0 inb_S4x704x1024_S1x704x1024_0_0_0 inb_S8x256x704_S1x256x704_0_0_0 inb_S8x8x704_S1x8x704_4_0_0 x,
    fun x => h.keep 0 0 4 rfl rfl inb_S256x1024_S256x1024_0_0 inb_S4x704x1024_S1x704x1024_0_0_0 inb_S8x256x704_S1x256x704_4_0_0 inb_S8x8x704_S1x8x704_0_0_0 x, trivial⟩

/-- The up projection's gradient. -/
theorem out0_A_9_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (C : Fin 8 → ℕ → Fin 704 → EReal) (h : Rows x0 x2 x6 (k0_pay4 (F := Ideal)) C) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = daOf x5 C := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [↓View.readCov_skip, ↓View.readCov_fill]
  funext y
  refine View.canon_apply_of_pieces (daOf x5 C) _ (View.PiecesOf.mem ?_) y (da_cover _ _ _ _ _ _ _ _ y)
  exact ⟨fun x => h.da x5 1 3 7 3 rfl rfl rfl inb_S256x1024_S256x1024_0_0 inb_S4x704x1024_S1x704x1024_3_0_0 inb_S8x256x704_S1x256x704_3_0_0 inb_S8x8x704_S1x8x704_7_0_0 inb_S2x4x3x704_S1x1x3x704_1_3_0_0 inb_S8x256x704_S1x256x704_7_0_0 x,
    fun x => h.da x5 0 3 3 7 rfl rfl rfl inb_S256x1024_S256x1024_0_0 inb_S4x704x1024_S1x704x1024_3_0_0 inb_S8x256x704_S1x256x704_7_0_0 inb_S8x8x704_S1x8x704_3_0_0 inb_S2x4x3x704_S1x1x3x704_0_3_0_0 inb_S8x256x704_S1x256x704_3_0_0 x,
    fun x => h.da x5 1 2 6 2 rfl rfl rfl inb_S256x1024_S256x1024_0_0 inb_S4x704x1024_S1x704x1024_2_0_0 inb_S8x256x704_S1x256x704_2_0_0 inb_S8x8x704_S1x8x704_6_0_0 inb_S2x4x3x704_S1x1x3x704_1_2_0_0 inb_S8x256x704_S1x256x704_6_0_0 x,
    fun x => h.da x5 0 2 2 6 rfl rfl rfl inb_S256x1024_S256x1024_0_0 inb_S4x704x1024_S1x704x1024_2_0_0 inb_S8x256x704_S1x256x704_6_0_0 inb_S8x8x704_S1x8x704_2_0_0 inb_S2x4x3x704_S1x1x3x704_0_2_0_0 inb_S8x256x704_S1x256x704_2_0_0 x,
    fun x => h.da x5 1 1 5 1 rfl rfl rfl inb_S256x1024_S256x1024_0_0 inb_S4x704x1024_S1x704x1024_1_0_0 inb_S8x256x704_S1x256x704_1_0_0 inb_S8x8x704_S1x8x704_5_0_0 inb_S2x4x3x704_S1x1x3x704_1_1_0_0 inb_S8x256x704_S1x256x704_5_0_0 x,
    fun x => h.da x5 0 1 1 5 rfl rfl rfl inb_S256x1024_S256x1024_0_0 inb_S4x704x1024_S1x704x1024_1_0_0 inb_S8x256x704_S1x256x704_5_0_0 inb_S8x8x704_S1x8x704_1_0_0 inb_S2x4x3x704_S1x1x3x704_0_1_0_0 inb_S8x256x704_S1x256x704_1_0_0 x,
    fun x => h.da x5 1 0 4 0 rfl rfl rfl inb_S256x1024_S256x1024_0_0 inb_S4x704x1024_S1x704x1024_0_0_0 inb_S8x256x704_S1x256x704_0_0_0 inb_S8x8x704_S1x8x704_4_0_0 inb_S2x4x3x704_S1x1x3x704_1_0_0_0 inb_S8x256x704_S1x256x704_4_0_0 x,
    fun x => h.da x5 0 0 0 4 rfl rfl rfl inb_S256x1024_S256x1024_0_0 inb_S4x704x1024_S1x704x1024_0_0_0 inb_S8x256x704_S1x256x704_4_0_0 inb_S8x8x704_S1x8x704_0_0_0 inb_S2x4x3x704_S1x1x3x704_0_0_0_0 inb_S8x256x704_S1x256x704_0_0_0 x, trivial⟩

/-- The running sums of the taps and the bias. -/
theorem out0_A_10_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (C : Fin 8 → ℕ → Fin 704 → EReal) (h : Rows x0 x2 x6 (k0_pay4 (F := Ideal)) C) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = statOf x1 (k0_pay2 (F := Ideal)) C := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [↓View.readCov_skip, ↓View.readCov_fill]
  funext y
  refine View.canon_append_of_piecesOf (statOf x1 (k0_pay2 (F := Ideal)) C) [_] [_, _, _, _, _, _, _, _] ?_ y ?_
  rotate_left
  · exact stat_cover _ _ _ _ _ _ _ _ y
  exact ⟨fun x => h.stat x1 (k0_pay2 (F := Ideal)) 1 3 7 3 rfl rfl rfl inb_S256x1024_S256x1024_0_0 inb_S4x704x1024_S1x704x1024_3_0_0 inb_S8x256x704_S1x256x704_3_0_0 inb_S8x8x704_S1x8x704_7_0_0 inb_S8x256x704_S1x256x704_7_0_0 inb_S2x4x8x704_S1x1x8x704_1_3_0_0 x,
    fun x => h.stat x1 (k0_pay2 (F := Ideal)) 0 3 3 7 rfl rfl rfl inb_S256x1024_S256x1024_0_0 inb_S4x704x1024_S1x704x1024_3_0_0 inb_S8x256x704_S1x256x704_7_0_0 inb_S8x8x704_S1x8x704_3_0_0 inb_S8x256x704_S1x256x704_3_0_0 inb_S2x4x8x704_S1x1x8x704_0_3_0_0 x,
    fun x => h.stat x1 (k0_pay2 (F := Ideal)) 1 2 6 2 rfl rfl rfl inb_S256x1024_S256x1024_0_0 inb_S4x704x1024_S1x704x1024_2_0_0 inb_S8x256x704_S1x256x704_2_0_0 inb_S8x8x704_S1x8x704_6_0_0 inb_S8x256x704_S1x256x704_6_0_0 inb_S2x4x8x704_S1x1x8x704_1_2_0_0 x,
    fun x => h.stat x1 (k0_pay2 (F := Ideal)) 0 2 2 6 rfl rfl rfl inb_S256x1024_S256x1024_0_0 inb_S4x704x1024_S1x704x1024_2_0_0 inb_S8x256x704_S1x256x704_6_0_0 inb_S8x8x704_S1x8x704_2_0_0 inb_S8x256x704_S1x256x704_2_0_0 inb_S2x4x8x704_S1x1x8x704_0_2_0_0 x,
    fun x => h.stat x1 (k0_pay2 (F := Ideal)) 1 1 5 1 rfl rfl rfl inb_S256x1024_S256x1024_0_0 inb_S4x704x1024_S1x704x1024_1_0_0 inb_S8x256x704_S1x256x704_1_0_0 inb_S8x8x704_S1x8x704_5_0_0 inb_S8x256x704_S1x256x704_5_0_0 inb_S2x4x8x704_S1x1x8x704_1_1_0_0 x,
    fun x => h.stat x1 (k0_pay2 (F := Ideal)) 0 1 1 5 rfl rfl rfl inb_S256x1024_S256x1024_0_0 inb_S4x704x1024_S1x704x1024_1_0_0 inb_S8x256x704_S1x256x704_5_0_0 inb_S8x8x704_S1x8x704_1_0_0 inb_S8x256x704_S1x256x704_1_0_0 inb_S2x4x8x704_S1x1x8x704_0_1_0_0 x,
    fun x => h.stat x1 (k0_pay2 (F := Ideal)) 1 0 4 0 rfl rfl rfl inb_S256x1024_S256x1024_0_0 inb_S4x704x1024_S1x704x1024_0_0_0 inb_S8x256x704_S1x256x704_0_0_0 inb_S8x8x704_S1x8x704_4_0_0 inb_S8x256x704_S1x256x704_4_0_0 inb_S2x4x8x704_S1x1x8x704_1_0_0_0 x,
    fun x => h.stat x1 (k0_pay2 (F := Ideal)) 0 0 0 4 rfl rfl rfl inb_S256x1024_S256x1024_0_0 inb_S4x704x1024_S1x704x1024_0_0_0 inb_S8x256x704_S1x256x704_4_0_0 inb_S8x8x704_S1x8x704_0_0_0 inb_S8x256x704_S1x256x704_0_0_0 inb_S2x4x8x704_S1x1x8x704_0_0_0_0 x, trivial⟩

/-- The rows' gradient. -/
theorem out0_A_8_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (C : Fin 8 → ℕ → Fin 704 → EReal) (h : Rows x0 x2 x6 (k0_pay4 (F := Ideal)) C) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = dxOf x0 x3 x4 x5 x7 C := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [↓View.readCov_skip, ↓View.readCov_fill]
  funext y
  refine View.canon_apply_of_pieces (dxOf x0 x3 x4 x5 x7 C) _ (View.PiecesOf.mem ?_) y (dx_cover _ y)
  exact ⟨fun x => h.dx x3 x4 x5 x7 x, trivial⟩

/-- The running gradient of the gain. -/
theorem out0_A_11_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (C : Fin 8 → ℕ → Fin 704 → EReal) (h : Rows x0 x2 x6 (k0_pay4 (F := Ideal)) C) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = dgOf x3 x4 x5 (k0_pay3 (F := Ideal)) C := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [↓View.readCov_skip, ↓View.readCov_fill]
  funext y
  refine View.canon_append_of_piecesOf (dgOf x3 x4 x5 (k0_pay3 (F := Ideal)) C) [_] [_] ?_ y (View.cover_of_tiledL _ S8x1024.size (by sl_kernel_rfl) y)
  exact ⟨fun x => h.dg x3 x4 x5 (k0_pay3 (F := Ideal)) x, trivial⟩

end Cert.Ffn

end
-- ==== Proof.Ffn.PointB.lean ====
module

public import proofs.«01_k».proof.Proof.Gen.KernelIdeal.Frame
public import proofs.«01_k».proof.Proof.Ffn.Block

@[expose] public section

set_option maxRecDepth 16384

noncomputable section

namespace Cert.Ffn

open Idealize.ShloMosaic Idealize.ShloMosaic.TcCoe Idealize.ShloMosaic.Tactic Cert.KernelIdeal Cert.KernelIdeal.Gen Idealize.SL.Sem

/-! What a point after the first leaves in its outputs. -/

/-- The up projection's gradient. -/
theorem out0_B_9_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : ¬cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (xo10 : Vec Ideal S2x4x8x704 .f32) (xo11 : Vec Ideal S8x1024 .f32) (xs0 : Vec Ideal S8x8x704 .f32)
  (C : Fin 8 → ℕ → Fin 704 → EReal) (h : Rows x0 x2 x6 xs0 C) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0 = daOf x5 C := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0)]
  have hcov := cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0
  revert hcov
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread]
  intro hcov
  funext y
  refine View.canon_apply_of_pieces (daOf x5 C) _ (View.PiecesOf.mem ?_) y (hcov y)
  exact ⟨fun x => h.da x5 1 3 7 3 rfl rfl rfl inb_S256x1024_S256x1024_0_0 inb_S4x704x1024_S1x704x1024_3_0_0 inb_S8x256x704_S1x256x704_3_0_0 inb_S8x8x704_S1x8x704_7_0_0 inb_S2x4x3x704_S1x1x3x704_1_3_0_0 inb_S8x256x704_S1x256x704_7_0_0 x,
    fun x => h.da x5 0 3 3 7 rfl rfl rfl inb_S256x1024_S256x1024_0_0 inb_S4x704x1024_S1x704x1024_3_0_0 inb_S8x256x704_S1x256x704_7_0_0 inb_S8x8x704_S1x8x704_3_0_0 inb_S2x4x3x704_S1x1x3x704_0_3_0_0 inb_S8x256x704_S1x256x704_3_0_0 x,
    fun x => h.da x5 1 2 6 2 rfl rfl rfl inb_S256x1024_S256x1024_0_0 inb_S4x704x1024_S1x704x1024_2_0_0 inb_S8x256x704_S1x256x704_2_0_0 inb_S8x8x704_S1x8x704_6_0_0 inb_S2x4x3x704_S1x1x3x704_1_2_0_0 inb_S8x256x704_S1x256x704_6_0_0 x,
    fun x => h.da x5 0 2 2 6 rfl rfl rfl inb_S256x1024_S256x1024_0_0 inb_S4x704x1024_S1x704x1024_2_0_0 inb_S8x256x704_S1x256x704_6_0_0 inb_S8x8x704_S1x8x704_2_0_0 inb_S2x4x3x704_S1x1x3x704_0_2_0_0 inb_S8x256x704_S1x256x704_2_0_0 x,
    fun x => h.da x5 1 1 5 1 rfl rfl rfl inb_S256x1024_S256x1024_0_0 inb_S4x704x1024_S1x704x1024_1_0_0 inb_S8x256x704_S1x256x704_1_0_0 inb_S8x8x704_S1x8x704_5_0_0 inb_S2x4x3x704_S1x1x3x704_1_1_0_0 inb_S8x256x704_S1x256x704_5_0_0 x,
    fun x => h.da x5 0 1 1 5 rfl rfl rfl inb_S256x1024_S256x1024_0_0 inb_S4x704x1024_S1x704x1024_1_0_0 inb_S8x256x704_S1x256x704_5_0_0 inb_S8x8x704_S1x8x704_1_0_0 inb_S2x4x3x704_S1x1x3x704_0_1_0_0 inb_S8x256x704_S1x256x704_1_0_0 x,
    fun x => h.da x5 1 0 4 0 rfl rfl rfl inb_S256x1024_S256x1024_0_0 inb_S4x704x1024_S1x704x1024_0_0_0 inb_S8x256x704_S1x256x704_0_0_0 inb_S8x8x704_S1x8x704_4_0_0 inb_S2x4x3x704_S1x1x3x704_1_0_0_0 inb_S8x256x704_S1x256x704_4_0_0 x,
    fun x => h.da x5 0 0 0 4 rfl rfl rfl inb_S256x1024_S256x1024_0_0 inb_S4x704x1024_S1x704x1024_0_0_0 inb_S8x256x704_S1x256x704_4_0_0 inb_S8x8x704_S1x8x704_0_0_0 inb_S2x4x3x704_S1x1x3x704_0_0_0_0 inb_S8x256x704_S1x256x704_0_0_0 x, trivial⟩

/-- The rows kept for the next point. -/
theorem sout0_B_0_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : ¬cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (xo10 : Vec Ideal S2x4x8x704 .f32) (xo11 : Vec Ideal S8x1024 .f32) (xs0 : Vec Ideal S8x8x704 .f32)
  (C : Fin 8 → ℕ → Fin 704 → EReal) (h : Rows x0 x2 x6 xs0 C) :
    sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0 = keepOf C := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0)]
  have hcov := scover0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0
  revert hcov
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread]
  intro hcov
  funext y
  refine View.canon_apply_of_pieces (keepOf C) _ (View.PiecesOf.mem ?_) y (hcov y)
  exact ⟨fun x => h.keep 3 7 3 rfl rfl inb_S256x1024_S256x1024_0_0 inb_S4x704x1024_S1x704x1024_3_0_0 inb_S8x256x704_S1x256x704_3_0_0 inb_S8x8x704_S1x8x704_7_0_0 x,
    fun x => h.keep 3 3 7 rfl rfl inb_S256x1024_S256x1024_0_0 inb_S4x704x1024_S1x704x1024_3_0_0 inb_S8x256x704_S1x256x704_7_0_0 inb_S8x8x704_S1x8x704_3_0_0 x,
    fun x => h.keep 2 6 2 rfl rfl inb_S256x1024_S256x1024_0_0 inb_S4x704x1024_S1x704x1024_2_0_0 inb_S8x256x704_S1x256x704_2_0_0 inb_S8x8x704_S1x8x704_6_0_0 x,
    fun x => h.keep 2 2 6 rfl rfl inb_S256x1024_S256x1024_0_0 inb_S4x704x1024_S1x704x1024_2_0_0 inb_S8x256x704_S1x256x704_6_0_0 inb_S8x8x704_S1x8x704_2_0_0 x,
    fun x => h.keep 1 5 1 rfl rfl inb_S256x1024_S256x1024_0_0 inb_S4x704x1024_S1x704x1024_1_0_0 inb_S8x256x704_S1x256x704_1_0_0 inb_S8x8x704_S1x8x704_5_0_0 x,
    fun x => h.keep 1 1 5 rfl rfl inb_S256x1024_S256x1024_0_0 inb_S4x704x1024_S1x704x1024_1_0_0 inb_S8x256x704_S1x256x704_5_0_0 inb_S8x8x704_S1x8x704_1_0_0 x,
    fun x => h.keep 0 4 0 rfl rfl inb_S256x1024_S256x1024_0_0 inb_S4x704x1024_S1x704x1024_0_0_0 inb_S8x256x704_S1x256x704_0_0_0 inb_S8x8x704_S1x8x704_4_0_0 x,
    fun x => h.keep 0 0 4 rfl rfl inb_S256x1024_S256x1024_0_0 inb_S4x704x1024_S1x704x1024_0_0_0 inb_S8x256x704_S1x256x704_4_0_0 inb_S8x8x704_S1x8x704_0_0_0 x, trivial⟩

/-- The running sums of the taps and the bias. -/
theorem out0_B_10_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : ¬cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (xo10 : Vec Ideal S2x4x8x704 .f32) (xo11 : Vec Ideal S8x1024 .f32) (xs0 : Vec Ideal S8x8x704 .f32)
  (C : Fin 8 → ℕ → Fin 704 → EReal) (h : Rows x0 x2 x6 xs0 C) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0 = statOf x1 xo10 C := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0)]
  have hcov := cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0
  revert hcov
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread]
  intro hcov
  funext y
  refine View.canon_apply_of_pieces (statOf x1 xo10 C) _ (View.PiecesOf.mem ?_) y (hcov y)
  exact ⟨fun x => h.stat x1 xo10 1 3 7 3 rfl rfl rfl inb_S256x1024_S256x1024_0_0 inb_S4x704x1024_S1x704x1024_3_0_0 inb_S8x256x704_S1x256x704_3_0_0 inb_S8x8x704_S1x8x704_7_0_0 inb_S8x256x704_S1x256x704_7_0_0 inb_S2x4x8x704_S1x1x8x704_1_3_0_0 x,
    fun x => h.stat x1 xo10 0 3 3 7 rfl rfl rfl inb_S256x1024_S256x1024_0_0 inb_S4x704x1024_S1x704x1024_3_0_0 inb_S8x256x704_S1x256x704_7_0_0 inb_S8x8x704_S1x8x704_3_0_0 inb_S8x256x704_S1x256x704_3_0_0 inb_S2x4x8x704_S1x1x8x704_0_3_0_0 x,
    fun x => h.stat x1 xo10 1 2 6 2 rfl rfl rfl inb_S256x1024_S256x1024_0_0 inb_S4x704x1024_S1x704x1024_2_0_0 inb_S8x256x704_S1x256x704_2_0_0 inb_S8x8x704_S1x8x704_6_0_0 inb_S8x256x704_S1x256x704_6_0_0 inb_S2x4x8x704_S1x1x8x704_1_2_0_0 x,
    fun x => h.stat x1 xo10 0 2 2 6 rfl rfl rfl inb_S256x1024_S256x1024_0_0 inb_S4x704x1024_S1x704x1024_2_0_0 inb_S8x256x704_S1x256x704_6_0_0 inb_S8x8x704_S1x8x704_2_0_0 inb_S8x256x704_S1x256x704_2_0_0 inb_S2x4x8x704_S1x1x8x704_0_2_0_0 x,
    fun x => h.stat x1 xo10 1 1 5 1 rfl rfl rfl inb_S256x1024_S256x1024_0_0 inb_S4x704x1024_S1x704x1024_1_0_0 inb_S8x256x704_S1x256x704_1_0_0 inb_S8x8x704_S1x8x704_5_0_0 inb_S8x256x704_S1x256x704_5_0_0 inb_S2x4x8x704_S1x1x8x704_1_1_0_0 x,
    fun x => h.stat x1 xo10 0 1 1 5 rfl rfl rfl inb_S256x1024_S256x1024_0_0 inb_S4x704x1024_S1x704x1024_1_0_0 inb_S8x256x704_S1x256x704_5_0_0 inb_S8x8x704_S1x8x704_1_0_0 inb_S8x256x704_S1x256x704_1_0_0 inb_S2x4x8x704_S1x1x8x704_0_1_0_0 x,
    fun x => h.stat x1 xo10 1 0 4 0 rfl rfl rfl inb_S256x1024_S256x1024_0_0 inb_S4x704x1024_S1x704x1024_0_0_0 inb_S8x256x704_S1x256x704_0_0_0 inb_S8x8x704_S1x8x704_4_0_0 inb_S8x256x704_S1x256x704_4_0_0 inb_S2x4x8x704_S1x1x8x704_1_0_0_0 x,
    fun x => h.stat x1 xo10 0 0 0 4 rfl rfl rfl inb_S256x1024_S256x1024_0_0 inb_S4x704x1024_S1x704x1024_0_0_0 inb_S8x256x704_S1x256x704_4_0_0 inb_S8x8x704_S1x8x704_0_0_0 inb_S8x256x704_S1x256x704_0_0_0 inb_S2x4x8x704_S1x1x8x704_0_0_0_0 x, trivial⟩

/-- The rows' gradient. -/
theorem out0_B_8_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : ¬cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (xo10 : Vec Ideal S2x4x8x704 .f32) (xo11 : Vec Ideal S8x1024 .f32) (xs0 : Vec Ideal S8x8x704 .f32)
  (C : Fin 8 → ℕ → Fin 704 → EReal) (h : Rows x0 x2 x6 xs0 C) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0 = dxOf x0 x3 x4 x5 x7 C := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0)]
  have hcov := cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0
  revert hcov
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread]
  intro hcov
  funext y
  refine View.canon_apply_of_pieces (dxOf x0 x3 x4 x5 x7 C) _ (View.PiecesOf.mem ?_) y (hcov y)
  exact ⟨fun x => h.dx x3 x4 x5 x7 x, trivial⟩

/-- The running gradient of the gain. -/
theorem out0_B_11_eq (c : Dev nD) (i : grid0.Coords) (arg1 : Memref sig .tc .vmem S256x1024 .f32) (harg1 : arg1.IsWhole)
  (arg2 : Memref sig .tc .vmem S8x256x704 .bf16) (harg2 : arg2.IsWhole) (arg3 : Memref sig .tc .vmem S8x256x704 .bf16) (harg3 : arg3.IsWhole)
  (arg4 : Memref sig .tc .vmem S256x1024 .f32) (harg4 : arg4.IsWhole) (arg5 : Memref sig .tc .vmem S8x704x1024 .bf16) (harg5 : arg5.IsWhole)
  (arg6 : Memref sig .tc .vmem S2x4x3x704 .f32) (harg6 : arg6.IsWhole) (arg7 : Memref sig .tc .vmem S4x704x1024 .bf16) (harg7 : arg7.IsWhole)
  (arg8 : Memref sig .tc .vmem S1x1024 .f32) (harg8 : arg8.IsWhole) (arg9 : Memref sig .tc .vmem S256x1024 .f32) (harg9 : arg9.IsWhole)
  (arg10 : Memref sig .tc .vmem S8x256x704 .bf16) (harg10 : arg10.IsWhole) (arg11 : Memref sig .tc .vmem S2x4x8x704 .f32) (harg11 : arg11.IsWhole)
  (arg12 : Memref sig .tc .vmem S8x1024 .f32) (harg12 : arg12.IsWhole) (arg13 : Memref sig .tc .vmem S8x8x704 .f32) (harg13 : arg13.IsWhole)
  (hc0 : ¬cond0_0 i)
  (x0 : Vec Ideal S256x1024 .f32) (x1 : Vec Ideal S8x256x704 .bf16) (x2 : Vec Ideal S8x256x704 .bf16) (x3 : Vec Ideal S256x1024 .f32)
  (x4 : Vec Ideal S8x704x1024 .bf16) (x5 : Vec Ideal S2x4x3x704 .f32) (x6 : Vec Ideal S4x704x1024 .bf16) (x7 : Vec Ideal S1x1024 .f32)
  (xo10 : Vec Ideal S2x4x8x704 .f32) (xo11 : Vec Ideal S8x1024 .f32) (xs0 : Vec Ideal S8x8x704 .f32)
  (C : Fin 8 → ℕ → Fin 704 → EReal) (h : Rows x0 x2 x6 xs0 C) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0 = dgOf x3 x4 x5 xo11 C := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0)]
  have hcov := cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11 xs0
  revert hcov
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread]
  intro hcov
  funext y
  refine View.canon_apply_of_pieces (dgOf x3 x4 x5 xo11 C) _ (View.PiecesOf.mem ?_) y (hcov y)
  exact ⟨fun x => h.dg x3 x4 x5 xo11 x, trivial⟩

end Cert.Ffn

end
-- ==== Proof.Ffn.Points.lean ====
module

public import proofs.«01_k».proof.Proof.Gen.KernelIdeal.Value
public import proofs.«01_k».proof.Proof.Ffn.Blocks
public import proofs.«01_k».proof.Proof.Ffn.PointA
public import proofs.«01_k».proof.Proof.Ffn.PointB

@[expose] public section

set_option maxRecDepth 16384

noncomputable section

namespace Cert.Ffn

open Idealize.ShloMosaic Idealize.ShloMosaic.TcCoe Idealize.ShloMosaic.Tactic Cert.KernelIdeal Cert.KernelIdeal.Gen Idealize.SL.Sem

/-! What every grid point leaves, in terms of the whole arrays. -/

variable (m : (ℓ : Loc nD τ sig) → Buf (Elt Ideal) ℓ)

/-- The convolution's upstream gradient at a row of the whole sequence, zero past its end. -/
def dcG (dy : Vec Ideal S8192x1024 .f32) (gs : Vec Ideal S8x8192x704 .bf16) (dn : Vec Ideal S4x704x1024 .bf16)
    (j : Fin 8) (R : ℕ) (n : Fin 704) : EReal :=
  if h : R < 8192 then
    (∑ k : Fin 1024, dy (ix2 ⟨R, h⟩ k) * dn (ix3 ⟨j.val % 4, by omega⟩ n k)) * gs (ix3 ⟨(j.val + 4) % 8, by omega⟩ ⟨R, h⟩ n)
  else 0

/-- The same, over the arrays that the kernel is given. -/
def dcV (c : Dev nD) : Fin 8 → ℕ → Fin 704 → EReal := dcG (V m c main_arg0) (V m c main_v87) (V m c main_v98)

/-- The rows that a point sees. -/
def rowsV (c : Dev nD) (n : ℕ) : Fin 8 → ℕ → Fin 704 → EReal := fun j r k => dcV m c j (256 * (31 - n) + r) k

/-- A point's blocks have the whole sequence's rows, if the rows kept from the point before do. -/
theorem rows_of (c : Dev nD) (t : Fin cfg0.N) (xs : Vec Ideal S8x8x704 .f32)
    (hx : ∀ (j r : Fin 8) (n : Fin 704), xs (ix3 j r n) = rowsV m c t.val j (256 + r.val) n) :
    Rows (iblk m c 0 t) (iblk m c 2 t) (iblk m c 6 t) xs (rowsV m c t.val) where
  own d j e r n hd he := by
    have hd' : d = ⟨j.val % 4, Nat.mod_lt _ (by decide)⟩ := Fin.ext hd
    have he' : e = ⟨(j.val + 4) % 8, by omega⟩ := Fin.ext he
    have hr : 256 * (31 - t.val) + r.val < 8192 := by have := r.isLt; omega
    rw [iblk2_apply]
    simp only [iblk0_apply, iblk6_apply]
    unfold rowsV dcV dcG row
    rw [dif_pos hr, ← hd', ← he']
  next := hx

/-- At the first point the rows kept are zeros, as the rows past the end are. -/
theorem rows_first (c : Dev nD) (t : Fin cfg0.N) (h0 : t.val % 32 = 0) :
    Rows (iblk m c 0 t) (iblk m c 2 t) (iblk m c 6 t) (k0_pay4 (F := Ideal)) (rowsV m c t.val) := by
  refine rows_of m c t _ fun j r n => ?_
  have ht : t.val = 0 := by have := t.isLt; have hN : cfg0.N = 32 := N_0; omega
  unfold rowsV dcV dcG
  rw [dif_neg (by omega)]
  unfold k0_pay4
  pointwise

/-- The rows that a point keeps, if the ones before it were the sequence's. -/
theorem kept_first (c : Dev nD) (t : Fin cfg0.N) (h0 : t.val % 32 = 0) : (outsAt0 m c t.val t.isLt).2.2.2.2 = keepOf (rowsV m c t.val) := by
  rw [outsAt0_A m c t h0]
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) _ (rows_first m c t h0)

/-- The same at a later point. -/
theorem kept_later (c : Dev nD) (t : Fin cfg0.N) (h0 : ¬t.val % 32 = 0)
    (hp : (outsAt0 m c (t.val - 1) (Nat.lt_of_le_of_lt (Nat.sub_le _ _) t.isLt)).2.2.2.2 = keepOf (rowsV m c (t.val - 1))) :
    (outsAt0 m c t.val t.isLt).2.2.2.2 = keepOf (rowsV m c t.val) := by
  rw [outsAt0_B m c t h0]
  dsimp only
  refine sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 _ (rows_of m c t _ fun j r k => ?_)
  rw [hp]
  unfold keepOf rowsV
  have hN : cfg0.N = 32 := N_0
  have := t.isLt
  show dcV m c j (256 * (31 - (t.val - 1)) + r.val) k = dcV m c j (256 * (31 - t.val) + (256 + r.val)) k
  congr 1
  omega

/-- The rows that every point keeps. -/
theorem held (c : Dev nD) : ∀ (n : ℕ) (hn : n < cfg0.N), (outsAt0 m c n hn).2.2.2.2 = keepOf (rowsV m c n)
  | 0, hn => kept_first m c ⟨0, hn⟩ (Nat.zero_mod _)
  | n + 1, hn => kept_later m c ⟨n + 1, hn⟩ (by have hN : cfg0.N = 32 := N_0; show ¬(n + 1) % 32 = 0; omega) (held c n (Nat.lt_of_succ_lt hn))

/-- At a later point the rows kept are the next rows of the sequence. -/
theorem rows_later (c : Dev nD) (t : Fin cfg0.N) (h0 : ¬t.val % 32 = 0) (hp : t.val - 1 < cfg0.N) :
    Rows (iblk m c 0 t) (iblk m c 2 t) (iblk m c 6 t) (outsAt0 m c (t.val - 1) hp).2.2.2.2 (rowsV m c t.val) := by
  refine rows_of m c t _ fun j r k => ?_
  rw [held m c (t.val - 1) hp]
  unfold keepOf rowsV
  have hN : cfg0.N = 32 := N_0
  have := t.isLt
  show dcV m c j (256 * (31 - (t.val - 1)) + r.val) k = dcV m c j (256 * (31 - t.val) + (256 + r.val)) k
  congr 1
  omega

/-- The rows' gradient at a point. -/
theorem outs8 (c : Dev nD) (t : Fin cfg0.N) : (outsAt0 m c t.val t.isLt).1 = dxOf (iblk m c 0 t) (iblk m c 3 t) (iblk m c 4 t) (iblk m c 5 t) (iblk m c 7 t) (rowsV m c t.val) := by
  by_cases h0 : t.val % 32 = 0
  · rw [outsAt0_A m c t h0]
    dsimp only
    exact out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) _ (rows_first m c t h0)
  · rw [outsAt0_B m c t h0]
    dsimp only
    exact out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 _ (rows_later m c t h0 _)

/-- The up projection's gradient at a point. -/
theorem outs9 (c : Dev nD) (t : Fin cfg0.N) : (outsAt0 m c t.val t.isLt).2.1 = daOf (iblk m c 5 t) (rowsV m c t.val) := by
  by_cases h0 : t.val % 32 = 0
  · rw [outsAt0_A m c t h0]
    dsimp only
    exact out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) _ (rows_first m c t h0)
  · rw [outsAt0_B m c t h0]
    dsimp only
    exact out0_B_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 _ (rows_later m c t h0 _)

/-- The running sums after the first point. -/
theorem outs10_first (c : Dev nD) (t : Fin cfg0.N) (h0 : t.val % 32 = 0) : (outsAt0 m c t.val t.isLt).2.2.1 = statOf (iblk m c 1 t) (k0_pay2 (F := Ideal)) (rowsV m c t.val) := by
  rw [outsAt0_A m c t h0]
  dsimp only
  exact out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) _ (rows_first m c t h0)

/-- The running sums after a later point. -/
theorem outs10_later (c : Dev nD) (t : Fin cfg0.N) (h0 : ¬t.val % 32 = 0) :
    (outsAt0 m c t.val t.isLt).2.2.1 = statOf (iblk m c 1 t) (outsAt0 m c (t.val - 1) (Nat.lt_of_le_of_lt (Nat.sub_le _ _) t.isLt)).2.2.1 (rowsV m c t.val) := by
  rw [outsAt0_B m c t h0]
  dsimp only
  exact out0_B_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 _ (rows_later m c t h0 _)

/-- The running gradient of the gain after the first point. -/
theorem outs11_first (c : Dev nD) (t : Fin cfg0.N) (h0 : t.val % 32 = 0) : (outsAt0 m c t.val t.isLt).2.2.2.1 = dgOf (iblk m c 3 t) (iblk m c 4 t) (iblk m c 5 t) (k0_pay3 (F := Ideal)) (rowsV m c t.val) := by
  rw [outsAt0_A m c t h0]
  dsimp only
  exact out0_A_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) _ (rows_first m c t h0)

/-- The running gradient of the gain after a later point. -/
theorem outs11_later (c : Dev nD) (t : Fin cfg0.N) (h0 : ¬t.val % 32 = 0) :
    (outsAt0 m c t.val t.isLt).2.2.2.1 = dgOf (iblk m c 3 t) (iblk m c 4 t) (iblk m c 5 t) (outsAt0 m c (t.val - 1) (Nat.lt_of_le_of_lt (Nat.sub_le _ _) t.isLt)).2.2.2.1 (rowsV m c t.val) := by
  rw [outsAt0_B m c t h0]
  dsimp only
  exact out0_B_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 _ (rows_later m c t h0 _)

end Cert.Ffn
-- ==== Proof.Ffn.Arrays.lean ====
module

public import proofs.«01_k».proof.Proof.Ffn.Points

@[expose] public section

set_option maxRecDepth 16384

noncomputable section

namespace Cert.Ffn

open Idealize.ShloMosaic Idealize.ShloMosaic.TcCoe Idealize.ShloMosaic.Tactic Cert.KernelIdeal Cert.KernelIdeal.Gen Idealize.SL.Sem

/-! The four arrays after the run. -/

/-- A sum over the points and the rows of their blocks is a sum over the sequence. -/
theorem sum_rows (N : ℕ) (hN : N = 32) (f : Fin 8192 → EReal) :
    ∑ p : Fin N, ∑ r : Fin 256, f ⟨256 * (31 - p.val) + r.val, by omega⟩ = ∑ R : Fin 8192, f R := by
  subst hN
  refine Eq.trans ?_ (Fin.sum_mul_add_fin 32 256 f)
  refine Eq.trans ?_ (Equiv.sum_comp Fin.revPerm fun s : Fin 32 => ∑ r : Fin 256, f ⟨s.val * 256 + r.val, by omega⟩)
  refine Finset.sum_congr rfl fun p _ => Finset.sum_congr rfl fun r _ => congrArg f (Fin.ext ?_)
  show 256 * (31 - p.val) + r.val = (Fin.rev p).val * 256 + r.val
  rw [Fin.val_rev]
  omega

/-- The three taps' sums and the bias's over the whole sequence. -/
def statG (c : ℕ → EReal) (a : Fin 8192 → EReal) (q : Fin 8) : EReal :=
  match q.val with
  | 0 => ∑ R : Fin 8192, c (R.val + 2) * a R
  | 1 => ∑ R : Fin 8192, c (R.val + 1) * a R
  | 2 => ∑ R : Fin 8192, c R.val * a R
  | 3 => ∑ R : Fin 8192, c R.val
  | _ => 0

/-- The points' sums add up to the sequence's. -/
theorem sum_stat (N : ℕ) (hN : N = 32) (c : ℕ → EReal) (a : Fin 8192 → EReal) (q : Fin 8) :
    ∑ p : Fin N, statAt (fun r => c (256 * (31 - p.val) + r)) (fun r => a ⟨256 * (31 - p.val) + r.val, by omega⟩) q = statG c a q := by
  fin_cases q
  · exact sum_rows N hN fun R => c (R.val + 2) * a R
  · exact sum_rows N hN fun R => c (R.val + 1) * a R
  · exact sum_rows N hN fun R => c R.val * a R
  · exact sum_rows N hN fun R => c R.val
  all_goals exact Finset.sum_const_zero

/-- The same over the rows by name. -/
theorem sum_all (f : Fin 8192 → EReal) : ∑ t : Fin cfg0.N, ∑ r : Fin 256, f (row t r) = ∑ R : Fin 8192, f R := sum_rows _ N_0 f

theorem sum_stat_all (c : ℕ → EReal) (a : Fin 8192 → EReal) (q : Fin 8) :
    ∑ t : Fin cfg0.N, statAt (fun r => c (256 * (31 - t.val) + r)) (fun r => a (row t r)) q = statG c a q := sum_stat _ N_0 c a q

variable (m : (ℓ : Loc nD τ sig) → Buf (Elt Ideal) ℓ)

theorem iblk4_eq (c : Dev nD) (t : Fin cfg0.N) : (iblk m c 4 t : Vec Ideal S8x704x1024 .bf16) = V m c main_v91 := by
  funext y
  rw [eq_ix3 y]
  exact iblk4_apply m c t _ _ _

theorem iblk5_eq (c : Dev nD) (t : Fin cfg0.N) : (iblk m c 5 t : Vec Ideal S2x4x3x704 .f32) = V m c main_v95 := by
  funext y
  rw [eq_ix4 y]
  exact iblk5_apply m c t _ _ _ _

theorem iblk6_eq (c : Dev nD) (t : Fin cfg0.N) : (iblk m c 6 t : Vec Ideal S4x704x1024 .bf16) = V m c main_v98 := by
  funext y
  rw [eq_ix3 y]
  exact iblk6_apply m c t _ _ _

theorem iblk7_eq (c : Dev nD) (t : Fin cfg0.N) : (iblk m c 7 t : Vec Ideal S1x1024 .f32) = V m c main_arg2 := by
  funext y
  rw [eq_ix2 y]
  exact iblk7_apply m c t _ _

/-- The gradient of the normed rows over the whole sequence. -/
def dhV (c : Dev nD) (R : ℕ) (k : Fin 1024) : EReal := dhAt (V m c main_v91) (V m c main_v95) (dcV m c) R k

/-- A block's gradient of the normed rows is the sequence's. -/
theorem dh_rows (c : Dev nD) (t : Fin cfg0.N) (r : Fin 256) (k : Fin 1024) :
    dhAt (iblk m c 4 t) (iblk m c 5 t) (rowsV m c t.val) r.val k = dhV m c (row t r).val k := by
  rw [iblk4_eq, iblk5_eq]
  rfl

/-- The rows' gradient. -/
def G8 (c : Dev nD) : Vec Ideal S8192x1024 .f32 := fun y =>
  dxAt (fun k => V m c main_arg0 (ix2 (y 0) k)) (dhV m c (y 0).val) (fun k => V m c main_arg1 (ix2 (y 0) k)) (fun k => V m c main_arg2 (ix2 0 k)) (y 1)

/-- The up projection's gradient. -/
def G9 (c : Dev nD) : Vec Ideal S8x8192x704 .bf16 := fun y => daAt (V m c main_v95) (dcV m c) (y 0) (y 1).val (y 2)

/-- The sums over the sequence. -/
def G10 (c : Dev nD) : Vec Ideal S2x4x8x704 .f32 := fun y =>
  statG (fun R => dcV m c ⟨4 * (y 0).val + (y 1).val, by have h0 := (y 0).isLt; have h1 := (y 1).isLt; simp at h0 h1; omega⟩ R (y 3))
    (fun R => V m c main_v101 (ix3 ⟨4 * (y 0).val + (y 1).val, by have h0 := (y 0).isLt; have h1 := (y 1).isLt; simp at h0 h1; omega⟩ R (y 3))) (y 2)

/-- A row of the residual stream. -/
def xV (c : Dev nD) (R : Fin 8192) : Fin 1024 → EReal := fun k => V m c main_arg1 (ix2 R k)

/-- A row of a block of the residual stream. -/
def xB (c : Dev nD) (t : Fin cfg0.N) (r : Fin 256) : Fin 1024 → EReal := fun k => iblk m c 3 t (ix2 r k)

theorem xB_eq (c : Dev nD) (t : Fin cfg0.N) (r : Fin 256) : xB m c t r = xV m c (row t r) := funext fun k => iblk3_apply m c t r k

/-- The gain's gradient. -/
def G11 (c : Dev nD) : Vec Ideal S8x1024 .f32 := fun y =>
  if (y 0).val = 0 then ∑ R : Fin 8192, dhV m c R.val (y 1) * (xV m c R (y 1) * invAt (xV m c R)) else 0

/-- A block of the rows' gradient, out of any array. -/
theorem read8 (c : Dev nD) (A : Buf (Elt Ideal) ((c : Thread nD τ).loc (Pipeline.arrRef spec0 8))) (t : Fin cfg0.N) (r : Fin 256) (k : Fin 1024) :
    ((cfg0.win 8).blk t).view.read (Elt Ideal) A (ix2 r k) = A (ix2 (row t r) k) := by
  have idx : ∀ t : Fin grid0.N, win0_8.index t = ![31 - t.val, 0] := by decide +kernel
  unfold row
  blk_ext [idx t]

/-- A block of the up projection's gradient, out of any array. -/
theorem read9 (c : Dev nD) (A : Buf (Elt Ideal) ((c : Thread nD τ).loc (Pipeline.arrRef spec0 9))) (t : Fin cfg0.N) (j : Fin 8) (r : Fin 256) (n : Fin 704) :
    ((cfg0.win 9).blk t).view.read (Elt Ideal) A (ix3 j r n) = A (ix3 j (row t r) n) := by
  have idx : ∀ t : Fin grid0.N, win0_9.index t = ![0, 31 - t.val, 0] := by decide +kernel
  unfold row
  blk_ext [idx t]

/-- What a point leaves of the rows' gradient is the sequence's. -/
theorem outs8_row (c : Dev nD) (t : Fin cfg0.N) (r : Fin 256) (k : Fin 1024) :
    (outsAt0 m c t.val t.isLt).1 (ix2 r k) = G8 m c (ix2 (row t r) k) := by
  rw [outs8]
  unfold dxOf G8
  have e : dhAt (iblk m c 4 t) (iblk m c 5 t) (rowsV m c t.val) r.val = dhV m c (row t r).val := funext fun k => dh_rows m c t r k
  show dxAt (fun k => iblk m c 0 t (ix2 r k)) (dhAt (iblk m c 4 t) (iblk m c 5 t) (rowsV m c t.val) r.val)
    (fun k => iblk m c 3 t (ix2 r k)) (fun k => iblk m c 7 t (ix2 0 k)) k
    = dxAt (fun k => V m c main_arg0 (ix2 (row t r) k)) (dhV m c (row t r).val) (fun k => V m c main_arg1 (ix2 (row t r) k))
      (fun k => V m c main_arg2 (ix2 0 k)) k
  rw [e]
  simp only [iblk0_apply, iblk3_apply, iblk7_apply]

/-- What a point leaves of the up projection's gradient is the sequence's. -/
theorem outs9_row (c : Dev nD) (t : Fin cfg0.N) (j : Fin 8) (r : Fin 256) (n : Fin 704) :
    (outsAt0 m c t.val t.isLt).2.1 (ix3 j r n) = G9 m c (ix3 j (row t r) n) := by
  rw [outs9, iblk5_eq]
  rfl

/-- The rows' gradient after the run. -/
theorem arr8 (c : Dev nD) : (dats m 0 c).arrAt 8 cfg0.N = G8 m c := by
  refine (dats m 0 c).arrAt_eq_of_covers 8 _ (by decide +kernel) fun t hf y => ?_
  obtain ⟨r, k, rfl⟩ : ∃ (r : Fin 256) (k : Fin 1024), y = ix2 r k := ⟨y 0, y 1, eq_ix2 y⟩
  refine Eq.trans ?_ (read8 c (G8 m c) t r k).symm
  refine Eq.trans ?_ (outs8_row m c t r k)
  rw [after0_8]
  rfl

/-- The up projection's gradient after the run. -/
theorem arr9 (c : Dev nD) : (dats m 0 c).arrAt 9 cfg0.N = G9 m c := by
  refine (dats m 0 c).arrAt_eq_of_covers 9 _ (by decide +kernel) fun t hf y => ?_
  obtain ⟨j, r, n, rfl⟩ : ∃ (j : Fin 8) (r : Fin 256) (n : Fin 704), y = ix3 j r n := ⟨y 0, y 1, y 2, eq_ix3 y⟩
  refine Eq.trans ?_ (read9 c (G9 m c) t j r n).symm
  refine Eq.trans ?_ (outs9_row m c t j r n)
  rw [after0_9]
  rfl

/-- The last point. -/
def tLast : Fin cfg0.N := ⟨31, by decide⟩

/-- One point's sums. -/
def statT (c : Dev nD) (t : Fin cfg0.N) (y : S2x4x8x704.Idx) : EReal :=
  statAt (fun r => rowsV m c t.val ⟨4 * (y 0).val + (y 1).val, by have h0 := (y 0).isLt; have h1 := (y 1).isLt; simp at h0 h1; omega⟩ r (y 3))
    (fun r => iblk m c 1 t (ix3 ⟨4 * (y 0).val + (y 1).val, by have h0 := (y 0).isLt; have h1 := (y 1).isLt; simp at h0 h1; omega⟩ r (y 3))) (y 2)

theorem statT_eq (c : Dev nD) (t : Fin cfg0.N) (y : S2x4x8x704.Idx) :
    statT m c t y = statAt (fun r => dcV m c ⟨4 * (y 0).val + (y 1).val, by have h0 := (y 0).isLt; have h1 := (y 1).isLt; simp at h0 h1; omega⟩ (256 * (31 - t.val) + r) (y 3))
      (fun r => V m c main_v101 (ix3 ⟨4 * (y 0).val + (y 1).val, by have h0 := (y 0).isLt; have h1 := (y 1).isLt; simp at h0 h1; omega⟩ (row t r) (y 3))) (y 2) := by
  unfold statT rowsV
  exact congrArg (fun g => statAt _ g (y 2)) (funext fun r => iblk1_apply m c t _ r (y 3))

theorem stat_zero (y : S2x4x8x704.Idx) : k0_pay2 (F := Ideal) y = 0 := by
  unfold k0_pay2
  pointwise

theorem stat_first (c : Dev nD) (t : Fin cfg0.N) (h : t.val % 32 = 0) (y : S2x4x8x704.Idx) :
    (outsAt0 m c t.val t.isLt).2.2.1 y = 0 + statT m c t y := by
  rw [outs10_first m c t h]
  exact congrArg (· + statT m c t y) (stat_zero y)

theorem stat_later (c : Dev nD) (t : Fin cfg0.N) (h : ¬t.val % 32 = 0) (y : S2x4x8x704.Idx) :
    (outsAt0 m c t.val t.isLt).2.2.1 y = (outsAt0 m c (t.val - 1) (Nat.lt_of_le_of_lt (Nat.sub_le _ _) t.isLt)).2.2.1 y + statT m c t y := by
  rw [outs10_later m c t h]
  rfl

/-- The running sums after the last point. -/
theorem outs10_last (c : Dev nD) (y : S2x4x8x704.Idx) : (outsAt0 m c tLast.val tLast.isLt).2.2.1 y = G10 m c y := by
  have key : (outsAt0 m c tLast.val tLast.isLt).2.2.1 y = (0 : EReal) + ∑ p : Fin cfg0.N, statT m c p y :=
    Pipeline.eq_sum_fin_of_reset_step_apply_last (M := EReal) (fun n hn y => (outsAt0 m c n hn).2.2.1 y) 32 (fun _ => (0 : EReal))
      (statT m c) (stat_first m c) (stat_later m c) (le_of_eq N_0) tLast rfl y
  rw [key, zero_add]
  rw [Finset.sum_congr rfl fun p _ => statT_eq m c p y]
  unfold G10
  exact sum_stat_all (fun R => dcV m c ⟨4 * (y 0).val + (y 1).val, by have h0 := (y 0).isLt; have h1 := (y 1).isLt; simp at h0 h1; omega⟩ R (y 3))
    (fun R => V m c main_v101 (ix3 ⟨4 * (y 0).val + (y 1).val, by have h0 := (y 0).isLt; have h1 := (y 1).isLt; simp at h0 h1; omega⟩ R (y 3))) (y 2)

/-- One point's gradient of the gain. -/
def gainT (c : Dev nD) (t : Fin cfg0.N) (y : S8x1024.Idx) : EReal :=
  if (y 0).val = 0 then
    ∑ r : Fin 256, dhAt (iblk m c 4 t) (iblk m c 5 t) (rowsV m c t.val) r.val (y 1) * (xB m c t r (y 1) * invAt (xB m c t r)) else 0

theorem gainT_eq (c : Dev nD) (t : Fin cfg0.N) (y : S8x1024.Idx) (h : (y 0).val = 0) :
    gainT m c t y = ∑ r : Fin 256, dhV m c (row t r).val (y 1) * (xV m c (row t r) (y 1) * invAt (xV m c (row t r))) := by
  unfold gainT
  rw [if_pos h]
  exact Finset.sum_congr rfl fun r _ => congrArg₂ (· * ·) (dh_rows m c t r (y 1))
    (congrArg (fun z : Fin 1024 → EReal => z (y 1) * invAt z) (xB_eq m c t r))

theorem gain_zero (y : S8x1024.Idx) : k0_pay3 (F := Ideal) y = 0 := by
  unfold k0_pay3
  pointwise

theorem gain_first (c : Dev nD) (t : Fin cfg0.N) (h : t.val % 32 = 0) (y : S8x1024.Idx) :
    (outsAt0 m c t.val t.isLt).2.2.2.1 y = 0 + gainT m c t y := by
  rw [outs11_first m c t h]
  exact congrArg (· + gainT m c t y) (gain_zero y)

theorem gain_later (c : Dev nD) (t : Fin cfg0.N) (h : ¬t.val % 32 = 0) (y : S8x1024.Idx) :
    (outsAt0 m c t.val t.isLt).2.2.2.1 y = (outsAt0 m c (t.val - 1) (Nat.lt_of_le_of_lt (Nat.sub_le _ _) t.isLt)).2.2.2.1 y + gainT m c t y := by
  rw [outs11_later m c t h]
  rfl

/-- The running gradient of the gain after the last point. -/
theorem outs11_last (c : Dev nD) (y : S8x1024.Idx) : (outsAt0 m c tLast.val tLast.isLt).2.2.2.1 y = G11 m c y := by
  have key : (outsAt0 m c tLast.val tLast.isLt).2.2.2.1 y = (0 : EReal) + ∑ p : Fin cfg0.N, gainT m c p y :=
    Pipeline.eq_sum_fin_of_reset_step_apply_last (M := EReal) (fun n hn y => (outsAt0 m c n hn).2.2.2.1 y) 32 (fun _ => (0 : EReal))
      (gainT m c) (gain_first m c) (gain_later m c) (le_of_eq N_0) tLast rfl y
  rw [key, zero_add]
  by_cases h : (y 0).val = 0
  · rw [Finset.sum_congr rfl fun p _ => gainT_eq m c p y h, sum_all fun R => dhV m c R.val (y 1) * (xV m c R (y 1) * invAt (xV m c R))]
    exact (if_pos h).symm
  · have e : ∀ p, gainT m c p y = 0 := fun p => if_neg h
    rw [Finset.sum_congr rfl fun p _ => e p, Finset.sum_const_zero]
    exact (if_neg h).symm

/-- The whole array is the one block, out of any array. -/
theorem read10 (c : Dev nD) (A : Buf (Elt Ideal) ((c : Thread nD τ).loc (Pipeline.arrRef spec0 10))) (t : Fin cfg0.N) (a : Fin 2) (b : Fin 4) (e : Fin 8) (n : Fin 704) :
    ((cfg0.win 10).blk t).view.read (Elt Ideal) A (ix4 a b e n) = A (ix4 a b e n) := by
  have idx : ∀ t : Fin grid0.N, win0_10.index t = ![0, 0, 0, 0] := by decide +kernel
  blk_ext [idx t]

/-- The sums after the run. -/
theorem arr10 (c : Dev nD) : (dats m 0 c).arrAt 10 cfg0.N = G10 m c := by
  refine (dats m 0 c).arrAt_eq_of_covers 10 _ (by decide +kernel) fun t hf y => ?_
  have ht : t = tLast := Fin.ext (by have ht := lt_of_lt_of_eq t.isLt (show cfg0.N = 32 from N_0); have := (flush0_10 t).mp hf; show t.val = 31; omega)
  subst ht
  obtain ⟨a, b, e, n, rfl⟩ : ∃ (a : Fin 2) (b : Fin 4) (e : Fin 8) (n : Fin 704), y = ix4 a b e n := ⟨y 0, y 1, y 2, y 3, eq_ix4 y⟩
  refine Eq.trans ?_ (read10 c (G10 m c) tLast a b e n).symm
  refine Eq.trans ?_ (outs10_last m c (ix4 a b e n))
  rw [after0_10]
  rfl

/-- The whole array is the one block, out of any array. -/
theorem read11 (c : Dev nD) (A : Buf (Elt Ideal) ((c : Thread nD τ).loc (Pipeline.arrRef spec0 11))) (t : Fin cfg0.N) (a : Fin 8) (b : Fin 1024) :
    ((cfg0.win 11).blk t).view.read (Elt Ideal) A (ix2 a b) = A (ix2 a b) := by
  have idx : ∀ t : Fin grid0.N, win0_11.index t = ![0, 0] := by decide +kernel
  blk_ext [idx t]

/-- The gain's gradient after the run. -/
theorem arr11 (c : Dev nD) : (dats m 0 c).arrAt 11 cfg0.N = G11 m c := by
  refine (dats m 0 c).arrAt_eq_of_covers 11 _ (by decide +kernel) fun t hf y => ?_
  have ht : t = tLast := Fin.ext (by have ht := lt_of_lt_of_eq t.isLt (show cfg0.N = 32 from N_0); have := (flush0_11 t).mp hf; show t.val = 31; omega)
  subst ht
  obtain ⟨a, b, rfl⟩ : ∃ (a : Fin 8) (b : Fin 1024), y = ix2 a b := ⟨y 0, y 1, eq_ix2 y⟩
  refine Eq.trans ?_ (read11 c (G11 m c) tLast a b).symm
  refine Eq.trans ?_ (outs11_last m c (ix2 a b))
  rw [after0_11]
  rfl

end Cert.Ffn
-- ==== Proof.Ffn.Equal.lean ====
module

public import proofs.«01_k».proof.Proof.Ffn.RealVals
public import proofs.«01_k».proof.Proof.Ffn.Arrays

@[expose] public section

set_option maxRecDepth 16384

noncomputable section

namespace Cert.Ffn

open Idealize.ShloMosaic Idealize.ShloMosaic.TcCoe Idealize.ShloMosaic.Tactic Cert.ReferenceIdeal Cert.ReferenceIdeal.Read

/-! What the kernel computes from its arguments is what the reference does. -/

/-- A sum against the entries some rows further on, read from the other end. -/
theorem sum_shift {N : ℕ} (s : ℕ) (b a : Fin N → EReal) :
    ∑ R : Fin N, (if h : R.val + s < N then b ⟨R.val + s, h⟩ else 0) * a R
      = ∑ x : Fin N, (if h : x.val < s then 0 else a ⟨x.val - s, by omega⟩) * b x := by
  have l : ∀ R : Fin N, (if h : R.val + s < N then b ⟨R.val + s, h⟩ else 0) * a R = ∑ x : Fin N, if x.val = R.val + s then b x * a R else 0 := by
    intro R
    by_cases h : R.val + s < N
    · rw [dif_pos h, Finset.sum_eq_single ⟨R.val + s, h⟩ (fun x _ hx => if_neg fun e => hx (Fin.ext e)) (fun hn => absurd (Finset.mem_univ _) hn), if_pos rfl]
    · rw [dif_neg h, zero_mul]
      exact (Finset.sum_eq_zero fun x _ => if_neg (by have := x.isLt; omega)).symm
  have r : ∀ x : Fin N, (if h : x.val < s then 0 else a ⟨x.val - s, by omega⟩) * b x = ∑ R : Fin N, if x.val = R.val + s then b x * a R else 0 := by
    intro x
    by_cases h : x.val < s
    · rw [dif_pos h, zero_mul]
      exact (Finset.sum_eq_zero fun R _ => if_neg (by omega)).symm
    · rw [dif_neg h, Finset.sum_eq_single ⟨x.val - s, by omega⟩ (fun R _ hR => if_neg fun e => hR (Fin.ext (by show R.val = x.val - s; omega)))
        (fun hn => absurd (Finset.mem_univ _) hn), if_pos (by show x.val = x.val - s + s; omega), mul_comm]
  rw [Finset.sum_congr rfl fun R _ => l R, Finset.sum_congr rfl fun x _ => r x, Finset.sum_comm]

variable (x0 x1 : (⟨S8192x1024, .f32⟩ : BufTy).Contents (Elt Ideal)) (x2 : (⟨S1x1024, .f32⟩ : BufTy).Contents (Elt Ideal))
  (x3 : (⟨S1x1024x5632, .f32⟩ : BufTy).Contents (Elt Ideal)) (x4 : (⟨S1x3x5632, .f32⟩ : BufTy).Contents (Elt Ideal))
  (x5 : (⟨S1x5632, .f32⟩ : BufTy).Contents (Elt Ideal)) (x6 : (⟨S1x2816x1024, .f32⟩ : BufTy).Contents (Elt Ideal))

/-- All the arguments' entries are real numbers. -/
structure Fin7 : Prop where
  h0 : AllReal x0
  h1 : AllReal x1
  h2 : AllReal x2
  h3 : AllReal x3
  h4 : AllReal x4
  h5 : AllReal x5
  h6 : AllReal x6

/-- The gradient of the convolution's result, from the arguments. -/
def dcX : Fin 8 → ℕ → Fin 704 → EReal :=
  dcG x0 (hBoth (hDu (val_main_v47 (F := Ideal) x1 x2 x3 x4 x5)) (hDg (val_main_v47 (F := Ideal) x1 x2 x3 x4 x5) (val_main_v48 (F := Ideal) x1 x2 x3 x4 x5))) (hDown x6)

variable {x0 x1 x2 x3 x4 x5 x6}

/-- It is the reference's. -/
theorem dc_eq (hf : Fin7 x0 x1 x2 x3 x4 x5 x6) (j : Fin 8) (R : ℕ) (n : Fin 704) :
    dcX x0 x1 x2 x3 x4 x5 x6 j R n = if h : R < 8192 then val_main_v91 (F := Ideal) x0 x1 x2 x3 x4 x5 x6 (ix2 ⟨R, h⟩ (col j n)) else 0 := by
  unfold dcX dcG
  by_cases h : R < 8192
  · rw [dif_pos h, dif_pos h]
    have hj := j.isLt
    have hn := n.isLt
    have hd : (∑ k : Fin 1024, x0 (ix2 ⟨R, h⟩ k) * hDown x6 (ix3 ⟨j.val % 4, by omega⟩ n k)) = val_main_v75 (F := Ideal) x0 x6 (ix2 ⟨R, h⟩ (half j n)) := by
      rw [v75_apply]
      refine Finset.sum_congr rfl fun k _ => ?_
      rw [hDown_apply]
      rfl
    have he : half ⟨(j.val + 4) % 8, by omega⟩ n = half j n := Fin.ext (by show (j.val + 4) % 8 % 4 * 704 + n.val = j.val % 4 * 704 + n.val; omega)
    rw [hd, hBoth_apply, v91_apply, he]
    by_cases h4 : j.val < 4
    · have hc : (col j n).val < 2816 := by show j.val * 704 + n.val < 2816; omega
      have hi : (⟨(col j n).val, hc⟩ : Fin 2816) = half j n := Fin.ext (by show j.val * 704 + n.val = j.val % 4 * 704 + n.val; omega)
      rw [if_neg (by show ¬(j.val + 4) % 8 < 4; omega), dif_pos hc, hi, hDg_apply, v90_apply]
      exact sDg_mul (real_v75 x0 x6 hf.h0 hf.h6 _) (real_v47 x1 x2 x3 x4 x5 hf.h1 hf.h2 hf.h3 hf.h4 hf.h5 _) (real_v48 x1 x2 x3 x4 x5 hf.h1 hf.h2 hf.h3 hf.h4 hf.h5 _)
    · have hc : ¬(col j n).val < 2816 := by show ¬j.val * 704 + n.val < 2816; omega
      have hi : (⟨(col j n).val - 2816, by omega⟩ : Fin 2816) = half j n :=
        Fin.ext (by show j.val * 704 + n.val - 2816 = j.val % 4 * 704 + n.val; omega)
      rw [if_pos (by show (j.val + 4) % 8 < 4; omega), dif_neg hc, hi, hDu_apply, v77_apply, bits_one]
      exact (mul_comm _ _).trans (congrArg (· * _) (mul_one _))
  · rw [dif_neg h, dif_neg h]

/-- The up projection's gradient is the reference's. -/
theorem da_eq (hf : Fin7 x0 x1 x2 x3 x4 x5 x6) (j : Fin 8) (R : Fin 8192) (n : Fin 704) :
    daAt (hTaps x4) (dcX x0 x1 x2 x3 x4 x5 x6) j R.val n = val_main_v127 (F := Ideal) x0 x1 x2 x3 x4 x5 x6 (ix2 R (col j n)) := by
  unfold daAt
  rw [dc_eq hf, dc_eq hf, dc_eq hf, v127_apply, hTaps_apply, hTaps_apply, hTaps_apply, dif_pos R.isLt]
  have e : (⟨j.val / 4 * 4 + j.val % 4, by omega⟩ : Fin 8) = j := Fin.ext (Nat.div_add_mod' _ _)
  refine congrArg₂ (· + ·) (congrArg₂ (· + ·) ?_ ?_) ?_
  · exact (mul_comm _ _).trans (by rw [e])
  · by_cases h : R.val + 1 < 8192
    · rw [dif_pos h, dif_pos h]
      exact (mul_comm _ _).trans (by rw [e])
    · rw [dif_neg h, dif_neg h, mul_zero]
  · by_cases h : R.val + 2 < 8192
    · rw [dif_pos h, dif_pos h]
      exact (mul_comm _ _).trans (by rw [e])
    · rw [dif_neg h, dif_neg h, mul_zero]

/-- The normed rows' gradient is the reference's. -/
theorem dh_eq (hf : Fin7 x0 x1 x2 x3 x4 x5 x6) (R : Fin 8192) (k : Fin 1024) :
    dhAt (hUp x3) (hTaps x4) (dcX x0 x1 x2 x3 x4 x5 x6) R.val k = val_main_v132 (F := Ideal) x0 x1 x2 x3 x4 x5 x6 (ix2 R k) := by
  unfold dhAt
  rw [v132_apply]
  refine Eq.trans ?_ (Fin.sum_mul_add_fin 8 704 fun q : Fin 5632 => val_main_v127 (F := Ideal) x0 x1 x2 x3 x4 x5 x6 (ix2 R q) * x3 (ix3 0 k q))
  refine Finset.sum_congr rfl fun j _ => Finset.sum_congr rfl fun n _ => ?_
  rw [da_eq hf, hUp_apply]
  rfl

/-- The mean of squares plus a little. -/
theorem v7_apply (R : Fin 8192) (e : Fin 1) : val_main_v7 (F := Ideal) x1 (ix2 R e)
    = Ideal.div (∑ k : Fin 1024, x1 (ix2 R k) * x1 (ix2 R k)) (Ideal.ofBits .f32 0x44800000#32) + Ideal.ofBits .f32 0x358637BD#32 := by
  unfold val_main_v7 val_main_v6 val_main_v5 val_main_v4 val_main_v3 val_main_v2 val_main_v1 val_main_cst val_main_cst_0 val_main_cst_1
  pointwise

/-- The rows' gradient is the reference's. -/
theorem dx_ref (hf : Fin7 x0 x1 x2 x3 x4 x5 x6) (R : Fin 8192) (k : Fin 1024) :
    dxAt (fun k => x0 (ix2 R k)) (dhAt (hUp x3) (hTaps x4) (dcX x0 x1 x2 x3 x4 x5 x6) R.val) (fun k => x1 (ix2 R k)) (fun k => x2 (ix2 0 k)) k
      = val_main_v158 (F := Ideal) x0 x1 x2 x3 x4 x5 x6 (ix2 R k) := by
  rw [funext fun k => dh_eq hf R k, v158_apply, v8_apply]
  exact dx_eq (fun k => hf.h0 _) (fun k => real_v132 x0 x1 x2 x3 x4 x5 x6 hf.h0 hf.h1 hf.h2 hf.h3 hf.h4 hf.h5 hf.h6 _) (fun k => hf.h1 _) (fun k => hf.h2 _)
    (val_main_v7 (F := Ideal) x1 (ix2 R 0)) (v7_apply R 0) k

/-- The taps' and the bias's sums are the reference's. -/
theorem stat_eq (hf : Fin7 x0 x1 x2 x3 x4 x5 x6) (j : Fin 8) (n : Fin 704) (e : Fin 8) :
    statG (fun R => dcX x0 x1 x2 x3 x4 x5 x6 j R n) (fun R => hCols (val_main_v18 (F := Ideal) x1 x2 x3) (ix3 j R n)) e
      = val_main_v157 (F := Ideal) x0 x1 x2 x3 x4 x5 x6 (ix2 e (col j n)) := by
  have hc : (fun R => dcX x0 x1 x2 x3 x4 x5 x6 j R n)
      = fun R => if h : R < 8192 then val_main_v91 (F := Ideal) x0 x1 x2 x3 x4 x5 x6 (ix2 ⟨R, h⟩ (col j n)) else 0 := funext fun R => dc_eq hf j R n
  have ha : (fun R => hCols (val_main_v18 (F := Ideal) x1 x2 x3) (ix3 j R n)) = fun R => val_main_v18 (F := Ideal) x1 x2 x3 (ix2 R (col j n)) :=
    funext fun R => hCols_apply _ j R n
  rw [hc, ha, v157_apply]
  fin_cases e
  · rw [dif_pos (by decide), v123_apply, if_neg (by decide), if_neg (by decide)]
    refine (sum_shift 2 (fun R => val_main_v91 (F := Ideal) x0 x1 x2 x3 x4 x5 x6 (ix2 R (col j n))) (fun R => val_main_v18 (F := Ideal) x1 x2 x3 (ix2 R (col j n)))).trans ?_
    refine Finset.sum_congr rfl fun x _ => ?_
    rw [v22_apply]
  · rw [dif_pos (by decide), v123_apply, if_neg (by decide), if_pos (by decide)]
    refine (sum_shift 1 (fun R => val_main_v91 (F := Ideal) x0 x1 x2 x3 x4 x5 x6 (ix2 R (col j n))) (fun R => val_main_v18 (F := Ideal) x1 x2 x3 (ix2 R (col j n)))).trans ?_
    refine Finset.sum_congr rfl fun x _ => ?_
    rw [v22_apply]
    refine congrArg (· * _) ?_
    by_cases h : x.val < 1
    · rw [dif_pos h, dif_pos (by show 1 + x.val < 2; omega)]
    · rw [dif_neg h, dif_neg (by show ¬1 + x.val < 2; omega)]
      exact congrArg (fun z => val_main_v18 (F := Ideal) x1 x2 x3 (ix2 z (col j n))) (Fin.ext (by show x.val - 1 = 1 + x.val - 2; omega))
  · rw [dif_pos (by decide), v123_apply, if_pos (by decide)]
    refine (sum_shift 0 (fun R => val_main_v91 (F := Ideal) x0 x1 x2 x3 x4 x5 x6 (ix2 R (col j n))) (fun R => val_main_v18 (F := Ideal) x1 x2 x3 (ix2 R (col j n)))).trans ?_
    refine Finset.sum_congr rfl fun x _ => ?_
    rw [v22_apply]
    refine congrArg (· * _) ?_
    rw [dif_neg (Nat.not_lt_zero _), dif_neg (by show ¬2 + x.val < 2; omega)]
    exact congrArg (fun z => val_main_v18 (F := Ideal) x1 x2 x3 (ix2 z (col j n))) (Fin.ext (by show x.val - 0 = 2 + x.val - 2; omega))
  · rw [dif_neg (by decide), if_pos (by decide), Fin.sum_univ_one]
    exact Finset.sum_congr rfl fun R _ => dif_pos R.isLt
  all_goals
    rw [dif_neg (by decide), if_neg (by decide)]
    rfl

/-- The gain's gradient is the reference's. -/
theorem gain_eq (hf : Fin7 x0 x1 x2 x3 x4 x5 x6) (e : Fin 8) (k : Fin 1024) :
    (if e.val = 0 then ∑ R : Fin 8192, dhAt (hUp x3) (hTaps x4) (dcX x0 x1 x2 x3 x4 x5 x6) R.val k * (x1 (ix2 R k) * invAt fun k => x1 (ix2 R k)) else 0 : EReal)
      = val_main_v165 (F := Ideal) x0 x1 x2 x3 x4 x5 x6 (ix2 e k) := by
  rw [v165_apply]
  by_cases h : e.val = 0
  · rw [if_pos h, if_pos h]
    refine Finset.sum_congr rfl fun R _ => ?_
    rw [dh_eq hf, v8_apply]
    exact mul_comm _ _
  · rw [if_neg h, if_neg h]

end Cert.Ffn
-- ==== Proof.Ffn.Pre.lean ====
module

public import proofs.«01_k».proof.Defs
public import proofs.«01_k».proof.Proof.Ffn.Equal

@[expose] public section

noncomputable section

namespace Cert.Ffn

open Idealize.ShloMosaic Idealize.ShloMosaic.TcCoe Cert.Pre_finite

/-! The precondition says that every entry is a real number. -/

/-- The side conditions of the precondition. -/
theorem facts_pre : Cert.Pre_finite.Facts where
  bcast_S_S8192x1024 := by decide
  bcast_S_S1x1024 := by decide
  bcast_S_S1x1024x5632 := by decide
  bcast_S_S1x3x5632 := by decide
  bcast_S_S1x5632 := by decide
  bcast_S_S1x2816x1024 := by decide

/-- A vector whose sizes all compare below infinity has real entries. -/
theorem allReal_of {s : Shape} (b : (⟨0, ![]⟩ : Shape).BroadcastsInDim s (![] : Fin 0 → Fin s.rank)) (x : FVec Ideal s .f32)
    (h : cmpf .olt (Host.absf x) (broadcastInDim s ![] b (constant (F := Ideal) ⟨0, ![]⟩ .f32 0x7F800000#32)) = fun _ => 1#1) : AllReal x := by
  intro i
  have e : Ideal.cmp .olt (max (x i : EReal) (-(x i : EReal))) (Ideal.ofBits .f32 0x7F800000#32) = 1#1 := congrFun h i
  have htop : Ideal.ofBits .f32 0x7F800000#32 = ⊤ := by simp [Ideal.ofBits, Ideal.ieee]
  rw [htop] at e
  refine IsReal.of_abs_lt ?_
  by_contra hn
  have e' : BitVec.ofBool (decide (max (x i : EReal) (-(x i : EReal)) < ⊤)) = 1#1 := e
  rw [decide_eq_false hn] at e'
  exact absurd e' (by decide)

attribute [local instance] facts_pre

/-- The precondition of the seven arguments. -/
theorem fin7_of (x0 x1 : FVec Ideal S8192x1024 .f32) (x2 : FVec Ideal S1x1024 .f32) (x3 : FVec Ideal S1x1024x5632 .f32)
    (x4 : FVec Ideal S1x3x5632 .f32) (x5 : FVec Ideal S1x5632 .f32) (x6 : FVec Ideal S1x2816x1024 .f32)
    (h0 : (fn (F := Ideal) x0 x1 x2 x3 x4 x5 x6).1 = fun _ => 1#1)
    (h1 : (fn (F := Ideal) x0 x1 x2 x3 x4 x5 x6).2.1 = fun _ => 1#1)
    (h2 : (fn (F := Ideal) x0 x1 x2 x3 x4 x5 x6).2.2.1 = fun _ => 1#1)
    (h3 : (fn (F := Ideal) x0 x1 x2 x3 x4 x5 x6).2.2.2.1 = fun _ => 1#1)
    (h4 : (fn (F := Ideal) x0 x1 x2 x3 x4 x5 x6).2.2.2.2.1 = fun _ => 1#1)
    (h5 : (fn (F := Ideal) x0 x1 x2 x3 x4 x5 x6).2.2.2.2.2.1 = fun _ => 1#1)
    (h6 : (fn (F := Ideal) x0 x1 x2 x3 x4 x5 x6).2.2.2.2.2.2 = fun _ => 1#1) : Fin7 x0 x1 x2 x3 x4 x5 x6 where
  h0 := allReal_of Facts.bcast_S_S8192x1024 x0 h0
  h1 := allReal_of Facts.bcast_S_S8192x1024 x1 h1
  h2 := allReal_of Facts.bcast_S_S1x1024 x2 h2
  h3 := allReal_of Facts.bcast_S_S1x1024x5632 x3 h3
  h4 := allReal_of Facts.bcast_S_S1x3x5632 x4 h4
  h5 := allReal_of Facts.bcast_S_S1x5632 x5 h5
  h6 := allReal_of Facts.bcast_S_S1x2816x1024 x6 h6

end Cert.Ffn
-- ==== Proof.Ffn.Value.lean ====
module

public import proofs.«01_k».proof.Proof.Ffn.Pre
public import proofs.«01_k».proof.Proof.Gen.ReferenceIdeal.Run

@[expose] public section

set_option maxRecDepth 16384

noncomputable section

namespace Cert.Ffn

open Idealize.ShloMosaic Idealize.ShloMosaic.TcCoe Idealize.ShloMosaic.Tactic Cert.KernelIdeal Cert.KernelIdeal.Gen Idealize.SL.Sem Cert.ReferenceIdeal.Read

/-! The kernel's four results are the reference's, on finite arguments. -/

variable (m : (ℓ : Loc nD τ sig) → Buf (Elt Ideal) ℓ)

/-- The arguments on a device are finite. -/
abbrev FinAt (c : Dev nD) : Prop :=
  Fin7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The rows the kernel works on, from its arguments. -/
theorem dcV_eq (c : Dev nD) : dcV m c = dcX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold dcV dcX
  rw [V_main_arg0, V_both, V_down]

/-- The normed rows' gradient, from the arguments. -/
theorem dhV_eq (c : Dev nD) (R : ℕ) : dhV m c R = dhAt (hUp (m ((c : Thread nD τ).loc main_arg3))) (hTaps (m ((c : Thread nD τ).loc main_arg4)))
    (dcX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) R := by
  funext k
  unfold dhV
  rw [V_up, V_taps, dcV_eq]

theorem xV_eq (c : Dev nD) (R : Fin 8192) : xV m c R = fun k => m ((c : Thread nD τ).loc main_arg1) (ix2 R k) := by
  funext k
  unfold xV
  rw [V_main_arg1]

theorem G8_eq (c : Dev nD) (hf : FinAt m c) : G8 m c = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨R, k, rfl⟩ : ∃ (R : Fin 8192) (k : Fin 1024), y = ix2 R k := ⟨y 0, y 1, eq_ix2 y⟩
  refine Eq.trans ?_ (dx_ref hf R k)
  show dxAt (fun k => V m c main_arg0 (ix2 R k)) (dhV m c R.val) (fun k => V m c main_arg1 (ix2 R k)) (fun k => V m c main_arg2 (ix2 0 k)) k = _
  rw [dhV_eq, V_main_arg0, V_main_arg1, V_main_arg2]

theorem G9_eq (c : Dev nD) (hf : FinAt m c) : G9 m c = val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨j, R, n, rfl⟩ : ∃ (j : Fin 8) (R : Fin 8192) (n : Fin 704), y = ix3 j R n := ⟨y 0, y 1, y 2, eq_ix3 y⟩
  refine Eq.trans ?_ ((da_eq hf j R n).trans (v161_apply _ _ _ _ _ _ _ j R n).symm)
  show daAt (V m c main_v95) (dcV m c) j R.val n = _
  rw [V_taps, dcV_eq]

theorem G10_eq (c : Dev nD) (hf : FinAt m c) : G10 m c = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨s, d, e, n, rfl⟩ : ∃ (s : Fin 2) (d : Fin 4) (e : Fin 8) (n : Fin 704), y = ix4 s d e n := ⟨y 0, y 1, y 2, y 3, eq_ix4 y⟩
  refine Eq.trans ?_ ((stat_eq hf ⟨4 * s.val + d.val, by omega⟩ n e).trans ?_)
  · show statG (fun R => dcV m c ⟨4 * s.val + d.val, _⟩ R n) (fun R => V m c main_v101 (ix3 ⟨4 * s.val + d.val, _⟩ R n)) e = _
    rw [dcV_eq, V_cols]
  · rw [v164_apply]
    exact congrArg (fun j => val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 e (col j n)))
      (Fin.ext (congrArg (· + d.val) (Nat.mul_comm 4 s.val)))

theorem G11_eq (c : Dev nD) (hf : FinAt m c) : G11 m c = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨e, k, rfl⟩ : ∃ (e : Fin 8) (k : Fin 1024), y = ix2 e k := ⟨y 0, y 1, eq_ix2 y⟩
  refine Eq.trans ?_ (gain_eq hf e k)
  show (if e.val = 0 then ∑ R : Fin 8192, dhV m c R.val k * (xV m c R k * invAt (xV m c R)) else 0) = _
  simp only [dhV_eq, xV_eq]

end Cert.Ffn
-- ==== Proof.Ffn.Final.lean ====
module

public import proofs.«01_k».proof.Proof.Ffn.Value
public import proofs.«01_k».proof.Proof.Ffn.Arrays
public import proofs.«01_k».proof.Proof.Gen.KernelIdeal.Value
public import proofs.«01_k».proof.Proof.Gen.KernelIdeal.Frame
public import proofs.«01_k».proof.Proof.Gen.Kernel.Frame
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384

noncomputable section

namespace Cert.Ffn

open Idealize.ShloMosaic Idealize.ShloMosaic.TcCoe Idealize.ShloMosaic.StableHlo Idealize.SL.Sem

attribute [local instance] facts_pre

/-! The statements about the gated MLP's gradient. -/

/-- The reference ends with its arguments kept and no semaphore held. -/
theorem reference_kept (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m g)

/-- A function of seven arguments has equal values at equal arguments. -/
theorem congr7 {A0 A1 A2 A3 A4 A5 A6 B : Type} (f : A0 → A1 → A2 → A3 → A4 → A5 → A6 → B) {x0 y0 : A0} {x1 y1 : A1} {x2 y2 : A2} {x3 y3 : A3} {x4 y4 : A4} {x5 y5 : A5} {x6 y6 : A6}
    (h0 : x0 = y0) (h1 : x1 = y1) (h2 : x2 = y2) (h3 : x3 = y3) (h4 : x4 = y4) (h5 : x5 = y5) (h6 : x6 = y6) : f x0 x1 x2 x3 x4 x5 x6 = f y0 y1 y2 y3 y4 y5 y6 := by
  subst h0 h1 h2 h3 h4 h5 h6
  rfl

/-- The kernel's run on the ideal numbers and the reference's run end with equal results. -/
theorem equal_results : Cert.algebraic_KernelIdeal_ReferenceIdeal_pre_finite := by
  intro m g m' g' hp hag
  have hf : ∀ c, FinAt m c := fun c => fin7_of _ _ _ _ _ _ _ (hp c).1 (hp c).2.1 (hp c).2.2.1 (hp c).2.2.2.1 (hp c).2.2.2.2.1 (hp c).2.2.2.2.2.1 (hp c).2.2.2.2.2.2
  refine ⟨fun c => G8 m c, fun c => G9 m c, fun c => G10 m c, fun c => G11 m c, ?_, ?_⟩
  · refine (θ_run Cert.KernelIdeal.defs _ _).mono (fun r h c => ?_) (Cert.KernelIdeal.Value.run_blocks (F := Ideal) m g)
    obtain ⟨h0, h1, h2, h3, hk⟩ := h c
    exact ⟨h0.trans (arr8 m c), h1.trans (arr9 m c), h2.trans (arr10 m c), h3.trans (arr11 m c), hk⟩
  · refine (θ_run Cert.ReferenceIdeal.defs _ _).mono (fun r h c => ?_) (Cert.ReferenceIdeal.Value.run (F := Ideal) m' g')
    obtain ⟨a0, a1, a2, a3, a4, a5, a6⟩ := hag c
    exact ⟨(h c).1.trans ((Cert.ReferenceIdeal.Read.val_main_v158_eq (launchContents m' c)).trans ((congr7 Cert.ReferenceIdeal.Read.val_main_v158 a0 a1 a2 a3 a4 a5 a6).trans (G8_eq m c (hf c)).symm)),
      (h c).2.1.trans ((Cert.ReferenceIdeal.Read.val_main_v161_eq (launchContents m' c)).trans ((congr7 Cert.ReferenceIdeal.Read.val_main_v161 a0 a1 a2 a3 a4 a5 a6).trans (G9_eq m c (hf c)).symm)),
      (h c).2.2.1.trans ((Cert.ReferenceIdeal.Read.val_main_v164_eq (launchContents m' c)).trans ((congr7 Cert.ReferenceIdeal.Read.val_main_v164 a0 a1 a2 a3 a4 a5 a6).trans (G10_eq m c (hf c)).symm)),
      (h c).2.2.2.1.trans ((Cert.ReferenceIdeal.Read.val_main_v165_eq (launchContents m' c)).trans ((congr7 Cert.ReferenceIdeal.Read.val_main_v165 a0 a1 a2 a3 a4 a5 a6).trans (G11_eq m c (hf c)).symm)), (h c).2.2.2.2⟩

end Cert.Ffn
-- ==== Proof.Mm.Core.lean ====
module

public import Idealize.ShloMosaic.Lib.Pointwise
public import Idealize.ShloMosaic.Lib.Claim

@[expose] public section

noncomputable section

namespace Cert.Mm

open Idealize.ShloMosaic

/-! A sum over all the rows, from its parts over consecutive blocks of rows. -/

/-- Place `p` of block `i` of the rows, of `w` rows each. -/
def rowAt (w K i : ℕ) (hi : i < K) (h : K * w = 8192) (p : Fin w) : Fin 8192 :=
  ⟨w * i + p.val, by
    have := Nat.mul_le_mul_right w (Nat.succ_le_of_lt hi)
    have hp := p.isLt
    rw [Nat.succ_mul] at this
    rw [Nat.mul_comm w i]
    omega⟩

/-- The whole sum is the blocks' sums added up. -/
theorem sum_blocks (w K : ℕ) (h : K * w = 8192) (f : Fin 8192 → EReal) :
    ∑ R : Fin 8192, f R = ∑ i : Fin K, ∑ p : Fin w, f (rowAt w K i.val i.isLt h p) := by
  have e : ∑ R : Fin 8192, f R = ∑ R : Fin (K * w), f (Fin.cast h R) :=
    (Equiv.sum_comp (finCongr h) f).symm
  rw [e, ← Equiv.sum_comp finProdFinEquiv, Fintype.sum_prod_type]
  refine Finset.sum_congr rfl fun i _ => Finset.sum_congr rfl fun p _ => congrArg f (Fin.ext ?_)
  show p.val + w * i.val = w * i.val + p.val
  exact Nat.add_comm _ _

/-- A quantity that starts at the first part and gains a part at each step ends at the sum of the parts. -/
theorem steps_sum {K : ℕ} (part acc : Fin (K + 1) → EReal) (first : acc 0 = 0 + part 0)
    (next : ∀ i : Fin K, acc i.succ = acc i.castSucc + part i.succ) : acc (Fin.last K) = ∑ i, part i := by
  induction K with
  | zero => rw [Fin.sum_univ_one, ← zero_add (part 0)]; exact first
  | succ K ih =>
    rw [Fin.sum_univ_castSucc]
    exact (next (Fin.last K)).trans (congrArg (· + part (Fin.last (K + 1)))
      (ih (fun i => part i.castSucc) (fun i => acc i.castSucc) first (fun i => next i.castSucc)))

/-- A quantity that gains one block's sum at each step, from zero, ends at the sum over all the rows. -/
theorem run_sum (w K : ℕ) (h : (K + 1) * w = 8192) (f : Fin 8192 → EReal) (acc : Fin (K + 1) → EReal)
    (first : acc 0 = 0 + ∑ p : Fin w, f (rowAt w (K + 1) (0 : Fin (K + 1)).val (0 : Fin (K + 1)).isLt h p))
    (next : ∀ i : Fin K, acc i.succ = acc i.castSucc + ∑ p : Fin w, f (rowAt w (K + 1) i.succ.val i.succ.isLt h p)) :
    acc (Fin.last K) = ∑ R : Fin 8192, f R :=
  (steps_sum (fun i => ∑ p : Fin w, f (rowAt w (K + 1) i.val i.isLt h p)) acc first next).trans (sum_blocks w (K + 1) h f).symm

/-! An index from its coordinates' numbers. -/

/-- In two dimensions. -/
theorem ix2_of {n0 n1 : ℕ} (i : (⟨2, ![n0, n1]⟩ : Shape).Idx) (a : Fin n0) (b : Fin n1) (ha : (i 0).val = a.val) (hb : (i 1).val = b.val) :
    i = ix2 a b :=
  funext fun k => Fin.ext (match k with | ⟨0, _⟩ => ha | ⟨1, _⟩ => hb)

/-- In three dimensions. -/
theorem ix3_of {n0 n1 n2 : ℕ} (i : (⟨3, ![n0, n1, n2]⟩ : Shape).Idx) (a : Fin n0) (b : Fin n1) (c : Fin n2) (ha : (i 0).val = a.val)
    (hb : (i 1).val = b.val) (hc : (i 2).val = c.val) : i = ix3 a b c :=
  funext fun k => Fin.ext (match k with | ⟨0, _⟩ => ha | ⟨1, _⟩ => hb | ⟨2, _⟩ => hc)

/-- An array of three dimensions from its entries. -/
theorem array_ext {n0 n1 n2 : ℕ} {α : Type} (f g : (⟨3, ![n0, n1, n2]⟩ : Shape).Idx → α) (h : ∀ a b c, f (ix3 a b c) = g (ix3 a b c)) : f = g :=
  funext fun i => (eq_ix3 i).symm ▸ h (i 0) (i 1) (i 2)

/-- Products agree where the factors do. -/
theorem mul_eq {a b c d : EReal} (h : a = c) (k : b = d) : a * b = c * d := congrArg₂ (· * ·) h k

end Cert.Mm
-- ==== Proof.Mm.Down.lean ====
module

public import proofs.«01_k».proof.Proof.Gen.DownKernelIdeal.Value
public import proofs.«01_k».proof.Proof.Gen.DownReferenceIdeal.Read
public import proofs.«01_k».proof.Proof.Gen.DownReferenceIdeal.Run
public import proofs.«01_k».proof.Proof.Mm.Core
public import proofs.«01_k».proof.Defs
public import Idealize.ShloMosaic.Lib.Pipeline.ValueKit

@[expose] public section

set_option maxRecDepth 16384

noncomputable section

namespace Cert.Mm.Down

open Idealize.ShloMosaic Idealize.ShloMosaic.TcCoe Idealize.ShloMosaic.StableHlo Idealize.ShloMosaic.Tactic Cert.DownKernelIdeal Cert.DownKernelIdeal.Gen Idealize.SL.Sem

/-- The first point starts from zero. -/
theorem pay1_at (r : Fin 704) (n : Fin 1024) : (k0_pay1 (F := Ideal)) (ix2 r n) = 0 := by
  unfold k0_pay1
  pointwise

/-- A point adds the product of its two blocks, summed over the blocks' rows. -/
theorem pay2_at (v3 : Vec Ideal S704x1024 .f32) (v4 : Vec Ideal S1x2048x704 .bf16) (v6 : Vec Ideal S2048x1024 .f32) (r : Fin 704) (n : Fin 1024) :
    k0_pay2 v3 v4 v6 (ix2 r n) = v3 (ix2 r n) + ∑ p : Fin 2048, v4 (ix3 0 p r) * v6 (ix2 p n) := by
  unfold k0_pay2
  pointwise

/-- What is written out is what was accumulated. -/
theorem pay3_at (v16 : Vec Ideal S704x1024 .f32) (r : Fin 704) (n : Fin 1024) : k0_pay3 v16 (ix3 0 r n) = v16 (ix2 r n) := by
  unfold k0_pay3
  pointwise

/-- What the first point carries on. -/
theorem sout_A (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : cond0_0 i) (hc1 : ¬cond0_1 i)
    (x0 : Vec Ideal S1x2048x704 .bf16) (x1 : Vec Ideal S2048x1024 .f32) :
    sout0_A_0 c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.readAt_eq_ld, harg2.read_unread, harg3.read_unread, harg5.read_unread]
  rw [View.canon_cons_unit_zero (by decide)]
  simp only [View.ld_unit_zero (S := S704x1024) (off := ![0, 0]) (by decide), View.ld_unit_zero (S := S2048x1024) (off := ![0, 0]) (by decide), View.ld_unit_zero (S := S1x2048x704) (off := ![0, 0, 0]) (by decide), View.readCov_unit_zero (S := S704x1024) _ (off := ![0, 0]) (by decide)]

/-- What a middle point carries on. -/
theorem sout_B (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : ¬cond0_0 i) (hc1 : ¬cond0_1 i)
    (x0 : Vec Ideal S1x2048x704 .bf16) (x1 : Vec Ideal S2048x1024 .f32) (xs : Vec Ideal S704x1024 .f32) :
    sout0_B_0 c i arg2 harg2 arg3 harg3 arg4 harg4 arg5 harg5 hc0 hc1 x0 x1 xs = k0_pay2 xs x0 x1 := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  simp only [View.readAt_eq_ld, harg2.read_unread, harg3.read_unread, harg5.read_unread]
  rw [View.canon_cons_unit_zero (by decide)]
  simp only [View.ld_unit_zero (S := S704x1024) (off := ![0, 0]) (by decide), View.ld_unit_zero (S := S2048x1024) (off := ![0, 0]) (by decide), View.ld_unit_zero (S := S1x2048x704) (off := ![0, 0, 0]) (by decide)]

/-- What the last point writes out. -/
theorem out_C (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : ¬cond0_0 i) (hc1 : cond0_1 i)
    (x0 : Vec Ideal S1x2048x704 .bf16) (x1 : Vec Ideal S2048x1024 .f32) (xs : Vec Ideal S704x1024 .f32) :
    out0_C_2 c i arg2 harg2 arg3 harg3 arg4 harg4 arg5 harg5 hc0 hc1 x0 x1 xs = k0_pay3 (k0_pay2 xs x0 x1) := by
  unfold out0_C_2
  rw [View.read_writes_eq_canon _ _ _ (cover0_C_2 c i arg2 harg2 arg3 harg3 arg4 harg4 arg5 harg5 hc0 hc1 x0 x1 xs)]
  unfold kernelRun0_C
  dsimp only
  sl_unfold_words
  simp only [View.readAt_eq_ld, harg2.read_unread, harg3.read_unread, harg5.read_unread]
  rw [View.canon_cons_unit_zero (by decide)]
  simp only [View.ld_unit_zero (S := S704x1024) (off := ![0, 0]) (by decide), View.ld_unit_zero (S := S2048x1024) (off := ![0, 0]) (by decide), View.ld_unit_zero (S := S1x2048x704) (off := ![0, 0, 0]) (by decide), View.readCov_unit_zero (S := S704x1024) _ (off := ![0, 0]) (by decide)]

variable (m : (ℓ : Loc nD τ sig) → Buf (Elt Ideal) ℓ)

/-- A block of the left factor, out of any array. -/
theorem read0 (c : Dev nD) (A : Buf (Elt Ideal) ((c : Thread nD τ).loc (Pipeline.arrRef spec0 0))) (j i : Fin 4) (t : Fin cfg0.N) (ht : t.val = 4 * j.val + i.val) (p : Fin 2048) (r : Fin 704) :
    ((cfg0.win 0).blk t).view.read (Elt Ideal) A (ix3 0 p r) = A (ix3 j (rowAt 2048 4 i.val i.isLt (by decide) p) r) := by
  have idx : ∀ t : Fin grid0.N, win0_0.index t = ![t.val / 4, t.val % 4, 0] := by decide +kernel
  have e : win0_0.index t = ![j.val, i.val, 0] := by rw [idx t, ht]; congr 2 <;> omega
  unfold rowAt
  blk_ext [e]

/-- A block of the right factor, out of any array. -/
theorem read1 (c : Dev nD) (A : Buf (Elt Ideal) ((c : Thread nD τ).loc (Pipeline.arrRef spec0 1))) (j i : Fin 4) (t : Fin cfg0.N) (ht : t.val = 4 * j.val + i.val) (p : Fin 2048) (n : Fin 1024) :
    ((cfg0.win 1).blk t).view.read (Elt Ideal) A (ix2 p n) = A (ix2 (rowAt 2048 4 i.val i.isLt (by decide) p) n) := by
  have idx : ∀ t : Fin grid0.N, win0_1.index t = ![t.val % 4, 0] := by decide +kernel
  have e : win0_1.index t = ![i.val, 0] := by rw [idx t, ht]; congr 2 <;> omega
  unfold rowAt
  blk_ext [e]

/-- The left factor's array is the argument's columns in blocks. -/
theorem left_apply (c : Dev nD) (j : Fin 4) (R : Fin 8192) (r : Fin 704) :
    V m c main_v2 (ix3 j R r) = m ((c : Thread nD τ).loc main_arg0) (ix2 R ⟨j.val * 704 + r.val, by omega⟩) := by
  entry_read
  generalize m ((c : Thread nD τ).loc main_arg0) = A
  pointwise

/-- The product's term at a row. -/
def term (A : Vec Ideal S8192x2816 .f32) (B : Vec Ideal S8192x1024 .f32) (j : Fin 4) (r : Fin 704) (n : Fin 1024) (R : Fin 8192) : EReal :=
  A (ix2 R ⟨j.val * 704 + r.val, by omega⟩) * B (ix2 R n)

/-- The part of the product that a grid point adds. -/
theorem block (c : Dev nD) (j i : Fin 4) (t : Fin cfg0.N) (ht : t.val = 4 * j.val + i.val) (v : Vec Ideal S704x1024 .f32) (r : Fin 704) (n : Fin 1024) :
    k0_pay2 v (iblk m c 0 t) (iblk m c 1 t) (ix2 r n) = v (ix2 r n) + ∑ p : Fin 2048, term (m ((c : Thread nD τ).loc main_arg0)) (m ((c : Thread nD τ).loc main_arg1)) j r n (rowAt 2048 4 i.val i.isLt (by decide) p) := by
  refine (pay2_at _ _ _ r n).trans (congrArg (v (ix2 r n) + ·) (Finset.sum_congr rfl fun p _ => ?_))
  refine mul_eq ((read0 c (V m c main_v2) j i t ht p r).trans (left_apply m c j _ r)) ((read1 c (V m c main_arg1) j i t ht p n).trans ?_)
  exact congrFun (V_main_arg1 m c) _

/-- The first point of a block's run leaves its part. -/
theorem carry_A (c : Dev nD) (t : Fin cfg0.N) (h0 : t.val % 4 = 0) (h1 : ¬t.val % 4 = 3) :
    (outsAt0 m c t.val t.isLt).2 = k0_pay2 (k0_pay1 (F := Ideal)) (iblk m c 0 t) (iblk m c 1 t) := by
  rw [outsAt0_A m c t h0 h1]
  dsimp only
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A middle point adds its part. -/
theorem carry_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The last point writes out what is carried to it and its part. -/
theorem last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- The grid point of a block's run. -/
def pt (j i : Fin 4) : Fin cfg0.N := ⟨4 * j.val + i.val, lt_of_lt_of_eq (by omega) N_0.symm⟩

/-- A block's run ends with the whole sum written out. -/
theorem out_at (c : Dev nD) (j : Fin 4) (r : Fin 704) (n : Fin 1024) :
    (outsAt0 m c (pt j 3).val (pt j 3).isLt).1 (ix3 0 r n) = ∑ R : Fin 8192, term (m ((c : Thread nD τ).loc main_arg0)) (m ((c : Thread nD τ).loc main_arg1)) j r n R := by
  have v (i : Fin 4) : (pt j i).val = 4 * j.val + i.val := rfl
  have v0 : (pt j 0).val = 4 * j.val := rfl
  have v1 : (pt j 1).val = 4 * j.val + 1 := rfl
  have v2 : (pt j 2).val = 4 * j.val + 2 := rfl
  have v3 : (pt j 3).val = 4 * j.val + 3 := rfl
  have s0 := (congrFun (carry_A m c (pt j 0) (by omega) (by omega)) (ix2 r n)).trans (block m c j 0 (pt j 0) (v 0) _ r n)
  have s1 := (congrFun (carry_B m c (pt j 1) (by omega) (by omega)) (ix2 r n)).trans (block m c j 1 (pt j 1) (v 1) _ r n)
  have s2 := (congrFun (carry_B m c (pt j 2) (by omega) (by omega)) (ix2 r n)).trans (block m c j 2 (pt j 2) (v 2) _ r n)
  have s3 := ((congrFun (last m c (pt j 3) (by omega) (by omega)) (ix3 0 r n)).trans (pay3_at _ r n)).trans (block m c j 3 (pt j 3) (v 3) _ r n)
  rw [pay1_at] at s0
  exact run_sum 2048 3 (by decide) _ ![_, _, _, _] s0 (fun i => match i with | 0 => s1 | 1 => s2 | 2 => s3)

/-- The array that the kernel leaves. -/
theorem final_at (c : Dev nD) (j : Fin 4) (r : Fin 704) (n : Fin 1024) :
    Value.G2 m c (ix3 j r n) = ∑ R : Fin 8192, term (m ((c : Thread nD τ).loc main_arg0)) (m ((c : Thread nD τ).loc main_arg1)) j r n R := by
  have hp : Value.pt2Of (ix3 j r n) = (pt j 3).val := by
    show 4 * (1 * (j.val / 1 - 0) + 1 * (r.val / 704 - 0) + 1 * (n.val / 1024 - 0)) + 3 = 4 * j.val + 3
    omega
  have hl : Value.loc2Of (ix3 j r n) = ix3 0 r n := ix3_of _ _ _ _ (show j.val % 1 = 0 by omega) (Nat.mod_eq_of_lt r.isLt) (Nat.mod_eq_of_lt n.isLt)
  unfold Value.G2
  rw [dif_pos (lt_of_eq_of_lt hp (pt j 3).isLt), hl, Value.fold0_congr m c _ _ _ (by rw [Nat.zero_add]; exact (pt j 3).isLt) hp, ← Value.outsAt0_sweep m c _ (pt j 3).isLt]
  exact out_at m c j r n

/-- The reference's result at an entry. -/
theorem ref_at (A : Vec Ideal S8192x2816 .f32) (B : Vec Ideal S8192x1024 .f32) (j : Fin 4) (r : Fin 704) (n : Fin 1024) :
    Cert.DownReferenceIdeal.Read.val_main_v5 (F := Ideal) A B (ix3 j r n) = ∑ R : Fin 8192, term A B j r n R := by
  rw [Cert.DownReferenceIdeal.Read.val_main_v5_apply]
  show Cert.DownReferenceIdeal.Read.val_main_v4 (F := Ideal) A B (ix3 j r n) = _
  rw [Cert.DownReferenceIdeal.Read.val_main_v4_apply, Cert.DownReferenceIdeal.Read.val_main_v3_apply, Cert.DownReferenceIdeal.Read.val_main_v2_apply]
  refine Finset.sum_congr rfl fun R _ => (mul_comm _ _).trans (mul_eq (congrArg A (ix2_of _ _ _ ?_ ?_)) (congrArg B (ix2_of _ _ _ ?_ ?_)))
  · rfl
  · show ((j.val * 704 + r.val) * 1024 + n.val) / 1024 = j.val * 704 + r.val; omega
  · rfl
  · show ((j.val * 704 + r.val) * 1024 + n.val) % 1024 = n.val; omega

/-- The kernel's array is the reference's. -/
theorem final_eq (c : Dev nD) :
    Value.G2 m c = Cert.DownReferenceIdeal.Read.val_main_v5 (F := Ideal) (m ((c : Thread nD τ).loc main_arg0)) (m ((c : Thread nD τ).loc main_arg1)) := by
  exact array_ext _ _ fun j r n => (final_at m c j r n).trans (ref_at _ _ j r n).symm

/-- The reference ends with its arguments kept and no semaphore held. -/
theorem reference_kept (m : (ℓ : Loc Cert.DownReferenceIdeal.nD Cert.DownReferenceIdeal.τ Cert.DownReferenceIdeal.sig) → Buf (Elt Ideal) ℓ) (g : Dev Cert.DownReferenceIdeal.nD → PrngReg) :
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0) :=
  (θ_run Cert.DownReferenceIdeal.defs _ _).mono (fun r h => ⟨fun c => (h c).2, sem_eq_zero_of_no_sems (by decide) r.2⟩)
    (Cert.DownReferenceIdeal.Value.run (F := Ideal) m g)

/-- The kernel's run on the ideal numbers and the reference's run end with equal results. -/
theorem equal_results : Cert.algebraic_DownKernelIdeal_DownReferenceIdeal := by
  intro m g m' g' _ hag
  refine ⟨fun c => Value.G2 m c, ?_, ?_⟩
  · exact Value.run (F := Ideal) m g
  · refine (θ_run Cert.DownReferenceIdeal.defs _ _).mono (fun r h c => ?_) (Cert.DownReferenceIdeal.Value.run (F := Ideal) m' g')
    obtain ⟨a0, a1⟩ := hag c
    exact ⟨(h c).1.trans ((Cert.DownReferenceIdeal.Read.val_main_v5_eq _ _).trans ((congrArg₂ Cert.DownReferenceIdeal.Read.val_main_v5 a0 a1).trans (final_eq m c).symm)), (h c).2⟩

end Cert.Mm.Down
-- ==== Proof.Mm.Up.lean ====
module

public import proofs.«01_k».proof.Proof.Gen.UpKernelIdeal.Value
public import proofs.«01_k».proof.Proof.Gen.UpReferenceIdeal.Read
public import proofs.«01_k».proof.Proof.Gen.UpReferenceIdeal.Run
public import proofs.«01_k».proof.Proof.Mm.Core
public import proofs.«01_k».proof.Defs
public import Idealize.ShloMosaic.Lib.Pipeline.ValueKit

@[expose] public section

set_option maxRecDepth 16384

noncomputable section

namespace Cert.Mm.Up

open Idealize.ShloMosaic Idealize.ShloMosaic.TcCoe Idealize.ShloMosaic.StableHlo Idealize.ShloMosaic.Tactic Cert.UpKernelIdeal Cert.UpKernelIdeal.Gen Idealize.SL.Sem

/-- The first point starts from zero. -/
theorem pay1_at (r : Fin 704) (n : Fin 1024) : (k0_pay1 (F := Ideal)) (ix2 r n) = 0 := by
  unfold k0_pay1
  pointwise

/-- A point adds the product of its two blocks, summed over the blocks' rows. -/
theorem pay2_at (v3 : Vec Ideal S704x1024 .f32) (v4 : Vec Ideal S1x4096x704 .bf16) (v6 : Vec Ideal S4096x1024 .bf16) (r : Fin 704) (n : Fin 1024) :
    k0_pay2 v3 v4 v6 (ix2 r n) = v3 (ix2 r n) + ∑ p : Fin 4096, v4 (ix3 0 p r) * v6 (ix2 p n) := by
  unfold k0_pay2
  pointwise

/-- What is written out is what was accumulated. -/
theorem pay3_at (v16 : Vec Ideal S704x1024 .f32) (r : Fin 704) (n : Fin 1024) : k0_pay3 v16 (ix3 0 r n) = v16 (ix2 r n) := by
  unfold k0_pay3
  pointwise

/-- What the first point carries on. -/
theorem sout_A (c : Dev nD) (i : grid0.Coords) (arg2 : Memref sig .tc .vmem S1x4096x704 .bf16) (harg2 : arg2.IsWhole) (arg3 : Memref sig .tc .vmem S4096x1024 .bf16) (harg3 : arg3.IsWhole) (arg4 : Memref sig .tc .vmem S1x704x1024 .bf16) (harg4 : arg4.IsWhole) (arg5 : Memref sig .tc .vmem S704x1024 .f32) (harg5 : arg5.IsWhole) (hc0 : cond0_0 i) (hc1 : ¬cond0_1 i)
    (x0 : Vec Ideal S1x4096x704 .bf16) (x1 : Vec Ideal S4096x1024 .bf16) :
    sout0_A_0 c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.readAt_eq_ld, harg2.read_unread, harg3.read_unread, harg5.read_unread]
  rw [View.canon_cons_unit_zero (by decide)]
  simp only [View.ld_unit_zero (S := S704x1024) (off := ![0, 0]) (by decide), View.ld_unit_zero (S := S4096x1024) (off := ![0, 0]) (by decide), View.ld_unit_zero (S := S1x4096x704) (off := ![0, 0, 0]) (by decide), View.readCov_unit_zero (S := S704x1024) _ (off := ![0, 0]) (by decide)]

/-- What the last point writes out. -/
theorem out_B (c : Dev nD) (i : grid0.Coords) (arg2 : Memref sig .tc .vmem S1x4096x704 .bf16) (harg2 : arg2.IsWhole) (arg3 : Memref sig .tc .vmem S4096x1024 .bf16) (harg3 : arg3.IsWhole) (arg4 : Memref sig .tc .vmem S1x704x1024 .bf16) (harg4 : arg4.IsWhole) (arg5 : Memref sig .tc .vmem S704x1024 .f32) (harg5 : arg5.IsWhole) (hc0 : ¬cond0_0 i) (hc1 : cond0_1 i)
    (x0 : Vec Ideal S1x4096x704 .bf16) (x1 : Vec Ideal S4096x1024 .bf16) (xs : Vec Ideal S704x1024 .f32) :
    out0_B_2 c i arg2 harg2 arg3 harg3 arg4 harg4 arg5 harg5 hc0 hc1 x0 x1 xs = k0_pay3 (k0_pay2 xs x0 x1) := by
  unfold out0_B_2
  rw [View.read_writes_eq_canon _ _ _ (cover0_B_2 c i arg2 harg2 arg3 harg3 arg4 harg4 arg5 harg5 hc0 hc1 x0 x1 xs)]
  unfold kernelRun0_B
  dsimp only
  sl_unfold_words
  simp only [View.readAt_eq_ld, harg2.read_unread, harg3.read_unread, harg5.read_unread]
  rw [View.canon_cons_unit_zero (by decide)]
  simp only [View.ld_unit_zero (S := S704x1024) (off := ![0, 0]) (by decide), View.ld_unit_zero (S := S4096x1024) (off := ![0, 0]) (by decide), View.ld_unit_zero (S := S1x4096x704) (off := ![0, 0, 0]) (by decide), View.readCov_unit_zero (S := S704x1024) _ (off := ![0, 0]) (by decide)]

variable (m : (ℓ : Loc nD τ sig) → Buf (Elt Ideal) ℓ)

/-- A block of the left factor, out of any array. -/
theorem read0 (c : Dev nD) (A : Buf (Elt Ideal) ((c : Thread nD τ).loc (Pipeline.arrRef spec0 0))) (j : Fin 8) (i : Fin 2) (t : Fin cfg0.N) (ht : t.val = 2 * j.val + i.val) (p : Fin 4096) (r : Fin 704) :
    ((cfg0.win 0).blk t).view.read (Elt Ideal) A (ix3 0 p r) = A (ix3 j (rowAt 4096 2 i.val i.isLt (by decide) p) r) := by
  have idx : ∀ t : Fin grid0.N, win0_0.index t = ![t.val / 2, t.val % 2, 0] := by decide +kernel
  have e : win0_0.index t = ![j.val, i.val, 0] := by rw [idx t, ht]; congr 2 <;> omega
  unfold rowAt
  blk_ext [e]

/-- A block of the right factor, out of any array. -/
theorem read1 (c : Dev nD) (A : Buf (Elt Ideal) ((c : Thread nD τ).loc (Pipeline.arrRef spec0 1))) (j : Fin 8) (i : Fin 2) (t : Fin cfg0.N) (ht : t.val = 2 * j.val + i.val) (p : Fin 4096) (n : Fin 1024) :
    ((cfg0.win 1).blk t).view.read (Elt Ideal) A (ix2 p n) = A (ix2 (rowAt 4096 2 i.val i.isLt (by decide) p) n) := by
  have idx : ∀ t : Fin grid0.N, win0_1.index t = ![t.val % 2, 0] := by decide +kernel
  have e : win0_1.index t = ![i.val, 0] := by rw [idx t, ht]; congr 2 <;> omega
  unfold rowAt
  blk_ext [e]

/-- The left factor's array is the argument's columns in blocks. -/
theorem left_apply (c : Dev nD) (j : Fin 8) (R : Fin 8192) (r : Fin 704) :
    V m c main_v2 (ix3 j R r) = m ((c : Thread nD τ).loc main_arg1) (ix2 R ⟨j.val * 704 + r.val, by omega⟩) := by
  entry_read
  generalize m ((c : Thread nD τ).loc main_arg1) = A
  pointwise

/-- The right factor's array is the argument. -/
theorem right_apply (c : Dev nD) (R : Fin 8192) (n : Fin 1024) :
    V m c main_v3 (ix2 R n) = m ((c : Thread nD τ).loc main_arg0) (ix2 R n) := by
  entry_read
  generalize m ((c : Thread nD τ).loc main_arg0) = A
  pointwise

/-- The product's term at a row. -/
def term (A : Vec Ideal S8192x5632 .f32) (B : Vec Ideal S8192x1024 .f32) (j : Fin 8) (r : Fin 704) (n : Fin 1024) (R : Fin 8192) : EReal :=
  A (ix2 R ⟨j.val * 704 + r.val, by omega⟩) * B (ix2 R n)

/-- The part of the product that a grid point adds. -/
theorem block (c : Dev nD) (j : Fin 8) (i : Fin 2) (t : Fin cfg0.N) (ht : t.val = 2 * j.val + i.val) (v : Vec Ideal S704x1024 .f32) (r : Fin 704) (n : Fin 1024) :
    k0_pay2 v (iblk m c 0 t) (iblk m c 1 t) (ix2 r n) = v (ix2 r n) + ∑ p : Fin 4096, term (m ((c : Thread nD τ).loc main_arg1)) (m ((c : Thread nD τ).loc main_arg0)) j r n (rowAt 4096 2 i.val i.isLt (by decide) p) := by
  refine (pay2_at _ _ _ r n).trans (congrArg (v (ix2 r n) + ·) (Finset.sum_congr rfl fun p _ => ?_))
  refine mul_eq ((read0 c (V m c main_v2) j i t ht p r).trans (left_apply m c j _ r)) ((read1 c (V m c main_v3) j i t ht p n).trans (right_apply m c _ n))

/-- The first point of a block's run leaves its part. -/
theorem carry_A (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]
  dsimp only
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The last point writes out what is carried to it and its part. -/
theorem last (c : Dev nD) (t : Fin cfg0.N) (h0 : ¬t.val % 2 = 0) (h1 : t.val % 2 = 1) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_B m c t h0 h1]
  dsimp only
  exact out_B c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- The grid point of a block's run. -/
def pt (j : Fin 8) (i : Fin 2) : Fin cfg0.N := ⟨2 * j.val + i.val, lt_of_lt_of_eq (by omega) N_0.symm⟩

/-- A block's run ends with the whole sum written out. -/
theorem out_at (c : Dev nD) (j : Fin 8) (r : Fin 704) (n : Fin 1024) :
    (outsAt0 m c (pt j 1).val (pt j 1).isLt).1 (ix3 0 r n) = ∑ R : Fin 8192, term (m ((c : Thread nD τ).loc main_arg1)) (m ((c : Thread nD τ).loc main_arg0)) j r n R := by
  have v (i : Fin 2) : (pt j i).val = 2 * j.val + i.val := rfl
  have v0 : (pt j 0).val = 2 * j.val := rfl
  have v1 : (pt j 1).val = 2 * j.val + 1 := rfl
  have s0 := (congrFun (carry_A m c (pt j 0) (by omega) (by omega)) (ix2 r n)).trans (block m c j 0 (pt j 0) (v 0) _ r n)
  have s1 := ((congrFun (last m c (pt j 1) (by omega) (by omega)) (ix3 0 r n)).trans (pay3_at _ r n)).trans (block m c j 1 (pt j 1) (v 1) _ r n)
  rw [pay1_at] at s0
  exact run_sum 4096 1 (by decide) _ ![_, _] s0 (fun i => match i with | 0 => s1)

/-- The array that the kernel leaves. -/
theorem final_at (c : Dev nD) (j : Fin 8) (r : Fin 704) (n : Fin 1024) :
    Value.G2 m c (ix3 j r n) = ∑ R : Fin 8192, term (m ((c : Thread nD τ).loc main_arg1)) (m ((c : Thread nD τ).loc main_arg0)) j r n R := by
  have hp : Value.pt2Of (ix3 j r n) = (pt j 1).val := by
    show 2 * (1 * (j.val / 1 - 0) + 1 * (r.val / 704 - 0) + 1 * (n.val / 1024 - 0)) + 1 = 2 * j.val + 1
    omega
  have hl : Value.loc2Of (ix3 j r n) = ix3 0 r n := ix3_of _ _ _ _ (show j.val % 1 = 0 by omega) (Nat.mod_eq_of_lt r.isLt) (Nat.mod_eq_of_lt n.isLt)
  unfold Value.G2
  rw [dif_pos (lt_of_eq_of_lt hp (pt j 1).isLt), hl, Value.fold0_congr m c _ _ _ (by rw [Nat.zero_add]; exact (pt j 1).isLt) hp, ← Value.outsAt0_sweep m c _ (pt j 1).isLt]
  exact out_at m c j r n

/-- The reference's result at an entry. -/
theorem ref_at (A : Vec Ideal S8192x5632 .f32) (B : Vec Ideal S8192x1024 .f32) (j : Fin 8) (r : Fin 704) (n : Fin 1024) :
    Cert.UpReferenceIdeal.Read.val_main_v6 (F := Ideal) B A (ix3 j r n) = ∑ R : Fin 8192, term A B j r n R := by
  rw [Cert.UpReferenceIdeal.Read.val_main_v6_apply]
  show Cert.UpReferenceIdeal.Read.val_main_v5 (F := Ideal) B A (ix3 j r n) = _
  rw [Cert.UpReferenceIdeal.Read.val_main_v5_apply, Cert.UpReferenceIdeal.Read.val_main_v4_apply, Cert.UpReferenceIdeal.Read.val_main_v3_apply, Cert.UpReferenceIdeal.Read.val_main_v2_apply]
  refine Finset.sum_congr rfl fun R _ => (mul_eq (congrArg A (ix2_of _ _ _ ?_ ?_)) (congrArg B (ix2_of _ _ _ ?_ ?_)))
  · rfl
  · show ((j.val * 704 + r.val) * 1024 + n.val) / 1024 = j.val * 704 + r.val; omega
  · rfl
  · show ((j.val * 704 + r.val) * 1024 + n.val) % 1024 = n.val; omega

/-- The kernel's array is the reference's. -/
theorem final_eq (c : Dev nD) :
    Value.G2 m c = Cert.UpReferenceIdeal.Read.val_main_v6 (F := Ideal) (m ((c : Thread nD τ).loc main_arg0)) (m ((c : Thread nD τ).loc main_arg1)) := by
  exact array_ext _ _ fun j r n => (final_at m c j r n).trans (ref_at _ _ j r n).symm

/-- The reference ends with its arguments kept and no semaphore held. -/
theorem reference_kept (m : (ℓ : Loc Cert.UpReferenceIdeal.nD Cert.UpReferenceIdeal.τ Cert.UpReferenceIdeal.sig) → Buf (Elt Ideal) ℓ) (g : Dev Cert.UpReferenceIdeal.nD → PrngReg) :
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0) :=
  (θ_run Cert.UpReferenceIdeal.defs _ _).mono (fun r h => ⟨fun c => (h c).2, sem_eq_zero_of_no_sems (by decide) r.2⟩)
    (Cert.UpReferenceIdeal.Value.run (F := Ideal) m g)

/-- The kernel's run on the ideal numbers and the reference's run end with equal results. -/
theorem equal_results : Cert.algebraic_UpKernelIdeal_UpReferenceIdeal := by
  intro m g m' g' _ hag
  refine ⟨fun c => Value.G2 m c, ?_, ?_⟩
  · exact Value.run (F := Ideal) m g
  · refine (θ_run Cert.UpReferenceIdeal.defs _ _).mono (fun r h c => ?_) (Cert.UpReferenceIdeal.Value.run (F := Ideal) m' g')
    obtain ⟨a0, a1⟩ := hag c
    exact ⟨(h c).1.trans ((Cert.UpReferenceIdeal.Read.val_main_v6_eq _ _).trans ((congrArg₂ Cert.UpReferenceIdeal.Read.val_main_v6 a0 a1).trans (final_eq m c).symm)), (h c).2⟩

end Cert.Mm.Up
-- ==== Proof.Mm.Wo.lean ====
module

public import proofs.«01_k».proof.Proof.Gen.WoKernelIdeal.Value
public import proofs.«01_k».proof.Proof.Gen.WoReferenceIdeal.Read
public import proofs.«01_k».proof.Proof.Gen.WoReferenceIdeal.Run
public import proofs.«01_k».proof.Proof.Mm.Core
public import proofs.«01_k».proof.Defs
public import Idealize.ShloMosaic.Lib.Pipeline.ValueKit

@[expose] public section

set_option maxRecDepth 16384

noncomputable section

namespace Cert.Mm.Wo

open Idealize.ShloMosaic Idealize.ShloMosaic.TcCoe Idealize.ShloMosaic.StableHlo Idealize.ShloMosaic.Tactic Cert.WoKernelIdeal Cert.WoKernelIdeal.Gen Idealize.SL.Sem

/-- The first point starts from zero. -/
theorem pay1_at (r : Fin 1024) (n : Fin 1024) : (k0_pay1 (F := Ideal)) (ix2 r n) = 0 := by
  unfold k0_pay1
  pointwise

/-- A point adds the product of its two blocks, summed over the blocks' rows. -/
theorem pay2_at (v3 : Vec Ideal S1024x1024 .f32) (v4 : Vec Ideal S2048x1024 .bf16) (v6 : Vec Ideal S2048x1024 .f32) (r : Fin 1024) (n : Fin 1024) :
    k0_pay2 v3 v4 v6 (ix2 r n) = v3 (ix2 r n) + ∑ p : Fin 2048, v4 (ix2 p r) * v6 (ix2 p n) := by
  unfold k0_pay2
  pointwise

/-- What is written out is what was accumulated. -/
theorem pay3_at (v16 : Vec Ideal S1024x1024 .f32) (r : Fin 1024) (n : Fin 1024) : k0_pay3 v16 (ix3 0 r n) = v16 (ix2 r n) := by
  unfold k0_pay3
  pointwise

/-- What the first point carries on. -/
theorem sout_A (c : Dev nD) (i : grid0.Coords) (arg2 : Memref sig .tc .vmem S2048x1024 .bf16) (harg2 : arg2.IsWhole) (arg3 : Memref sig .tc .vmem S2048x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i)
    (x0 : Vec Ideal S2048x1024 .bf16) (x1 : Vec Ideal S2048x1024 .f32) :
    sout0_A_0 c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.readAt_eq_ld, harg2.read_unread, harg3.read_unread, harg5.read_unread]
  rw [View.canon_cons_unit_zero (by decide)]
  simp only [View.ld_unit_zero (S := S1024x1024) (off := ![0, 0]) (by decide), View.ld_unit_zero (S := S2048x1024) (off := ![0, 0]) (by decide), View.ld_unit_zero (S := S2048x1024) (off := ![0, 0]) (by decide), View.readCov_unit_zero (S := S1024x1024) _ (off := ![0, 0]) (by decide)]

/-- What a middle point carries on. -/
theorem sout_B (c : Dev nD) (i : grid0.Coords) (arg2 : Memref sig .tc .vmem S2048x1024 .bf16) (harg2 : arg2.IsWhole) (arg3 : Memref sig .tc .vmem S2048x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i)
    (x0 : Vec Ideal S2048x1024 .bf16) (x1 : Vec Ideal S2048x1024 .f32) (xs : Vec Ideal S1024x1024 .f32) :
    sout0_B_0 c i arg2 harg2 arg3 harg3 arg4 harg4 arg5 harg5 hc0 hc1 x0 x1 xs = k0_pay2 xs x0 x1 := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  simp only [View.readAt_eq_ld, harg2.read_unread, harg3.read_unread, harg5.read_unread]
  rw [View.canon_cons_unit_zero (by decide)]
  simp only [View.ld_unit_zero (S := S1024x1024) (off := ![0, 0]) (by decide), View.ld_unit_zero (S := S2048x1024) (off := ![0, 0]) (by decide), View.ld_unit_zero (S := S2048x1024) (off := ![0, 0]) (by decide)]

/-- What the last point writes out. -/
theorem out_C (c : Dev nD) (i : grid0.Coords) (arg2 : Memref sig .tc .vmem S2048x1024 .bf16) (harg2 : arg2.IsWhole) (arg3 : Memref sig .tc .vmem S2048x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i)
    (x0 : Vec Ideal S2048x1024 .bf16) (x1 : Vec Ideal S2048x1024 .f32) (xs : Vec Ideal S1024x1024 .f32) :
    out0_C_2 c i arg2 harg2 arg3 harg3 arg4 harg4 arg5 harg5 hc0 hc1 x0 x1 xs = k0_pay3 (k0_pay2 xs x0 x1) := by
  unfold out0_C_2
  rw [View.read_writes_eq_canon _ _ _ (cover0_C_2 c i arg2 harg2 arg3 harg3 arg4 harg4 arg5 harg5 hc0 hc1 x0 x1 xs)]
  unfold kernelRun0_C
  dsimp only
  sl_unfold_words
  simp only [View.readAt_eq_ld, harg2.read_unread, harg3.read_unread, harg5.read_unread]
  rw [View.canon_cons_unit_zero (by decide)]
  simp only [View.ld_unit_zero (S := S1024x1024) (off := ![0, 0]) (by decide), View.ld_unit_zero (S := S2048x1024) (off := ![0, 0]) (by decide), View.ld_unit_zero (S := S2048x1024) (off := ![0, 0]) (by decide), View.readCov_unit_zero (S := S1024x1024) _ (off := ![0, 0]) (by decide)]

variable (m : (ℓ : Loc nD τ sig) → Buf (Elt Ideal) ℓ)

/-- A block of the left factor, out of any array. -/
theorem read0 (c : Dev nD) (A : Buf (Elt Ideal) ((c : Thread nD τ).loc (Pipeline.arrRef spec0 0))) (j : Fin 1) (i : Fin 4) (t : Fin cfg0.N) (ht : t.val = 4 * j.val + i.val) (p : Fin 2048) (r : Fin 1024) :
    ((cfg0.win 0).blk t).view.read (Elt Ideal) A (ix2 p r) = A (ix2 (rowAt 2048 4 i.val i.isLt (by decide) p) r) := by
  have idx : ∀ t : Fin grid0.N, win0_0.index t = ![t.val % 4, 0] := by decide +kernel
  have e : win0_0.index t = ![i.val, 0] := by rw [idx t, ht]; congr 2 <;> omega
  unfold rowAt
  blk_ext [e]

/-- A block of the right factor, out of any array. -/
theorem read1 (c : Dev nD) (A : Buf (Elt Ideal) ((c : Thread nD τ).loc (Pipeline.arrRef spec0 1))) (j : Fin 1) (i : Fin 4) (t : Fin cfg0.N) (ht : t.val = 4 * j.val + i.val) (p : Fin 2048) (n : Fin 1024) :
    ((cfg0.win 1).blk t).view.read (Elt Ideal) A (ix2 p n) = A (ix2 (rowAt 2048 4 i.val i.isLt (by decide) p) n) := by
  have idx : ∀ t : Fin grid0.N, win0_1.index t = ![t.val % 4, 0] := by decide +kernel
  have e : win0_1.index t = ![i.val, 0] := by rw [idx t, ht]; congr 2 <;> omega
  unfold rowAt
  blk_ext [e]

/-- The left factor's array is the argument. -/
theorem left_apply (c : Dev nD) (j : Fin 1) (R : Fin 8192) (r : Fin 1024) :
    V m c main_v0 (ix2 R r) = m ((c : Thread nD τ).loc main_arg0) (ix2 R r) := by
  entry_read
  generalize m ((c : Thread nD τ).loc main_arg0) = A
  pointwise

/-- The product's term at a row. -/
def term (A : Vec Ideal S8192x1024 .f32) (B : Vec Ideal S8192x1024 .f32) (j : Fin 1) (r : Fin 1024) (n : Fin 1024) (R : Fin 8192) : EReal :=
  A (ix2 R r) * B (ix2 R n)

/-- The part of the product that a grid point adds. -/
theorem block (c : Dev nD) (j : Fin 1) (i : Fin 4) (t : Fin cfg0.N) (ht : t.val = 4 * j.val + i.val) (v : Vec Ideal S1024x1024 .f32) (r : Fin 1024) (n : Fin 1024) :
    k0_pay2 v (iblk m c 0 t) (iblk m c 1 t) (ix2 r n) = v (ix2 r n) + ∑ p : Fin 2048, term (m ((c : Thread nD τ).loc main_arg0)) (m ((c : Thread nD τ).loc main_arg1)) j r n (rowAt 2048 4 i.val i.isLt (by decide) p) := by
  refine (pay2_at _ _ _ r n).trans (congrArg (v (ix2 r n) + ·) (Finset.sum_congr rfl fun p _ => ?_))
  refine mul_eq ((read0 c (V m c main_v0) j i t ht p r).trans (left_apply m c j _ r)) ((read1 c (V m c main_arg1) j i t ht p n).trans ?_)
  exact congrFun (V_main_arg1 m c) _

/-- The first point of a block's run leaves its part. -/
theorem carry_A (c : Dev nD) (t : Fin cfg0.N) (h0 : t.val % 4 = 0) (h1 : ¬t.val % 4 = 3) :
    (outsAt0 m c t.val t.isLt).2 = k0_pay2 (k0_pay1 (F := Ideal)) (iblk m c 0 t) (iblk m c 1 t) := by
  rw [outsAt0_A m c t h0 h1]
  dsimp only
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A middle point adds its part. -/
theorem carry_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The last point writes out what is carried to it and its part. -/
theorem last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- The grid point of a block's run. -/
def pt (j : Fin 1) (i : Fin 4) : Fin cfg0.N := ⟨4 * j.val + i.val, lt_of_lt_of_eq (by omega) N_0.symm⟩

/-- A block's run ends with the whole sum written out. -/
theorem out_at (c : Dev nD) (j : Fin 1) (r : Fin 1024) (n : Fin 1024) :
    (outsAt0 m c (pt j 3).val (pt j 3).isLt).1 (ix3 0 r n) = ∑ R : Fin 8192, term (m ((c : Thread nD τ).loc main_arg0)) (m ((c : Thread nD τ).loc main_arg1)) j r n R := by
  have v (i : Fin 4) : (pt j i).val = 4 * j.val + i.val := rfl
  have v0 : (pt j 0).val = 4 * j.val := rfl
  have v1 : (pt j 1).val = 4 * j.val + 1 := rfl
  have v2 : (pt j 2).val = 4 * j.val + 2 := rfl
  have v3 : (pt j 3).val = 4 * j.val + 3 := rfl
  have s0 := (congrFun (carry_A m c (pt j 0) (by omega) (by omega)) (ix2 r n)).trans (block m c j 0 (pt j 0) (v 0) _ r n)
  have s1 := (congrFun (carry_B m c (pt j 1) (by omega) (by omega)) (ix2 r n)).trans (block m c j 1 (pt j 1) (v 1) _ r n)
  have s2 := (congrFun (carry_B m c (pt j 2) (by omega) (by omega)) (ix2 r n)).trans (block m c j 2 (pt j 2) (v 2) _ r n)
  have s3 := ((congrFun (last m c (pt j 3) (by omega) (by omega)) (ix3 0 r n)).trans (pay3_at _ r n)).trans (block m c j 3 (pt j 3) (v 3) _ r n)
  rw [pay1_at] at s0
  exact run_sum 2048 3 (by decide) _ ![_, _, _, _] s0 (fun i => match i with | 0 => s1 | 1 => s2 | 2 => s3)

/-- The array that the kernel leaves. -/
theorem final_at (c : Dev nD) (j : Fin 1) (r : Fin 1024) (n : Fin 1024) :
    Value.G2 m c (ix3 j r n) = ∑ R : Fin 8192, term (m ((c : Thread nD τ).loc main_arg0)) (m ((c : Thread nD τ).loc main_arg1)) j r n R := by
  have hp : Value.pt2Of (ix3 j r n) = (pt j 3).val := by
    show 4 * (1 * (j.val / 1 - 0) + 1 * (r.val / 1024 - 0) + 1 * (n.val / 1024 - 0)) + 3 = 4 * j.val + 3
    omega
  have hl : Value.loc2Of (ix3 j r n) = ix3 0 r n := ix3_of _ _ _ _ (show j.val % 1 = 0 by omega) (Nat.mod_eq_of_lt r.isLt) (Nat.mod_eq_of_lt n.isLt)
  unfold Value.G2
  rw [dif_pos (lt_of_eq_of_lt hp (pt j 3).isLt), hl, Value.fold0_congr m c _ _ _ (by rw [Nat.zero_add]; exact (pt j 3).isLt) hp, ← Value.outsAt0_sweep m c _ (pt j 3).isLt]
  exact out_at m c j r n

/-- The reference's result at an entry. -/
theorem ref_at (A : Vec Ideal S8192x1024 .f32) (B : Vec Ideal S8192x1024 .f32) (j : Fin 1) (r : Fin 1024) (n : Fin 1024) :
    Cert.WoReferenceIdeal.Read.val_main_v5 (F := Ideal) A B (ix3 j r n) = ∑ R : Fin 8192, term A B j r n R := by
  rw [Cert.WoReferenceIdeal.Read.val_main_v5_apply]
  show Cert.WoReferenceIdeal.Read.val_main_v4 (F := Ideal) A B (ix3 j r n) = _
  rw [Cert.WoReferenceIdeal.Read.val_main_v4_apply, Cert.WoReferenceIdeal.Read.val_main_v3_apply, Cert.WoReferenceIdeal.Read.val_main_v2_apply]
  refine Finset.sum_congr rfl fun R _ => (mul_comm _ _).trans (mul_eq (congrArg A (ix2_of _ _ _ ?_ ?_)) (congrArg B (ix2_of _ _ _ ?_ ?_)))
  · rfl
  · rfl
  · rfl
  · rfl

/-- The kernel's array is the reference's. -/
theorem final_eq (c : Dev nD) :
    Value.G2 m c = Cert.WoReferenceIdeal.Read.val_main_v5 (F := Ideal) (m ((c : Thread nD τ).loc main_arg0)) (m ((c : Thread nD τ).loc main_arg1)) := by
  exact array_ext _ _ fun j r n => (final_at m c j r n).trans (ref_at _ _ j r n).symm

/-- The reference ends with its arguments kept and no semaphore held. -/
theorem reference_kept (m : (ℓ : Loc Cert.WoReferenceIdeal.nD Cert.WoReferenceIdeal.τ Cert.WoReferenceIdeal.sig) → Buf (Elt Ideal) ℓ) (g : Dev Cert.WoReferenceIdeal.nD → PrngReg) :
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1))
      ∧ r.2.sem = fun _ => 0) :=
  (θ_run Cert.WoReferenceIdeal.defs _ _).mono (fun r h => ⟨fun c => (h c).2, sem_eq_zero_of_no_sems (by decide) r.2⟩)
    (Cert.WoReferenceIdeal.Value.run (F := Ideal) m g)

/-- The kernel's run on the ideal numbers and the reference's run end with equal results. -/
theorem equal_results : Cert.algebraic_WoKernelIdeal_WoReferenceIdeal := by
  intro m g m' g' _ hag
  refine ⟨fun c => Value.G2 m c, ?_, ?_⟩
  · exact Value.run (F := Ideal) m g
  · refine (θ_run Cert.WoReferenceIdeal.defs _ _).mono (fun r h c => ?_) (Cert.WoReferenceIdeal.Value.run (F := Ideal) m' g')
    obtain ⟨a0, a1⟩ := hag c
    exact ⟨(h c).1.trans ((Cert.WoReferenceIdeal.Read.val_main_v5_eq _ _).trans ((congrArg₂ Cert.WoReferenceIdeal.Read.val_main_v5 a0 a1).trans (final_eq m c).symm)), (h c).2⟩

end Cert.Mm.Wo
-- ==== Proof.Mm.Wq.lean ====
module

public import proofs.«01_k».proof.Proof.Gen.WqKernelIdeal.Value
public import proofs.«01_k».proof.Proof.Gen.WqReferenceIdeal.Read
public import proofs.«01_k».proof.Proof.Gen.WqReferenceIdeal.Run
public import proofs.«01_k».proof.Proof.Mm.Core
public import proofs.«01_k».proof.Defs
public import Idealize.ShloMosaic.Lib.Pipeline.ValueKit

@[expose] public section

set_option maxRecDepth 16384

noncomputable section

namespace Cert.Mm.Wq

open Idealize.ShloMosaic Idealize.ShloMosaic.TcCoe Idealize.ShloMosaic.StableHlo Idealize.ShloMosaic.Tactic Cert.WqKernelIdeal Cert.WqKernelIdeal.Gen Idealize.SL.Sem

/-- The first point starts from zero. -/
theorem pay1_at (r : Fin 1024) (n : Fin 1024) : (k0_pay1 (F := Ideal)) (ix2 r n) = 0 := by
  unfold k0_pay1
  pointwise

/-- A point adds the product of its two blocks, summed over the blocks' rows. -/
theorem pay2_at (v3 : Vec Ideal S1024x1024 .f32) (v4 : Vec Ideal S4096x1024 .bf16) (v6 : Vec Ideal S4096x1024 .bf16) (r : Fin 1024) (n : Fin 1024) :
    k0_pay2 v3 v4 v6 (ix2 r n) = v3 (ix2 r n) + ∑ p : Fin 4096, v4 (ix2 p r) * v6 (ix2 p n) := by
  unfold k0_pay2
  pointwise

/-- What is written out is what was accumulated. -/
theorem pay3_at (v16 : Vec Ideal S1024x1024 .f32) (r : Fin 1024) (n : Fin 1024) : k0_pay3 v16 (ix3 0 r n) = v16 (ix2 r n) := by
  unfold k0_pay3
  pointwise

/-- What the first point carries on. -/
theorem sout_A (c : Dev nD) (i : grid0.Coords) (arg2 : Memref sig .tc .vmem S4096x1024 .bf16) (harg2 : arg2.IsWhole) (arg3 : Memref sig .tc .vmem S4096x1024 .bf16) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i)
    (x0 : Vec Ideal S4096x1024 .bf16) (x1 : Vec Ideal S4096x1024 .bf16) :
    sout0_A_0 c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.readAt_eq_ld, harg2.read_unread, harg3.read_unread, harg5.read_unread]
  rw [View.canon_cons_unit_zero (by decide)]
  simp only [View.ld_unit_zero (S := S1024x1024) (off := ![0, 0]) (by decide), View.ld_unit_zero (S := S4096x1024) (off := ![0, 0]) (by decide), View.ld_unit_zero (S := S4096x1024) (off := ![0, 0]) (by decide), View.readCov_unit_zero (S := S1024x1024) _ (off := ![0, 0]) (by decide)]

/-- What the last point writes out. -/
theorem out_B (c : Dev nD) (i : grid0.Coords) (arg2 : Memref sig .tc .vmem S4096x1024 .bf16) (harg2 : arg2.IsWhole) (arg3 : Memref sig .tc .vmem S4096x1024 .bf16) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i)
    (x0 : Vec Ideal S4096x1024 .bf16) (x1 : Vec Ideal S4096x1024 .bf16) (xs : Vec Ideal S1024x1024 .f32) :
    out0_B_2 c i arg2 harg2 arg3 harg3 arg4 harg4 arg5 harg5 hc0 hc1 x0 x1 xs = k0_pay3 (k0_pay2 xs x0 x1) := by
  unfold out0_B_2
  rw [View.read_writes_eq_canon _ _ _ (cover0_B_2 c i arg2 harg2 arg3 harg3 arg4 harg4 arg5 harg5 hc0 hc1 x0 x1 xs)]
  unfold kernelRun0_B
  dsimp only
  sl_unfold_words
  simp only [View.readAt_eq_ld, harg2.read_unread, harg3.read_unread, harg5.read_unread]
  rw [View.canon_cons_unit_zero (by decide)]
  simp only [View.ld_unit_zero (S := S1024x1024) (off := ![0, 0]) (by decide), View.ld_unit_zero (S := S4096x1024) (off := ![0, 0]) (by decide), View.ld_unit_zero (S := S4096x1024) (off := ![0, 0]) (by decide), View.readCov_unit_zero (S := S1024x1024) _ (off := ![0, 0]) (by decide)]

variable (m : (ℓ : Loc nD τ sig) → Buf (Elt Ideal) ℓ)

/-- A block of the left factor, out of any array. -/
theorem read0 (c : Dev nD) (A : Buf (Elt Ideal) ((c : Thread nD τ).loc (Pipeline.arrRef spec0 0))) (j : Fin 1) (i : Fin 2) (t : Fin cfg0.N) (ht : t.val = 2 * j.val + i.val) (p : Fin 4096) (r : Fin 1024) :
    ((cfg0.win 0).blk t).view.read (Elt Ideal) A (ix2 p r) = A (ix2 (rowAt 4096 2 i.val i.isLt (by decide) p) r) := by
  have idx : ∀ t : Fin grid0.N, win0_0.index t = ![t.val % 2, 0] := by decide +kernel
  have e : win0_0.index t = ![i.val, 0] := by rw [idx t, ht]; congr 2 <;> omega
  unfold rowAt
  blk_ext [e]

/-- A block of the right factor, out of any array. -/
theorem read1 (c : Dev nD) (A : Buf (Elt Ideal) ((c : Thread nD τ).loc (Pipeline.arrRef spec0 1))) (j : Fin 1) (i : Fin 2) (t : Fin cfg0.N) (ht : t.val = 2 * j.val + i.val) (p : Fin 4096) (n : Fin 1024) :
    ((cfg0.win 1).blk t).view.read (Elt Ideal) A (ix2 p n) = A (ix2 (rowAt 4096 2 i.val i.isLt (by decide) p) n) := by
  have idx : ∀ t : Fin grid0.N, win0_1.index t = ![t.val % 2, 0] := by decide +kernel
  have e : win0_1.index t = ![i.val, 0] := by rw [idx t, ht]; congr 2 <;> omega
  unfold rowAt
  blk_ext [e]

/-- The left factor's array is the argument. -/
theorem left_apply (c : Dev nD) (j : Fin 1) (R : Fin 8192) (r : Fin 1024) :
    V m c main_v0 (ix2 R r) = m ((c : Thread nD τ).loc main_arg0) (ix2 R r) := by
  entry_read
  generalize m ((c : Thread nD τ).loc main_arg0) = A
  pointwise

/-- The right factor's array is the argument. -/
theorem right_apply (c : Dev nD) (R : Fin 8192) (n : Fin 1024) :
    V m c main_v1 (ix2 R n) = m ((c : Thread nD τ).loc main_arg1) (ix2 R n) := by
  entry_read
  generalize m ((c : Thread nD τ).loc main_arg1) = A
  pointwise

/-- The product's term at a row. -/
def term (A : Vec Ideal S8192x1024 .f32) (B : Vec Ideal S8192x1024 .f32) (j : Fin 1) (r : Fin 1024) (n : Fin 1024) (R : Fin 8192) : EReal :=
  A (ix2 R r) * B (ix2 R n)

/-- The part of the product that a grid point adds. -/
theorem block (c : Dev nD) (j : Fin 1) (i : Fin 2) (t : Fin cfg0.N) (ht : t.val = 2 * j.val + i.val) (v : Vec Ideal S1024x1024 .f32) (r : Fin 1024) (n : Fin 1024) :
    k0_pay2 v (iblk m c 0 t) (iblk m c 1 t) (ix2 r n) = v (ix2 r n) + ∑ p : Fin 4096, term (m ((c : Thread nD τ).loc main_arg0)) (m ((c : Thread nD τ).loc main_arg1)) j r n (rowAt 4096 2 i.val i.isLt (by decide) p) := by
  refine (pay2_at _ _ _ r n).trans (congrArg (v (ix2 r n) + ·) (Finset.sum_congr rfl fun p _ => ?_))
  refine mul_eq ((read0 c (V m c main_v0) j i t ht p r).trans (left_apply m c j _ r)) ((read1 c (V m c main_v1) j i t ht p n).trans (right_apply m c _ n))

/-- The first point of a block's run leaves its part. -/
theorem carry_A (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]
  dsimp only
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The last point writes out what is carried to it and its part. -/
theorem last (c : Dev nD) (t : Fin cfg0.N) (h0 : ¬t.val % 2 = 0) (h1 : t.val % 2 = 1) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_B m c t h0 h1]
  dsimp only
  exact out_B c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- The grid point of a block's run. -/
def pt (j : Fin 1) (i : Fin 2) : Fin cfg0.N := ⟨2 * j.val + i.val, lt_of_lt_of_eq (by omega) N_0.symm⟩

/-- A block's run ends with the whole sum written out. -/
theorem out_at (c : Dev nD) (j : Fin 1) (r : Fin 1024) (n : Fin 1024) :
    (outsAt0 m c (pt j 1).val (pt j 1).isLt).1 (ix3 0 r n) = ∑ R : Fin 8192, term (m ((c : Thread nD τ).loc main_arg0)) (m ((c : Thread nD τ).loc main_arg1)) j r n R := by
  have v (i : Fin 2) : (pt j i).val = 2 * j.val + i.val := rfl
  have v0 : (pt j 0).val = 2 * j.val := rfl
  have v1 : (pt j 1).val = 2 * j.val + 1 := rfl
  have s0 := (congrFun (carry_A m c (pt j 0) (by omega) (by omega)) (ix2 r n)).trans (block m c j 0 (pt j 0) (v 0) _ r n)
  have s1 := ((congrFun (last m c (pt j 1) (by omega) (by omega)) (ix3 0 r n)).trans (pay3_at _ r n)).trans (block m c j 1 (pt j 1) (v 1) _ r n)
  rw [pay1_at] at s0
  exact run_sum 4096 1 (by decide) _ ![_, _] s0 (fun i => match i with | 0 => s1)

/-- The array that the kernel leaves. -/
theorem final_at (c : Dev nD) (j : Fin 1) (r : Fin 1024) (n : Fin 1024) :
    Value.G2 m c (ix3 j r n) = ∑ R : Fin 8192, term (m ((c : Thread nD τ).loc main_arg0)) (m ((c : Thread nD τ).loc main_arg1)) j r n R := by
  have hp : Value.pt2Of (ix3 j r n) = (pt j 1).val := by
    show 2 * (1 * (j.val / 1 - 0) + 1 * (r.val / 1024 - 0) + 1 * (n.val / 1024 - 0)) + 1 = 2 * j.val + 1
    omega
  have hl : Value.loc2Of (ix3 j r n) = ix3 0 r n := ix3_of _ _ _ _ (show j.val % 1 = 0 by omega) (Nat.mod_eq_of_lt r.isLt) (Nat.mod_eq_of_lt n.isLt)
  unfold Value.G2
  rw [dif_pos (lt_of_eq_of_lt hp (pt j 1).isLt), hl, Value.fold0_congr m c _ _ _ (by rw [Nat.zero_add]; exact (pt j 1).isLt) hp, ← Value.outsAt0_sweep m c _ (pt j 1).isLt]
  exact out_at m c j r n

/-- The reference's result at an entry. -/
theorem ref_at (A : Vec Ideal S8192x1024 .f32) (B : Vec Ideal S8192x1024 .f32) (j : Fin 1) (r : Fin 1024) (n : Fin 1024) :
    Cert.WqReferenceIdeal.Read.val_main_v5 (F := Ideal) A B (ix3 j r n) = ∑ R : Fin 8192, term A B j r n R := by
  rw [Cert.WqReferenceIdeal.Read.val_main_v5_apply]
  show Cert.WqReferenceIdeal.Read.val_main_v4 (F := Ideal) A B (ix3 j r n) = _
  rw [Cert.WqReferenceIdeal.Read.val_main_v4_apply, Cert.WqReferenceIdeal.Read.val_main_v3_apply, Cert.WqReferenceIdeal.Read.val_main_v2_apply]
  refine Finset.sum_congr rfl fun R _ => (mul_comm _ _).trans (mul_eq (congrArg A (ix2_of _ _ _ ?_ ?_)) (congrArg B (ix2_of _ _ _ ?_ ?_)))
  · rfl
  · rfl
  · rfl
  · rfl

/-- The kernel's array is the reference's. -/
theorem final_eq (c : Dev nD) :
    Value.G2 m c = Cert.WqReferenceIdeal.Read.val_main_v5 (F := Ideal) (m ((c : Thread nD τ).loc main_arg0)) (m ((c : Thread nD τ).loc main_arg1)) := by
  exact array_ext _ _ fun j r n => (final_at m c j r n).trans (ref_at _ _ j r n).symm

/-- The reference ends with its arguments kept and no semaphore held. -/
theorem reference_kept (m : (ℓ : Loc Cert.WqReferenceIdeal.nD Cert.WqReferenceIdeal.τ Cert.WqReferenceIdeal.sig) → Buf (Elt Ideal) ℓ) (g : Dev Cert.WqReferenceIdeal.nD → PrngReg) :
    θ_run (Cert.WqReferenceIdeal.defs (F := Ideal)) (onTc (τ := Cert.WqReferenceIdeal.τ) (Cert.WqReferenceIdeal.main (F := Ideal))) ⟨m, fun _ => 0, g⟩ (fun r => (∀ c : Dev Cert.WqReferenceIdeal.nD,
      r.2.mem ((c.tc : Thread Cert.WqReferenceIdeal.nD Cert.WqReferenceIdeal.τ).loc Cert.WqReferenceIdeal.main_arg0) = m ((c.tc : Thread Cert.WqReferenceIdeal.nD Cert.WqReferenceIdeal.τ).loc Cert.WqReferenceIdeal.main_arg0)
      ∧ r.2.mem ((c.tc : Thread Cert.WqReferenceIdeal.nD Cert.WqReferenceIdeal.τ).loc Cert.WqReferenceIdeal.main_arg1) = m ((c.tc : Thread Cert.WqReferenceIdeal.nD Cert.WqReferenceIdeal.τ).loc Cert.WqReferenceIdeal.main_arg1))
      ∧ r.2.sem = fun _ => 0) :=
  (θ_run Cert.WqReferenceIdeal.defs _ _).mono (fun r h => ⟨fun c => (h c).2, sem_eq_zero_of_no_sems (by decide) r.2⟩)
    (Cert.WqReferenceIdeal.Value.run (F := Ideal) m g)

/-- The kernel's run on the ideal numbers and the reference's run end with equal results. -/
theorem equal_results : Cert.algebraic_WqKernelIdeal_WqReferenceIdeal := by
  intro m g m' g' _ hag
  refine ⟨fun c => Value.G2 m c, ?_, ?_⟩
  · exact Value.run (F := Ideal) m g
  · refine (θ_run Cert.WqReferenceIdeal.defs _ _).mono (fun r h c => ?_) (Cert.WqReferenceIdeal.Value.run (F := Ideal) m' g')
    obtain ⟨a0, a1⟩ := hag c
    exact ⟨(h c).1.trans ((Cert.WqReferenceIdeal.Read.val_main_v5_eq _ _).trans ((congrArg₂ Cert.WqReferenceIdeal.Read.val_main_v5 a0 a1).trans (final_eq m c).symm)), (h c).2⟩

end Cert.Mm.Wq
-- ==== Proof.Mm.In.lean ====
module

public import proofs.«01_k».proof.Proof.Gen.InKernelIdeal.Value
public import proofs.«01_k».proof.Proof.Gen.InReferenceIdeal.Read
public import proofs.«01_k».proof.Proof.Gen.InReferenceIdeal.Run
public import proofs.«01_k».proof.Proof.Mm.Core
public import proofs.«01_k».proof.Defs
public import Idealize.ShloMosaic.Lib.Pipeline.ValueKit

@[expose] public section

set_option maxRecDepth 16384

noncomputable section

namespace Cert.Mm.In

open Idealize.ShloMosaic Idealize.ShloMosaic.TcCoe Idealize.ShloMosaic.StableHlo Idealize.ShloMosaic.Tactic Cert.InKernelIdeal Cert.InKernelIdeal.Gen Idealize.SL.Sem

/-- The first point starts from zero. -/
theorem pay1_at (r : Fin 1792) (n : Fin 1024) : (k0_pay1 (F := Ideal)) (ix2 r n) = 0 := by
  unfold k0_pay1
  pointwise

/-- A point adds the product of its two blocks, summed over the blocks' rows. -/
theorem pay2_at (v3 : Vec Ideal S1792x1024 .f32) (v4 : Vec Ideal S2048x1792 .bf16) (v6 : Vec Ideal S2048x1024 .bf16) (r : Fin 1792) (n : Fin 1024) :
    k0_pay2 v3 v4 v6 (ix2 r n) = v3 (ix2 r n) + ∑ p : Fin 2048, v4 (ix2 p r) * v6 (ix2 p n) := by
  unfold k0_pay2
  pointwise

/-- What is written out is what was accumulated. -/
theorem pay3_at (v16 : Vec Ideal S1792x1024 .f32) (r : Fin 1792) (n : Fin 1024) : k0_pay3 v16 (ix3 0 r n) = v16 (ix2 r n) := by
  unfold k0_pay3
  pointwise

/-- What the first point carries on. -/
theorem sout_A (c : Dev nD) (i : grid0.Coords) (arg2 : Memref sig .tc .vmem S2048x1792 .bf16) (harg2 : arg2.IsWhole) (arg3 : Memref sig .tc .vmem S2048x1024 .bf16) (harg3 : arg3.IsWhole) (arg4 : Memref sig .tc .vmem S1x1792x1024 .bf16) (harg4 : arg4.IsWhole) (arg5 : Memref sig .tc .vmem S1792x1024 .f32) (harg5 : arg5.IsWhole) (hc0 : cond0_0 i) (hc1 : ¬cond0_1 i)
    (x0 : Vec Ideal S2048x1792 .bf16) (x1 : Vec Ideal S2048x1024 .bf16) :
    sout0_A_0 c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.readAt_eq_ld, harg2.read_unread, harg3.read_unread, harg5.read_unread]
  rw [View.canon_cons_unit_zero (by decide)]
  simp only [View.ld_unit_zero (S := S1792x1024) (off := ![0, 0]) (by decide), View.ld_unit_zero (S := S2048x1024) (off := ![0, 0]) (by decide), View.ld_unit_zero (S := S2048x1792) (off := ![0, 0]) (by decide), View.readCov_unit_zero (S := S1792x1024) _ (off := ![0, 0]) (by decide)]

/-- What a middle point carries on. -/
theorem sout_B (c : Dev nD) (i : grid0.Coords) (arg2 : Memref sig .tc .vmem S2048x1792 .bf16) (harg2 : arg2.IsWhole) (arg3 : Memref sig .tc .vmem S2048x1024 .bf16) (harg3 : arg3.IsWhole) (arg4 : Memref sig .tc .vmem S1x1792x1024 .bf16) (harg4 : arg4.IsWhole) (arg5 : Memref sig .tc .vmem S1792x1024 .f32) (harg5 : arg5.IsWhole) (hc0 : ¬cond0_0 i) (hc1 : ¬cond0_1 i)
    (x0 : Vec Ideal S2048x1792 .bf16) (x1 : Vec Ideal S2048x1024 .bf16) (xs : Vec Ideal S1792x1024 .f32) :
    sout0_B_0 c i arg2 harg2 arg3 harg3 arg4 harg4 arg5 harg5 hc0 hc1 x0 x1 xs = k0_pay2 xs x0 x1 := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  simp only [View.readAt_eq_ld, harg2.read_unread, harg3.read_unread, harg5.read_unread]
  rw [View.canon_cons_unit_zero (by decide)]
  simp only [View.ld_unit_zero (S := S1792x1024) (off := ![0, 0]) (by decide), View.ld_unit_zero (S := S2048x1024) (off := ![0, 0]) (by decide), View.ld_unit_zero (S := S2048x1792) (off := ![0, 0]) (by decide)]

/-- What the last point writes out. -/
theorem out_C (c : Dev nD) (i : grid0.Coords) (arg2 : Memref sig .tc .vmem S2048x1792 .bf16) (harg2 : arg2.IsWhole) (arg3 : Memref sig .tc .vmem S2048x1024 .bf16) (harg3 : arg3.IsWhole) (arg4 : Memref sig .tc .vmem S1x1792x1024 .bf16) (harg4 : arg4.IsWhole) (arg5 : Memref sig .tc .vmem S1792x1024 .f32) (harg5 : arg5.IsWhole) (hc0 : ¬cond0_0 i) (hc1 : cond0_1 i)
    (x0 : Vec Ideal S2048x1792 .bf16) (x1 : Vec Ideal S2048x1024 .bf16) (xs : Vec Ideal S1792x1024 .f32) :
    out0_C_2 c i arg2 harg2 arg3 harg3 arg4 harg4 arg5 harg5 hc0 hc1 x0 x1 xs = k0_pay3 (k0_pay2 xs x0 x1) := by
  unfold out0_C_2
  rw [View.read_writes_eq_canon _ _ _ (cover0_C_2 c i arg2 harg2 arg3 harg3 arg4 harg4 arg5 harg5 hc0 hc1 x0 x1 xs)]
  unfold kernelRun0_C
  dsimp only
  sl_unfold_words
  simp only [View.readAt_eq_ld, harg2.read_unread, harg3.read_unread, harg5.read_unread]
  rw [View.canon_cons_unit_zero (by decide)]
  simp only [View.ld_unit_zero (S := S1792x1024) (off := ![0, 0]) (by decide), View.ld_unit_zero (S := S2048x1024) (off := ![0, 0]) (by decide), View.ld_unit_zero (S := S2048x1792) (off := ![0, 0]) (by decide), View.readCov_unit_zero (S := S1792x1024) _ (off := ![0, 0]) (by decide)]

variable (m : (ℓ : Loc nD τ sig) → Buf (Elt Ideal) ℓ)

/-- A block of the left factor, out of any array. -/
theorem read0 (c : Dev nD) (A : Buf (Elt Ideal) ((c : Thread nD τ).loc (Pipeline.arrRef spec0 0))) (j : Fin 1) (i : Fin 4) (t : Fin cfg0.N) (ht : t.val = 4 * j.val + i.val) (p : Fin 2048) (r : Fin 1792) :
    ((cfg0.win 0).blk t).view.read (Elt Ideal) A (ix2 p r) = A (ix2 (rowAt 2048 4 i.val i.isLt (by decide) p) r) := by
  have idx : ∀ t : Fin grid0.N, win0_0.index t = ![t.val % 4, 0] := by decide +kernel
  have e : win0_0.index t = ![i.val, 0] := by rw [idx t, ht]; congr 2 <;> omega
  unfold rowAt
  blk_ext [e]

/-- A block of the right factor, out of any array. -/
theorem read1 (c : Dev nD) (A : Buf (Elt Ideal) ((c : Thread nD τ).loc (Pipeline.arrRef spec0 1))) (j : Fin 1) (i : Fin 4) (t : Fin cfg0.N) (ht : t.val = 4 * j.val + i.val) (p : Fin 2048) (n : Fin 1024) :
    ((cfg0.win 1).blk t).view.read (Elt Ideal) A (ix2 p n) = A (ix2 (rowAt 2048 4 i.val i.isLt (by decide) p) n) := by
  have idx : ∀ t : Fin grid0.N, win0_1.index t = ![t.val % 4, 0] := by decide +kernel
  have e : win0_1.index t = ![i.val, 0] := by rw [idx t, ht]; congr 2 <;> omega
  unfold rowAt
  blk_ext [e]

/-- The left factor's array is the argument. -/
theorem left_apply (c : Dev nD) (j : Fin 1) (R : Fin 8192) (r : Fin 1792) :
    V m c main_v0 (ix2 R r) = m ((c : Thread nD τ).loc main_arg1) (ix2 R r) := by
  entry_read
  generalize m ((c : Thread nD τ).loc main_arg1) = A
  pointwise

/-- The right factor's array is the argument. -/
theorem right_apply (c : Dev nD) (R : Fin 8192) (n : Fin 1024) :
    V m c main_v1 (ix2 R n) = m ((c : Thread nD τ).loc main_arg0) (ix2 R n) := by
  entry_read
  generalize m ((c : Thread nD τ).loc main_arg0) = A
  pointwise

/-- The product's term at a row. -/
def term (A : Vec Ideal S8192x1792 .f32) (B : Vec Ideal S8192x1024 .f32) (j : Fin 1) (r : Fin 1792) (n : Fin 1024) (R : Fin 8192) : EReal :=
  A (ix2 R r) * B (ix2 R n)

/-- The part of the product that a grid point adds. -/
theorem block (c : Dev nD) (j : Fin 1) (i : Fin 4) (t : Fin cfg0.N) (ht : t.val = 4 * j.val + i.val) (v : Vec Ideal S1792x1024 .f32) (r : Fin 1792) (n : Fin 1024) :
    k0_pay2 v (iblk m c 0 t) (iblk m c 1 t) (ix2 r n) = v (ix2 r n) + ∑ p : Fin 2048, term (m ((c : Thread nD τ).loc main_arg1)) (m ((c : Thread nD τ).loc main_arg0)) j r n (rowAt 2048 4 i.val i.isLt (by decide) p) := by
  refine (pay2_at _ _ _ r n).trans (congrArg (v (ix2 r n) + ·) (Finset.sum_congr rfl fun p _ => ?_))
  refine mul_eq ((read0 c (V m c main_v0) j i t ht p r).trans (left_apply m c j _ r)) ((read1 c (V m c main_v1) j i t ht p n).trans (right_apply m c _ n))

/-- The first point of a block's run leaves its part. -/
theorem carry_A (c : Dev nD) (t : Fin cfg0.N) (h0 : t.val % 4 = 0) (h1 : ¬t.val % 4 = 3) :
    (outsAt0 m c t.val t.isLt).2 = k0_pay2 (k0_pay1 (F := Ideal)) (iblk m c 0 t) (iblk m c 1 t) := by
  rw [outsAt0_A m c t h0 h1]
  dsimp only
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A middle point adds its part. -/
theorem carry_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The last point writes out what is carried to it and its part. -/
theorem last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- The grid point of a block's run. -/
def pt (j : Fin 1) (i : Fin 4) : Fin cfg0.N := ⟨4 * j.val + i.val, lt_of_lt_of_eq (by omega) N_0.symm⟩

/-- A block's run ends with the whole sum written out. -/
theorem out_at (c : Dev nD) (j : Fin 1) (r : Fin 1792) (n : Fin 1024) :
    (outsAt0 m c (pt j 3).val (pt j 3).isLt).1 (ix3 0 r n) = ∑ R : Fin 8192, term (m ((c : Thread nD τ).loc main_arg1)) (m ((c : Thread nD τ).loc main_arg0)) j r n R := by
  have v (i : Fin 4) : (pt j i).val = 4 * j.val + i.val := rfl
  have v0 : (pt j 0).val = 4 * j.val := rfl
  have v1 : (pt j 1).val = 4 * j.val + 1 := rfl
  have v2 : (pt j 2).val = 4 * j.val + 2 := rfl
  have v3 : (pt j 3).val = 4 * j.val + 3 := rfl
  have s0 := (congrFun (carry_A m c (pt j 0) (by omega) (by omega)) (ix2 r n)).trans (block m c j 0 (pt j 0) (v 0) _ r n)
  have s1 := (congrFun (carry_B m c (pt j 1) (by omega) (by omega)) (ix2 r n)).trans (block m c j 1 (pt j 1) (v 1) _ r n)
  have s2 := (congrFun (carry_B m c (pt j 2) (by omega) (by omega)) (ix2 r n)).trans (block m c j 2 (pt j 2) (v 2) _ r n)
  have s3 := ((congrFun (last m c (pt j 3) (by omega) (by omega)) (ix3 0 r n)).trans (pay3_at _ r n)).trans (block m c j 3 (pt j 3) (v 3) _ r n)
  rw [pay1_at] at s0
  exact run_sum 2048 3 (by decide) _ ![_, _, _, _] s0 (fun i => match i with | 0 => s1 | 1 => s2 | 2 => s3)

/-- The array that the kernel leaves. -/
theorem final_at (c : Dev nD) (j : Fin 1) (r : Fin 1792) (n : Fin 1024) :
    Value.G2 m c (ix3 j r n) = ∑ R : Fin 8192, term (m ((c : Thread nD τ).loc main_arg1)) (m ((c : Thread nD τ).loc main_arg0)) j r n R := by
  have hp : Value.pt2Of (ix3 j r n) = (pt j 3).val := by
    show 4 * (1 * (j.val / 1 - 0) + 1 * (r.val / 1792 - 0) + 1 * (n.val / 1024 - 0)) + 3 = 4 * j.val + 3
    omega
  have hl : Value.loc2Of (ix3 j r n) = ix3 0 r n := ix3_of _ _ _ _ (show j.val % 1 = 0 by omega) (Nat.mod_eq_of_lt r.isLt) (Nat.mod_eq_of_lt n.isLt)
  unfold Value.G2
  rw [dif_pos (lt_of_eq_of_lt hp (pt j 3).isLt), hl, Value.fold0_congr m c _ _ _ (by rw [Nat.zero_add]; exact (pt j 3).isLt) hp, ← Value.outsAt0_sweep m c _ (pt j 3).isLt]
  exact out_at m c j r n

/-- The reference's result at an entry. -/
theorem ref_at (A : Vec Ideal S8192x1792 .f32) (B : Vec Ideal S8192x1024 .f32) (j : Fin 1) (r : Fin 1792) (n : Fin 1024) :
    Cert.InReferenceIdeal.Read.val_main_v6 (F := Ideal) B A (ix3 j r n) = ∑ R : Fin 8192, term A B j r n R := by
  rw [Cert.InReferenceIdeal.Read.val_main_v6_apply]
  show Cert.InReferenceIdeal.Read.val_main_v5 (F := Ideal) B A (ix3 j r n) = _
  rw [Cert.InReferenceIdeal.Read.val_main_v5_apply, Cert.InReferenceIdeal.Read.val_main_v4_apply, Cert.InReferenceIdeal.Read.val_main_v3_apply, Cert.InReferenceIdeal.Read.val_main_v2_apply]
  refine Finset.sum_congr rfl fun R _ => (mul_eq (congrArg A (ix2_of _ _ _ ?_ ?_)) (congrArg B (ix2_of _ _ _ ?_ ?_)))
  · rfl
  · rfl
  · rfl
  · rfl

/-- The kernel's array is the reference's. -/
theorem final_eq (c : Dev nD) :
    Value.G2 m c = Cert.InReferenceIdeal.Read.val_main_v6 (F := Ideal) (m ((c : Thread nD τ).loc main_arg0)) (m ((c : Thread nD τ).loc main_arg1)) := by
  exact array_ext _ _ fun j r n => (final_at m c j r n).trans (ref_at _ _ j r n).symm

/-- The reference ends with its arguments kept and no semaphore held. -/
theorem reference_kept (m : (ℓ : Loc Cert.InReferenceIdeal.nD Cert.InReferenceIdeal.τ Cert.InReferenceIdeal.sig) → Buf (Elt Ideal) ℓ) (g : Dev Cert.InReferenceIdeal.nD → PrngReg) :
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0) :=
  (θ_run Cert.InReferenceIdeal.defs _ _).mono (fun r h => ⟨fun c => (h c).2, sem_eq_zero_of_no_sems (by decide) r.2⟩)
    (Cert.InReferenceIdeal.Value.run (F := Ideal) m g)

/-- The kernel's run on the ideal numbers and the reference's run end with equal results. -/
theorem equal_results : Cert.algebraic_InKernelIdeal_InReferenceIdeal := by
  intro m g m' g' _ hag
  refine ⟨fun c => Value.G2 m c, ?_, ?_⟩
  · exact Value.run (F := Ideal) m g
  · refine (θ_run Cert.InReferenceIdeal.defs _ _).mono (fun r h c => ?_) (Cert.InReferenceIdeal.Value.run (F := Ideal) m' g')
    obtain ⟨a0, a1⟩ := hag c
    exact ⟨(h c).1.trans ((Cert.InReferenceIdeal.Read.val_main_v6_eq _ _).trans ((congrArg₂ Cert.InReferenceIdeal.Read.val_main_v6 a0 a1).trans (final_eq m c).symm)), (h c).2⟩

end Cert.Mm.In
-- ==== Proof.Fwd.Words.lean ====
module

public import proofs.«01_k».proof.Proof.Gen.FwdKernelIdeal.Skeleton
public import Idealize.ShloMosaic.Lib.Pointwise

@[expose] public section

set_option synthInstance.maxSize 4096

noncomputable section

/-! The vectors that one shard of the gated feed-forward goes through, each named once and read at an index. -/

namespace Cert.Fwd

open Idealize.ShloMosaic Cert.FwdKernelIdeal Cert.FwdKernelIdeal.Gen

/-- The block's rows times one transposed block of the up projection. -/
def wA (h : FVec Ideal S256x1024 .bf16) (up : FVec Ideal S1x704x1024 .bf16) : FVec Ideal S256x704 .f32 :=
  matmul dot_S256x1024_S704x1024_S256x704_1_1_0_0_n_n none (shapeCast S256x1024 h shapeCasts_S256x1024_S256x1024)
    (shapeCast S704x1024 up shapeCasts_S1x704x1024_S704x1024) (constant S256x704 .f32 0x00000000#32)

/-- That product as it is stored. -/
def wAOut (a : FVec Ideal S256x704 .f32) : FVec Ideal S1x256x704 .bf16 :=
  shapeCast S1x256x704 (truncf .bf16 a bitsLt_bf16_f32) shapeCasts_S256x704_S1x256x704

/-- The last rows of the block before, followed by the block's own. -/
def wCat (k : FVec Ideal S1x8x704 .f32) (a : FVec Ideal S256x704 .f32) : FVec Ideal S264x704 .f32 :=
  concatenate S264x704 0 [⟨S8x704, shapeCast S8x704 k shapeCasts_S1x8x704_S8x704⟩, ⟨S256x704, a⟩]
    concatenates_S8x704_S256x704_S264x704_d0

/-- The last eight rows of a block, as kept for the block after it. -/
def wKeep (a : FVec Ideal S256x704 .f32) : FVec Ideal S1x8x704 .f32 :=
  shapeCast S1x8x704 (extractStridedSlice S8x704 ![248, 0] a slices_S256x704_o248_0_S8x704) shapeCasts_S8x704_S1x8x704

/-- The rows moved down by one. -/
def wRot (x : FVec Ideal S264x704 .f32) : FVec Ideal S264x704 .f32 := dynamicRotate 0 1#32 none x rotates_S264x704_d0

/-- The three taps of one shard. -/
def wTaps (w : FVec Ideal S1x1x3x704 .f32) : FVec Ideal S3x704 .f32 := shapeCast S3x704 w shapeCasts_S1x1x3x704_S3x704

/-- The convolution of the joined rows, the rows moved after each product. -/
def wConv (c : FVec Ideal S264x704 .f32) (w : FVec Ideal S1x1x3x704 .f32) : FVec Ideal S264x704 .f32 :=
  addf (mulf (broadcastTo S264x704 (extractStridedSlice S1x704 ![2, 0] (wTaps w) slices_S3x704_o2_0_S1x704) broadcasts_S1x704_S264x704) c)
    (wRot (addf (mulf (broadcastTo S264x704 (extractStridedSlice S1x704 ![1, 0] (wTaps w) slices_S3x704_o1_0_S1x704) broadcasts_S1x704_S264x704) c)
      (wRot (mulf (broadcastTo S264x704 (extractStridedSlice S1x704 ![0, 0] (wTaps w) slices_S3x704_o0_0_S1x704) broadcasts_S1x704_S264x704) c))))

/-- The convolution of the block's own rows, with the bias. -/
def wZ (c : FVec Ideal S264x704 .f32) (w : FVec Ideal S1x1x3x704 .f32) (b : FVec Ideal S1x1x1x704 .f32) : FVec Ideal S256x704 .f32 :=
  addf (extractStridedSlice S256x704 ![8, 0] (wConv c w) slices_S264x704_o8_0_S256x704)
    (broadcastTo S256x704 (shapeCast S1x704 b shapeCasts_S1x1x1x704_S1x704) broadcasts_S1x704_S256x704)

/-- One number in every entry. -/
def wConst (b : BitVec 32) : FVec Ideal S256x704 .f32 := broadcast S256x704 (FloatOps.ofBits .f32 b)

/-- The gate's function of the rows. -/
def wGelu (z : FVec Ideal S256x704 .f32) : FVec Ideal S256x704 .f32 :=
  mulf z (mulf (wConst 0x3F000000#32) (addf (wConst 0x3F800000#32)
    (tanh (mulf (wConst 0x3F4C422A#32) (addf z (mulf (mulf (wConst 0x3D372713#32) z) (mulf z z)))))))

/-- The gated rows. -/
def wU (zg zv : FVec Ideal S256x704 .f32) : FVec Ideal S256x704 .bf16 := truncf .bf16 (mulf (wGelu zg) zv) bitsLt_bf16_f32

/-- The gated rows as they are stored. -/
def wUOut (u : FVec Ideal S256x704 .bf16) : FVec Ideal S1x256x704 .bf16 := shapeCast S1x256x704 u shapeCasts_S256x704_S1x256x704

/-- One shard's part of the output added to what was there. -/
def wErr (e : FVec Ideal S256x1024 .f32) (u : FVec Ideal S256x704 .bf16) (dn : FVec Ideal S1x704x1024 .bf16) : FVec Ideal S256x1024 .f32 :=
  addf e (matmul dot_S256x704_S704x1024_S256x1024_1_0_0_1_n_n none u (shapeCast S704x1024 dn shapeCasts_S1x704x1024_S704x1024)
    (constant S256x1024 .f32 0x00000000#32))

/-- The loss's gradient. -/
def wDy (e : FVec Ideal S256x1024 .f32) : FVec Ideal S256x1024 .f32 := mulf e (broadcast S256x1024 (FloatOps.ofBits .f32 0x3A800000#32))

/-- The running sums of the squares, with a block's added. -/
def wAcc (s : FVec Ideal S1x1024 .f32) (e : FVec Ideal S256x1024 .f32) : FVec Ideal S1x1024 .f32 :=
  shapeCast S1x1024 (addf s (shapeCast S1x1024 (multiReduction .add [0] S1024 (mulf e e) 0x00000000#32 reduces_S256x1024_S1024 (.inl rfl) rfl)
    shapeCasts_S1024_S1x1024)) shapeCasts_S1x1024_S1x1024

/-- The gate's function of a number. -/
def geluAt (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * z * (z * z)))))

theorem wA_apply (h : FVec Ideal S256x1024 .bf16) (up : FVec Ideal S1x704x1024 .bf16) (r : Fin 256) (n : Fin 704) :
    wA h up (ix2 r n) = ∑ k : Fin 1024, h (ix2 r k) * up (ix3 0 n k) := by
  pointwise [wA, dot_S256x1024_S704x1024_S256x704_1_1_0_0_n_n]

theorem wAOut_apply (a : FVec Ideal S256x704 .f32) (r : Fin 256) (n : Fin 704) : wAOut a (ix3 0 r n) = a (ix2 r n) := by
  pointwise [wAOut]

theorem wCat_top (k : FVec Ideal S1x8x704 .f32) (a : FVec Ideal S256x704 .f32) (r : Fin 264) (n : Fin 704) (h : r.val < 8) :
    wCat k a (ix2 r n) = k (ix3 0 ⟨r.val, h⟩ n) := by
  pointwise [wCat, h]

theorem wCat_own (k : FVec Ideal S1x8x704 .f32) (a : FVec Ideal S256x704 .f32) (r : Fin 264) (n : Fin 704) (h : ¬r.val < 8) :
    wCat k a (ix2 r n) = a (ix2 ⟨r.val - 8, by omega⟩ n) := by
  pointwise [wCat, h]

theorem wKeep_apply (a : FVec Ideal S256x704 .f32) (r : Fin 8) (n : Fin 704) : wKeep a (ix3 0 r n) = a (ix2 ⟨248 + r.val, by omega⟩ n) := by
  pointwise [wKeep]

theorem wRot_apply (x : FVec Ideal S264x704 .f32) (r : ℕ) (n : Fin 704) (h : r + 1 < 264) :
    wRot x (ix2 ⟨r + 1, h⟩ n) = x (ix2 ⟨r, by omega⟩ n) := by
  pointwise [wRot]
  exact congrArg x (congrArg (fun a => ix2 a n) (Fin.ext (by show (r + 1 + 264 - 1) % 264 = r; omega)))

theorem wConv_apply (c : FVec Ideal S264x704 .f32) (w : FVec Ideal S1x1x3x704 .f32) (r : ℕ) (n : Fin 704) (h : r + 1 + 1 < 264) :
    wConv c w (ix2 ⟨r + 1 + 1, h⟩ n) = w (ix4 0 0 2 n) * c (ix2 ⟨r + 1 + 1, h⟩ n)
      + (w (ix4 0 0 1 n) * c (ix2 ⟨r + 1, by omega⟩ n) + w (ix4 0 0 0 n) * c (ix2 ⟨r, by omega⟩ n)) := by
  pointwise [wConv, wTaps]
  rw [wRot_apply]
  pointwise
  rw [wRot_apply]
  pointwise

theorem wZ_apply (c : FVec Ideal S264x704 .f32) (w : FVec Ideal S1x1x3x704 .f32) (b : FVec Ideal S1x1x1x704 .f32) (r : Fin 256) (n : Fin 704) :
    wZ c w b (ix2 r n) = w (ix4 0 0 2 n) * c (ix2 ⟨r.val + 8, by omega⟩ n)
      + (w (ix4 0 0 1 n) * c (ix2 ⟨r.val + 7, by omega⟩ n) + w (ix4 0 0 0 n) * c (ix2 ⟨r.val + 6, by omega⟩ n)) + b (ix4 0 0 0 n) := by
  rw [← wConv_apply c w (r.val + 6) n (by omega)]
  pointwise [wZ]
  exact congrArg (· + b (ix4 0 0 0 n)) (congrArg (fun q : Fin 264 => wConv c w (ix2 q n)) (Fin.ext (by show 8 + r.val = r.val + 6 + 1 + 1; omega)))

theorem wGelu_apply (z : FVec Ideal S256x704 .f32) (r : Fin 256) (n : Fin 704) : wGelu z (ix2 r n) = geluAt (z (ix2 r n)) := by
  pointwise [wGelu, wConst, geluAt]

theorem wU_apply (zg zv : FVec Ideal S256x704 .f32) (r : Fin 256) (n : Fin 704) :
    wU zg zv (ix2 r n) = geluAt (zg (ix2 r n)) * zv (ix2 r n) := by
  pointwise [wU, wGelu_apply]

theorem wUOut_apply (u : FVec Ideal S256x704 .bf16) (r : Fin 256) (n : Fin 704) : wUOut u (ix3 0 r n) = u (ix2 r n) := by
  pointwise [wUOut]

theorem wErr_apply (e : FVec Ideal S256x1024 .f32) (u : FVec Ideal S256x704 .bf16) (dn : FVec Ideal S1x704x1024 .bf16) (r : Fin 256) (k : Fin 1024) :
    wErr e u dn (ix2 r k) = e (ix2 r k) + ∑ n : Fin 704, u (ix2 r n) * dn (ix3 0 n k) := by
  pointwise [wErr, dot_S256x704_S704x1024_S256x1024_1_0_0_1_n_n]

theorem wDy_apply (e : FVec Ideal S256x1024 .f32) (r : Fin 256) (k : Fin 1024) :
    wDy e (ix2 r k) = e (ix2 r k) * Ideal.ofBits .f32 0x3A800000#32 := by
  pointwise [wDy]

theorem wAcc_apply (s : FVec Ideal S1x1024 .f32) (e : FVec Ideal S256x1024 .f32) (k : Fin 1024) :
    wAcc s e (ix2 0 k) = s (ix2 0 k) + ∑ r : Fin 256, e (ix2 r k) * e (ix2 r k) := by
  pointwise [wAcc]

/-- The loss in every entry of its block: the sums' total times one number. -/
theorem loss_apply (s : FVec Ideal S1x1024 .f32) (p : Fin 8) (q : Fin 128) :
    k0_pay1 s (ix2 p q) = Ideal.ofBits .f32 0x3A000000#32 * ∑ k : Fin 1024, s (ix2 0 k) := by
  pointwise [k0_pay1]
  simp

end Cert.Fwd

end
-- ==== Proof.Fwd.Block.lean ====
module

public import proofs.«01_k».proof.Proof.Gen.FwdKernelIdeal.Launch
public import proofs.«01_k».proof.Proof.Fwd.Words
public import Idealize.ShloMosaic.Lib.Pipeline.ReadBack
public import Idealize.ShloMosaic.Lib.Pipeline.ValueKit
public import Idealize.ShloMosaic.Lib.Ring

@[expose] public section

set_option maxRecDepth 16384

noncomputable section

namespace Cert.Fwd

open Idealize.ShloMosaic Idealize.ShloMosaic.TcCoe Idealize.ShloMosaic.Tactic Cert.FwdKernelIdeal Cert.FwdKernelIdeal.Gen Idealize.SL.Sem

/-! What one grid point leaves in each output and in the rows it keeps, from the blocks it reads: the stores named once, for every shard. -/

/-- The place of shard `d` of half `s` (the gate's or the value's) among the eight. -/
def sh (s : Fin 2) (d : Fin 4) : Fin 8 := ⟨4 * s.val + d.val, by omega⟩

/-- The rows of the up projection that a point sees: the eight kept from the point before, then its own. -/
structure Rows (x0 : Vec Ideal S256x1024 .bf16) (x3 : Vec Ideal S8x704x1024 .bf16) (xs : Vec Ideal S8x8x704 .f32)
    (A : Fin 8 → ℕ → Fin 704 → EReal) : Prop where
  own : ∀ (j : Fin 8) (r : Fin 256) (n : Fin 704), ∑ k : Fin 1024, x0 (ix2 r k) * x3 (ix3 j n k) = A j (r.val + 8) n
  kept : ∀ (j r : Fin 8) (n : Fin 704), xs (ix3 j r n) = A j r.val n

/-- The convolution at a row: three taps and the bias. -/
def zAt (x4 : Vec Ideal S2x4x3x704 .f32) (x5 : Vec Ideal S2x4x1x704 .f32) (A : Fin 8 → ℕ → Fin 704 → EReal) (s : Fin 2) (d : Fin 4)
    (r : ℕ) (n : Fin 704) : EReal :=
  x4 (ix4 s d 2 n) * A (sh s d) (r + 8) n + (x4 (ix4 s d 1 n) * A (sh s d) (r + 7) n + x4 (ix4 s d 0 n) * A (sh s d) (r + 6) n) + x5 (ix4 s d 0 n)

/-- The gated rows. -/
def uAt (x4 : Vec Ideal S2x4x3x704 .f32) (x5 : Vec Ideal S2x4x1x704 .f32) (A : Fin 8 → ℕ → Fin 704 → EReal) (d : Fin 4) (r : ℕ) (n : Fin 704) : EReal :=
  geluAt (zAt x4 x5 A 0 d r n) * zAt x4 x5 A 1 d r n

/-- The error's entry, from the residual's row, the target's, and the gated rows times the down projection. -/
def errAt (x t : Fin 1024 → EReal) (x4 : Vec Ideal S2x4x3x704 .f32) (x5 : Vec Ideal S2x4x1x704 .f32) (x6 : Vec Ideal S4x704x1024 .bf16)
    (A : Fin 8 → ℕ → Fin 704 → EReal) (r : ℕ) (k : Fin 1024) : EReal :=
  x k - t k + ∑ d : Fin 4, ∑ n : Fin 704, uAt x4 x5 A d r n * x6 (ix3 d n k)

/-- The up projection's block as it is stored. -/
def aOf (A : Fin 8 → ℕ → Fin 704 → EReal) : Vec Ideal S8x256x704 .bf16 := fun y => A (y 0) ((y 1).val + 8) (y 2)

/-- The rows a point keeps for the next one. -/
def keepOf (A : Fin 8 → ℕ → Fin 704 → EReal) : Vec Ideal S8x8x704 .f32 := fun y => A (y 0) (256 + (y 1).val) (y 2)

/-- The gated block as it is stored. -/
def uOf (x4 : Vec Ideal S2x4x3x704 .f32) (x5 : Vec Ideal S2x4x1x704 .f32) (A : Fin 8 → ℕ → Fin 704 → EReal) : Vec Ideal S4x256x704 .bf16 :=
  fun y => uAt x4 x5 A (y 0) (y 1).val (y 2)

theorem in_up (j : Fin 8) : ∀ a, (![j.val, 0, 0] : Fin 3 → ℕ) a + S1x704x1024.size a ≤ S8x704x1024.size a := by revert j; decide
theorem in_keep (j : Fin 8) : ∀ a, (![j.val, 0, 0] : Fin 3 → ℕ) a + S1x8x704.size a ≤ S8x8x704.size a := by revert j; decide
theorem in_a (j : Fin 8) : ∀ a, (![j.val, 0, 0] : Fin 3 → ℕ) a + S1x256x704.size a ≤ S8x256x704.size a := by revert j; decide
theorem in_taps (s : Fin 2) (d : Fin 4) : ∀ a, (![s.val, d.val, 0, 0] : Fin 4 → ℕ) a + S1x1x3x704.size a ≤ S2x4x3x704.size a := by revert s d; decide
theorem in_bias (s : Fin 2) (d : Fin 4) : ∀ a, (![s.val, d.val, 0, 0] : Fin 4 → ℕ) a + S1x1x1x704.size a ≤ S2x4x1x704.size a := by revert s d; decide
theorem in_dn (d : Fin 4) : ∀ a, (![d.val, 0, 0] : Fin 3 → ℕ) a + S1x704x1024.size a ≤ S4x704x1024.size a := by revert d; decide
theorem in_u (d : Fin 4) : ∀ a, (![d.val, 0, 0] : Fin 3 → ℕ) a + S1x256x704.size a ≤ S4x256x704.size a := by revert d; decide

variable (x0 : Vec Ideal S256x1024 .bf16) (x1 x2 : Vec Ideal S256x1024 .f32) (x3 : Vec Ideal S8x704x1024 .bf16) (x4 : Vec Ideal S2x4x3x704 .f32)
  (x5 : Vec Ideal S2x4x1x704 .f32) (x6 : Vec Ideal S4x704x1024 .bf16) (xs : Vec Ideal S8x8x704 .f32)

/-- A shard's product as the kernel computes it from the blocks it loads. -/
def bA (s : Fin 2) (d : Fin 4) : FVec Ideal S256x704 .f32 :=
  wA (View.ld x0 (Rect.unit ![0, 0] ![256, 1024] inb_S256x1024_S256x1024_0_0))
    (View.ld x3 (Rect.unit ![(sh s d).val, 0, 0] ![1, 704, 1024] (in_up (sh s d))))

/-- A shard's convolution likewise. -/
def bZ (s : Fin 2) (d : Fin 4) : FVec Ideal S256x704 .f32 :=
  wZ (wCat (View.ld xs (Rect.unit ![(sh s d).val, 0, 0] ![1, 8, 704] (in_keep (sh s d)))) (bA x0 x3 s d))
    (View.ld x4 (Rect.unit ![s.val, d.val, 0, 0] ![1, 1, 3, 704] (in_taps s d)))
    (View.ld x5 (Rect.unit ![s.val, d.val, 0, 0] ![1, 1, 1, 704] (in_bias s d)))

/-- A shard's gated rows likewise. -/
def bU (d : Fin 4) : FVec Ideal S256x704 .bf16 := wU (bZ x0 x3 x4 x5 xs 0 d) (bZ x0 x3 x4 x5 xs 1 d)

/-- The error with one more shard's part. -/
def bStep (e : FVec Ideal S256x1024 .f32) (d : Fin 4) : FVec Ideal S256x1024 .f32 :=
  wErr e (bU x0 x3 x4 x5 xs d) (View.ld x6 (Rect.unit ![d.val, 0, 0] ![1, 704, 1024] (in_dn d)))

/-- The error over the four shards, as the kernel adds them. -/
def bErr : FVec Ideal S256x1024 .f32 :=
  bStep x0 x3 x4 x5 x6 xs (bStep x0 x3 x4 x5 x6 xs (bStep x0 x3 x4 x5 x6 xs (bStep x0 x3 x4 x5 x6 xs
    (subf (View.ld x1 (Rect.unit ![0, 0] ![256, 1024] inb_S256x1024_S256x1024_0_0))
      (View.ld x2 (Rect.unit ![0, 0] ![256, 1024] inb_S256x1024_S256x1024_0_0))) 0) 1) 2) 3

/-- The eight shards, in the order of their stores, last first. -/
def order : List (Fin 2 × Fin 4) := [(1, 3), (0, 3), (1, 2), (0, 2), (1, 1), (0, 1), (1, 0), (0, 0)]

/-- The stores of the up projection's block. -/
def aPieces : List (View.Piece (Elt Ideal) S8x256x704 .bf16) :=
  order.map fun p => ⟨Rect.unit ![(sh p.1 p.2).val, 0, 0] ![1, 256, 704] (in_a (sh p.1 p.2)), wAOut (bA x0 x3 p.1 p.2)⟩

/-- The stores of the kept rows. -/
def keepPieces : List (View.Piece (Elt Ideal) S8x8x704 .f32) :=
  order.map fun p => ⟨Rect.unit ![(sh p.1 p.2).val, 0, 0] ![1, 8, 704] (in_keep (sh p.1 p.2)), wKeep (bA x0 x3 p.1 p.2)⟩

/-- The stores of the gated block. -/
def uPieces : List (View.Piece (Elt Ideal) S4x256x704 .bf16) :=
  [3, 2, 1, 0].map fun d : Fin 4 => ⟨Rect.unit ![d.val, 0, 0] ![1, 256, 704] (in_u d), wUOut (bU x0 x3 x4 x5 xs d)⟩

/-- Stores of all eight blocks of a shape cover it, whatever they store. -/
theorem a_cover (w : Fin 2 × Fin 4 → Vec Ideal S1x256x704 .bf16) (y : S8x256x704.Idx) :
    ∃ p ∈ order.map fun p => (⟨Rect.unit ![(sh p.1 p.2).val, 0, 0] ![1, 256, 704] (in_a (sh p.1 p.2)), w p⟩ : View.Piece (Elt Ideal) S8x256x704 .bf16),
      y ∈ p.1.set :=
  View.cover_of_tiledL (s := S8x256x704) _ S1x256x704.size (by sl_kernel_rfl) y

theorem keep_cover (w : Fin 2 × Fin 4 → Vec Ideal S1x8x704 .f32) (y : S8x8x704.Idx) :
    ∃ p ∈ order.map fun p => (⟨Rect.unit ![(sh p.1 p.2).val, 0, 0] ![1, 8, 704] (in_keep (sh p.1 p.2)), w p⟩ : View.Piece (Elt Ideal) S8x8x704 .f32),
      y ∈ p.1.set :=
  View.cover_of_tiledL (s := S8x8x704) _ S1x8x704.size (by sl_kernel_rfl) y

theorem u_cover (w : Fin 4 → Vec Ideal S1x256x704 .bf16) (y : S4x256x704.Idx) :
    ∃ p ∈ [3, 2, 1, 0].map fun d => (⟨Rect.unit ![d.val, 0, 0] ![1, 256, 704] (in_u d), w d⟩ : View.Piece (Elt Ideal) S4x256x704 .bf16),
      y ∈ p.1.set :=
  View.cover_of_tiledL (s := S4x256x704) _ S1x256x704.size (by sl_kernel_rfl) y

variable {x0 x3 xs} {A : Fin 8 → ℕ → Fin 704 → EReal}

/-- A shard's product has the rows it sees. -/
theorem Rows.bA (h : Rows x0 x3 xs A) (s : Fin 2) (d : Fin 4) (r : Fin 256) (n : Fin 704) :
    bA x0 x3 s d (ix2 r n) = A (sh s d) (r.val + 8) n := by
  unfold Fwd.bA
  rw [wA_apply, ← h.own]
  pointwise

/-- A shard's joined rows are those it sees. -/
theorem Rows.cat (h : Rows x0 x3 xs A) (s : Fin 2) (d : Fin 4) (r : Fin 264) (n : Fin 704) :
    wCat (View.ld xs (Rect.unit ![(sh s d).val, 0, 0] ![1, 8, 704] (in_keep (sh s d)))) (Fwd.bA x0 x3 s d) (ix2 r n) = A (sh s d) r.val n := by
  by_cases hr : r.val < 8
  · rw [wCat_top _ _ _ _ hr, ← h.kept _ ⟨r.val, hr⟩]
    pointwise
  · rw [wCat_own _ _ _ _ hr, h.bA]
    refine congrArg (A (sh s d) · n) ?_
    show r.val - 8 + 8 = r.val
    omega

theorem Rows.bZ (h : Rows x0 x3 xs A) (s : Fin 2) (d : Fin 4) (r : Fin 256) (n : Fin 704) :
    bZ x0 x3 x4 x5 xs s d (ix2 r n) = zAt x4 x5 A s d r.val n := by
  unfold Fwd.bZ
  rw [wZ_apply, h.cat, h.cat, h.cat]
  pointwise [zAt]

theorem Rows.bU (h : Rows x0 x3 xs A) (d : Fin 4) (r : Fin 256) (n : Fin 704) : bU x0 x3 x4 x5 xs d (ix2 r n) = uAt x4 x5 A d r.val n := by
  unfold Fwd.bU uAt
  rw [wU_apply, h.bZ, h.bZ]

theorem Rows.bStep (h : Rows x0 x3 xs A) (e : FVec Ideal S256x1024 .f32) (d : Fin 4) (r : Fin 256) (k : Fin 1024) :
    bStep x0 x3 x4 x5 x6 xs e d (ix2 r k) = e (ix2 r k) + ∑ n : Fin 704, uAt x4 x5 A d r.val n * x6 (ix3 d n k) := by
  unfold Fwd.bStep
  rw [wErr_apply]
  refine congrArg (e (ix2 r k) + ·) (Finset.sum_congr rfl fun n _ => ?_)
  rw [h.bU]
  pointwise

theorem Rows.bErr (h : Rows x0 x3 xs A) (r : Fin 256) (k : Fin 1024) :
    bErr x0 x1 x2 x3 x4 x5 x6 xs (ix2 r k) = errAt (fun k => x1 (ix2 r k)) (fun k => x2 (ix2 r k)) x4 x5 x6 A r.val k := by
  unfold Fwd.bErr errAt
  rw [h.bStep, h.bStep, h.bStep, h.bStep, Fin.sum_univ_four]
  pointwise
  simp only [add_assoc]

/-- The stores of the up projection leave its block. -/
theorem Rows.a_canon (h : Rows x0 x3 xs A) : View.canon (aPieces x0 x3) = aOf A := by
  funext y
  refine View.canon_apply_of_pieces (aOf A) _ (fun p hp x => ?_) y (a_cover _ y)
  obtain ⟨⟨s, d⟩, _, rfl⟩ := List.mem_map.mp hp
  obtain ⟨q, r, n, rfl⟩ : ∃ (q : Fin 1) (r : Fin 256) (n : Fin 704), x = ix3 q r n := ⟨x 0, x 1, x 2, eq_ix3 x⟩
  obtain rfl : q = 0 := Subsingleton.elim _ _
  show wAOut (Fwd.bA x0 x3 s d) (ix3 0 r n) = View.ld (aOf A) (Rect.unit ![(sh s d).val, 0, 0] ![1, 256, 704] (in_a (sh s d))) (ix3 0 r n)
  rw [wAOut_apply, h.bA]
  pointwise [aOf]

/-- The stores of the kept rows leave them, over any earlier stores. -/
theorem Rows.keep_canon (h : Rows x0 x3 xs A) (L : List (View.Piece (Elt Ideal) S8x8x704 .f32)) :
    View.canon (keepPieces x0 x3 ++ L) = keepOf A := by
  funext y
  refine View.canon_append_of_pieces (keepOf A) L _ (fun p hp x => ?_) y (keep_cover _ y)
  obtain ⟨⟨s, d⟩, _, rfl⟩ := List.mem_map.mp hp
  obtain ⟨q, r, n, rfl⟩ : ∃ (q : Fin 1) (r : Fin 8) (n : Fin 704), x = ix3 q r n := ⟨x 0, x 1, x 2, eq_ix3 x⟩
  obtain rfl : q = 0 := Subsingleton.elim _ _
  show wKeep (Fwd.bA x0 x3 s d) (ix3 0 r n) = View.ld (keepOf A) (Rect.unit ![(sh s d).val, 0, 0] ![1, 8, 704] (in_keep (sh s d))) (ix3 0 r n)
  rw [wKeep_apply, h.bA]
  pointwise [keepOf]
  exact congrArg (A (sh s d) · n) (by show 248 + r.val + 8 = 256 + r.val; omega)

/-- The stores of the gated rows leave their block. -/
theorem Rows.u_canon (h : Rows x0 x3 xs A) : View.canon (uPieces x0 x3 x4 x5 xs) = uOf x4 x5 A := by
  funext y
  refine View.canon_apply_of_pieces (uOf x4 x5 A) _ (fun p hp x => ?_) y (u_cover _ y)
  obtain ⟨d, _, rfl⟩ := List.mem_map.mp hp
  obtain ⟨q, r, n, rfl⟩ : ∃ (q : Fin 1) (r : Fin 256) (n : Fin 704), x = ix3 q r n := ⟨x 0, x 1, x 2, eq_ix3 x⟩
  obtain rfl : q = 0 := Subsingleton.elim _ _
  show wUOut (Fwd.bU x0 x3 x4 x5 xs d) (ix3 0 r n) = View.ld (uOf x4 x5 A) (Rect.unit ![d.val, 0, 0] ![1, 256, 704] (in_u d)) (ix3 0 r n)
  rw [wUOut_apply, h.bU]
  pointwise [uOf]

/-- The loss gradient's block. -/
def dyOf (x1 x2 : Vec Ideal S256x1024 .f32) (x4 : Vec Ideal S2x4x3x704 .f32) (x5 : Vec Ideal S2x4x1x704 .f32) (x6 : Vec Ideal S4x704x1024 .bf16)
    (A : Fin 8 → ℕ → Fin 704 → EReal) : Vec Ideal S256x1024 .f32 :=
  fun y => errAt (fun k => x1 (ix2 (y 0) k)) (fun k => x2 (ix2 (y 0) k)) x4 x5 x6 A (y 0).val (y 1) * Ideal.ofBits .f32 0x3A800000#32

/-- The running sums of the squares with a block's added. -/
def accOf (x1 x2 : Vec Ideal S256x1024 .f32) (x4 : Vec Ideal S2x4x3x704 .f32) (x5 : Vec Ideal S2x4x1x704 .f32) (x6 : Vec Ideal S4x704x1024 .bf16)
    (A : Fin 8 → ℕ → Fin 704 → EReal) (s : Vec Ideal S1x1024 .f32) : Vec Ideal S1x1024 .f32 :=
  fun y => s y + ∑ r : Fin 256, errAt (fun k => x1 (ix2 r k)) (fun k => x2 (ix2 r k)) x4 x5 x6 A r.val (y 1)
    * errAt (fun k => x1 (ix2 r k)) (fun k => x2 (ix2 r k)) x4 x5 x6 A r.val (y 1)

theorem Rows.dy (h : Rows x0 x3 xs A) : wDy (Fwd.bErr x0 x1 x2 x3 x4 x5 x6 xs) = dyOf x1 x2 x4 x5 x6 A := by
  funext y
  obtain ⟨r, k, rfl⟩ : ∃ (r : Fin 256) (k : Fin 1024), y = ix2 r k := ⟨y 0, y 1, eq_ix2 y⟩
  rw [wDy_apply, h.bErr]
  rfl

theorem Rows.acc (h : Rows x0 x3 xs A) (s : Vec Ideal S1x1024 .f32) : wAcc s (Fwd.bErr x0 x1 x2 x3 x4 x5 x6 xs) = accOf x1 x2 x4 x5 x6 A s := by
  funext y
  obtain ⟨q, k, rfl⟩ : ∃ (q : Fin 1) (k : Fin 1024), y = ix2 q k := ⟨y 0, y 1, eq_ix2 y⟩
  obtain rfl : q = 0 := Subsingleton.elim _ _
  rw [wAcc_apply]
  simp only [h.bErr]
  rfl

end Cert.Fwd

end
-- ==== Proof.Fwd.Points.lean ====
module

public import proofs.«01_k».proof.Proof.Gen.FwdKernelIdeal.Frame
public import proofs.«01_k».proof.Proof.Fwd.Block

@[expose] public section

set_option maxRecDepth 16384

noncomputable section

namespace Cert.Fwd

open Idealize.ShloMosaic Idealize.ShloMosaic.TcCoe Idealize.ShloMosaic.Tactic Cert.FwdKernelIdeal Cert.FwdKernelIdeal.Gen Idealize.SL.Sem

/-! What each of the three kinds of point leaves: the first, one in the middle, the last. -/

variable (c : Dev nD) (i : grid0.Coords)
  (arg1 : Memref sig .tc .vmem S256x1024 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S8x704x1024 .bf16) (harg4 : arg4.IsWhole)
  (arg5 : Memref sig .tc .vmem S2x4x3x704 .f32) (harg5 : arg5.IsWhole) (arg6 : Memref sig .tc .vmem S2x4x1x704 .f32) (harg6 : arg6.IsWhole)
  (arg7 : Memref sig .tc .vmem S4x704x1024 .bf16) (harg7 : arg7.IsWhole) (arg8 : Memref sig .tc .vmem S8x256x704 .bf16) (harg8 : arg8.IsWhole)
  (arg9 : Memref sig .tc .vmem S4x256x704 .bf16) (harg9 : arg9.IsWhole) (arg10 : Memref sig .tc .vmem S8x256x704 .bf16) (harg10 : arg10.IsWhole)
  (arg11 : Memref sig .tc .vmem S256x1024 .f32) (harg11 : arg11.IsWhole) (arg12 : Memref sig .tc .vmem S8x128 .f32) (harg12 : arg12.IsWhole)
  (arg13 : Memref sig .tc .vmem S1x1024 .f32) (harg13 : arg13.IsWhole) (arg14 : Memref sig .tc .vmem S8x8x704 .f32) (harg14 : arg14.IsWhole)
  (x0 : Vec Ideal S256x1024 .bf16) (x1 : Vec Ideal S256x1024 .f32) (x2 : Vec Ideal S256x1024 .f32) (x3 : Vec Ideal S8x704x1024 .bf16)
  (x4 : Vec Ideal S2x4x3x704 .f32) (x5 : Vec Ideal S2x4x1x704 .f32) (x6 : Vec Ideal S4x704x1024 .bf16)
  (xs0 : Vec Ideal S1x1024 .f32) (xs1 : Vec Ideal S8x8x704 .f32) (A : Fin 8 → ℕ → Fin 704 → EReal)

/-- The running sums' one store leaves the sums, over any earlier stores. -/
theorem Rows.acc_canon {x0 : Vec Ideal S256x1024 .bf16} {x3 : Vec Ideal S8x704x1024 .bf16} {xs1 : Vec Ideal S8x8x704 .f32}
    {A : Fin 8 → ℕ → Fin 704 → EReal} (h : Rows x0 x3 xs1 A) (L : List (View.Piece (Elt Ideal) S1x1024 .f32)) :
    View.canon ((⟨Rect.unit ![0, 0] S1x1024.size inb_S1x1024_S1x1024_0_0,
      wAcc (View.ld xs0 (Rect.unit ![0, 0] ![1, 1024] inb_S1x1024_S1x1024_0_0)) (Fwd.bErr x0 x1 x2 x3 x4 x5 x6 xs1)⟩ : View.Piece (Elt Ideal) S1x1024 .f32) :: L)
      = accOf x1 x2 x4 x5 x6 A xs0 := by
  rw [View.canon_cons_unit_zero (by decide), h.acc]
  simp only [View.ld_unit_zero (S := S1x1024) (off := ![0, 0]) (by decide)]

/-- The loss gradient's one store leaves its block. -/
theorem Rows.dy_canon {x0 : Vec Ideal S256x1024 .bf16} {x3 : Vec Ideal S8x704x1024 .bf16} {xs1 : Vec Ideal S8x8x704 .f32}
    {A : Fin 8 → ℕ → Fin 704 → EReal} (h : Rows x0 x3 xs1 A) :
    View.canon [(⟨Rect.unit ![0, 0] S256x1024.size inb_S256x1024_S256x1024_0_0, wDy (Fwd.bErr x0 x1 x2 x3 x4 x5 x6 xs1)⟩
      : View.Piece (Elt Ideal) S256x1024 .f32)] = dyOf x1 x2 x4 x5 x6 A := by
  rw [View.canon_cons_unit_zero (by decide), h.dy]

/-- The first point: the sums and the kept rows start from zero. -/
theorem point_first (hc0 : cond0_0 i) (hc1 : ¬cond0_1 i) (h : Rows x0 x3 (k0_pay3 (F := Ideal)) A) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = aOf A ∧
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = uOf x4 x5 A ∧
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = dyOf x1 x2 x4 x5 x6 A ∧
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = accOf x1 x2 x4 x5 x6 A (k0_pay2 (F := Ideal)) ∧
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = keepOf A := by
  refine ⟨Eq.trans (View.read_writes_eq_canon _ _ _ (fun y => cover0_A_7 (y := y) ..)) ?_, Eq.trans (View.read_writes_eq_canon _ _ _ (fun y => cover0_A_8 (y := y) ..)) ?_,
    Eq.trans (View.read_writes_eq_canon _ _ _ (fun y => cover0_A_10 (y := y) ..)) ?_, Eq.trans (View.read_writes_eq_canon _ _ _ (fun y => scover0_A_0 (y := y) ..)) ?_,
    Eq.trans (View.read_writes_eq_canon _ _ _ (fun y => scover0_A_1 (y := y) ..)) ?_⟩
  all_goals
    unfold kernelRun0_A
    dsimp only
    sl_unfold_words
    simp only [View.readAt_eq_ld, harg1.read_unread, harg2.read_unread, harg3.read_unread, harg4.read_unread, harg5.read_unread,
      harg6.read_unread, harg7.read_unread]
    try simp (disch := decide) only [↓View.readCov_skip, ↓View.readCov_fill]
  exacts [h.a_canon, h.u_canon x4 x5, h.dy_canon x1 x2 x4 x5 x6, h.acc_canon x1 x2 x4 x5 x6 (k0_pay2 (F := Ideal)) [_], h.keep_canon [_]]

/-- A point in the middle. -/
theorem point_middle (hc0 : ¬cond0_0 i) (hc1 : ¬cond0_1 i) (h : Rows x0 x3 xs1 A) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = aOf A ∧
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = uOf x4 x5 A ∧
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = dyOf x1 x2 x4 x5 x6 A ∧
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = accOf x1 x2 x4 x5 x6 A xs0 ∧
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = keepOf A := by
  refine ⟨Eq.trans (View.read_writes_eq_canon _ _ _ (fun y => cover0_B_7 (y := y) ..)) ?_, Eq.trans (View.read_writes_eq_canon _ _ _ (fun y => cover0_B_8 (y := y) ..)) ?_,
    Eq.trans (View.read_writes_eq_canon _ _ _ (fun y => cover0_B_10 (y := y) ..)) ?_, Eq.trans (View.read_writes_eq_canon _ _ _ (fun y => scover0_B_0 (y := y) ..)) ?_,
    Eq.trans (View.read_writes_eq_canon _ _ _ (fun y => scover0_B_1 (y := y) ..)) ?_⟩
  all_goals
    unfold kernelRun0_B
    dsimp only
    sl_unfold_words
    simp only [View.readAt_eq_ld, harg1.read_unread, harg2.read_unread, harg3.read_unread, harg4.read_unread, harg5.read_unread,
      harg6.read_unread, harg7.read_unread, harg13.read_unread, harg14.read_unread]
  exacts [h.a_canon, h.u_canon x4 x5, h.dy_canon x1 x2 x4 x5 x6, h.acc_canon x1 x2 x4 x5 x6 xs0 [], h.keep_canon []]

/-- The last point: it stores the loss too. -/
theorem point_last (hc0 : ¬cond0_0 i) (hc1 : cond0_1 i) (h : Rows x0 x3 xs1 A) :
    out0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = aOf A ∧
    out0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = uOf x4 x5 A ∧
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = dyOf x1 x2 x4 x5 x6 A ∧
    out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = k0_pay1 (accOf x1 x2 x4 x5 x6 A xs0) ∧
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = accOf x1 x2 x4 x5 x6 A xs0 ∧
    sout0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 = keepOf A := by
  refine ⟨Eq.trans (View.read_writes_eq_canon _ _ _ (fun y => cover0_C_7 (y := y) ..)) ?_, Eq.trans (View.read_writes_eq_canon _ _ _ (fun y => cover0_C_8 (y := y) ..)) ?_,
    Eq.trans (View.read_writes_eq_canon _ _ _ (fun y => cover0_C_10 (y := y) ..)) ?_, Eq.trans (View.read_writes_eq_canon _ _ _ (fun y => cover0_C_11 (y := y) ..)) ?_,
    Eq.trans (View.read_writes_eq_canon _ _ _ (fun y => scover0_C_0 (y := y) ..)) ?_, Eq.trans (View.read_writes_eq_canon _ _ _ (fun y => scover0_C_1 (y := y) ..)) ?_⟩
  all_goals
    unfold kernelRun0_C
    dsimp only
    sl_unfold_words
    simp only [View.readAt_eq_ld, harg1.read_unread, harg2.read_unread, harg3.read_unread, harg4.read_unread, harg5.read_unread,
      harg6.read_unread, harg7.read_unread, harg13.read_unread, harg14.read_unread]
  · exact h.a_canon
  · exact h.u_canon x4 x5
  · exact h.dy_canon x1 x2 x4 x5 x6
  · rw [View.canon_cons_unit_zero (by decide)]
    simp only [View.readCov_unit_zero (S := S1x1024) _ (off := ![0, 0]) (by decide)]
    refine congrArg k0_pay1 ((h.acc x1 x2 x4 x5 x6 _).trans ?_)
    simp only [View.ld_unit_zero (S := S1x1024) (off := ![0, 0]) (by decide)]
  · exact h.acc_canon x1 x2 x4 x5 x6 xs0 []
  · exact h.keep_canon []

end Cert.Fwd

end
-- ==== Proof.Fwd.Blocks.lean ====
module

public import proofs.«01_k».proof.Proof.Gen.FwdKernelIdeal.Frame
public import Idealize.ShloMosaic.Lib.Pipeline.ValueKit

@[expose] public section

set_option maxRecDepth 16384

noncomputable section

namespace Cert.Fwd

open Idealize.ShloMosaic Idealize.ShloMosaic.TcCoe Idealize.ShloMosaic.Tactic Cert.FwdKernelIdeal Cert.FwdKernelIdeal.Gen Idealize.SL.Sem

/-! The blocks that a grid point reads and writes, as entries of the whole arrays. -/

/-- Row `r` of the block of rows at point `t`. -/
def row (t : Fin cfg0.N) (r : Fin 256) : Fin 8192 :=
  ⟨256 * t.val + r.val, by have h : cfg0.N = 32 := N_0; have := t.isLt; have := r.isLt; omega⟩

/-- A block of the normed rows, out of any array. -/
theorem read0 (c : Dev nD) (A : Buf (Elt Ideal) ((c : Thread nD τ).loc (Pipeline.arrRef spec0 0))) (t : Fin cfg0.N) (r : Fin 256) (k : Fin 1024) :
    ((cfg0.win 0).blk t).view.read (Elt Ideal) A (ix2 r k) = A (ix2 (row t r) k) := by
  have idx : ∀ t : Fin grid0.N, win0_0.index t = ![t.val, 0] := by decide +kernel
  unfold row
  blk_ext [idx t]

/-- A block of the residual stream. -/
theorem read1 (c : Dev nD) (A : Buf (Elt Ideal) ((c : Thread nD τ).loc (Pipeline.arrRef spec0 1))) (t : Fin cfg0.N) (r : Fin 256) (k : Fin 1024) :
    ((cfg0.win 1).blk t).view.read (Elt Ideal) A (ix2 r k) = A (ix2 (row t r) k) := by
  have idx : ∀ t : Fin grid0.N, win0_1.index t = ![t.val, 0] := by decide +kernel
  unfold row
  blk_ext [idx t]

/-- A block of the target. -/
theorem read2 (c : Dev nD) (A : Buf (Elt Ideal) ((c : Thread nD τ).loc (Pipeline.arrRef spec0 2))) (t : Fin cfg0.N) (r : Fin 256) (k : Fin 1024) :
    ((cfg0.win 2).blk t).view.read (Elt Ideal) A (ix2 r k) = A (ix2 (row t r) k) := by
  have idx : ∀ t : Fin grid0.N, win0_2.index t = ![t.val, 0] := by decide +kernel
  unfold row
  blk_ext [idx t]

/-- The up weights are one block. -/
theorem read3 (c : Dev nD) (A : Buf (Elt Ideal) ((c : Thread nD τ).loc (Pipeline.arrRef spec0 3))) (t : Fin cfg0.N) (a : Fin 8) (b : Fin 704) (d : Fin 1024) :
    ((cfg0.win 3).blk t).view.read (Elt Ideal) A (ix3 a b d) = A (ix3 a b d) := by
  have idx : ∀ t : Fin grid0.N, win0_3.index t = ![0, 0, 0] := by decide +kernel
  blk_ext [idx t]

/-- The taps are one block. -/
theorem read4 (c : Dev nD) (A : Buf (Elt Ideal) ((c : Thread nD τ).loc (Pipeline.arrRef spec0 4))) (t : Fin cfg0.N) (a : Fin 2) (b : Fin 4) (d : Fin 3) (e : Fin 704) :
    ((cfg0.win 4).blk t).view.read (Elt Ideal) A (ix4 a b d e) = A (ix4 a b d e) := by
  have idx : ∀ t : Fin grid0.N, win0_4.index t = ![0, 0, 0, 0] := by decide +kernel
  blk_ext [idx t]

/-- The biases are one block. -/
theorem read5 (c : Dev nD) (A : Buf (Elt Ideal) ((c : Thread nD τ).loc (Pipeline.arrRef spec0 5))) (t : Fin cfg0.N) (a : Fin 2) (b : Fin 4) (d : Fin 1) (e : Fin 704) :
    ((cfg0.win 5).blk t).view.read (Elt Ideal) A (ix4 a b d e) = A (ix4 a b d e) := by
  have idx : ∀ t : Fin grid0.N, win0_5.index t = ![0, 0, 0, 0] := by decide +kernel
  blk_ext [idx t]

/-- The down weights are one block. -/
theorem read6 (c : Dev nD) (A : Buf (Elt Ideal) ((c : Thread nD τ).loc (Pipeline.arrRef spec0 6))) (t : Fin cfg0.N) (a : Fin 4) (b : Fin 704) (d : Fin 1024) :
    ((cfg0.win 6).blk t).view.read (Elt Ideal) A (ix3 a b d) = A (ix3 a b d) := by
  have idx : ∀ t : Fin grid0.N, win0_6.index t = ![0, 0, 0] := by decide +kernel
  blk_ext [idx t]

/-- A block of the up projection's result. -/
theorem read7 (c : Dev nD) (A : Buf (Elt Ideal) ((c : Thread nD τ).loc (Pipeline.arrRef spec0 7))) (t : Fin cfg0.N) (j : Fin 8) (r : Fin 256) (n : Fin 704) :
    ((cfg0.win 7).blk t).view.read (Elt Ideal) A (ix3 j r n) = A (ix3 j (row t r) n) := by
  have idx : ∀ t : Fin grid0.N, win0_7.index t = ![0, t.val, 0] := by decide +kernel
  unfold row
  blk_ext [idx t]

/-- A block of the gated rows. -/
theorem read8 (c : Dev nD) (A : Buf (Elt Ideal) ((c : Thread nD τ).loc (Pipeline.arrRef spec0 8))) (t : Fin cfg0.N) (d : Fin 4) (r : Fin 256) (n : Fin 704) :
    ((cfg0.win 8).blk t).view.read (Elt Ideal) A (ix3 d r n) = A (ix3 d (row t r) n) := by
  have idx : ∀ t : Fin grid0.N, win0_8.index t = ![0, t.val, 0] := by decide +kernel
  unfold row
  blk_ext [idx t]

/-- A block of the loss's gradient. -/
theorem read10 (c : Dev nD) (A : Buf (Elt Ideal) ((c : Thread nD τ).loc (Pipeline.arrRef spec0 10))) (t : Fin cfg0.N) (r : Fin 256) (k : Fin 1024) :
    ((cfg0.win 10).blk t).view.read (Elt Ideal) A (ix2 r k) = A (ix2 (row t r) k) := by
  have idx : ∀ t : Fin grid0.N, win0_10.index t = ![t.val, 0] := by decide +kernel
  unfold row
  blk_ext [idx t]

/-- The loss is one block. -/
theorem read11 (c : Dev nD) (A : Buf (Elt Ideal) ((c : Thread nD τ).loc (Pipeline.arrRef spec0 11))) (t : Fin cfg0.N) (a : Fin 8) (b : Fin 128) :
    ((cfg0.win 11).blk t).view.read (Elt Ideal) A (ix2 a b) = A (ix2 a b) := by
  have idx : ∀ t : Fin grid0.N, win0_11.index t = ![0, 0] := by decide +kernel
  blk_ext [idx t]

variable (m : (ℓ : Loc nD τ sig) → Buf (Elt Ideal) ℓ) (c : Dev nD) (t : Fin cfg0.N)

theorem iblk0_apply (r : Fin 256) (k : Fin 1024) : iblk m c 0 t (ix2 r k) = V m c main_v12 (ix2 (row t r) k) := read0 c (V m c main_v12) t r k

theorem iblk1_apply (r : Fin 256) (k : Fin 1024) : iblk m c 1 t (ix2 r k) = V m c main_arg1 (ix2 (row t r) k) := read1 c (V m c main_arg1) t r k

theorem iblk2_apply (r : Fin 256) (k : Fin 1024) : iblk m c 2 t (ix2 r k) = V m c main_arg2 (ix2 (row t r) k) := read2 c (V m c main_arg2) t r k

theorem iblk3_eq : (iblk m c 3 t : Vec Ideal S8x704x1024 .bf16) = V m c main_v3 := by
  funext y
  rw [eq_ix3 y]
  exact read3 c (V m c main_v3) t _ _ _

theorem iblk4_eq : (iblk m c 4 t : Vec Ideal S2x4x3x704 .f32) = V m c main_v7 := by
  funext y
  rw [eq_ix4 y]
  exact read4 c (V m c main_v7) t _ _ _ _

theorem iblk5_eq : (iblk m c 5 t : Vec Ideal S2x4x1x704 .f32) = V m c main_v8 := by
  funext y
  rw [eq_ix4 y]
  exact read5 c (V m c main_v8) t _ _ _ _

theorem iblk6_eq : (iblk m c 6 t : Vec Ideal S4x704x1024 .bf16) = V m c main_v11 := by
  funext y
  rw [eq_ix3 y]
  exact read6 c (V m c main_v11) t _ _ _

end Cert.Fwd

end
-- ==== Proof.Fwd.Run.lean ====
module

public import proofs.«01_k».proof.Proof.Fwd.Points
public import proofs.«01_k».proof.Proof.Fwd.Blocks

@[expose] public section

set_option maxRecDepth 16384

noncomputable section

namespace Cert.Fwd

open Idealize.ShloMosaic Idealize.ShloMosaic.TcCoe Idealize.ShloMosaic.Tactic Cert.FwdKernelIdeal Cert.FwdKernelIdeal.Gen Idealize.SL.Sem

/-! What every grid point leaves, in terms of the whole sequence's rows. -/

/-- A row of the up projection, counted from eight rows before the sequence; zero there. -/
def aG (h : Vec Ideal S8192x1024 .bf16) (up : Vec Ideal S8x704x1024 .bf16) (j : Fin 8) (R : ℕ) (n : Fin 704) : EReal :=
  if hR : 8 ≤ R ∧ R < 8200 then ∑ k : Fin 1024, h (ix2 ⟨R - 8, by omega⟩ k) * up (ix3 j n k) else 0

variable (m : (ℓ : Loc nD τ sig) → Buf (Elt Ideal) ℓ) (c : Dev nD)

/-- The same over the arrays that the kernel is given. -/
def aV : Fin 8 → ℕ → Fin 704 → EReal := aG (V m c main_v12) (V m c main_v3)

/-- The rows that a point sees. -/
def rowsV (n : ℕ) : Fin 8 → ℕ → Fin 704 → EReal := fun j r k => aV m c j (256 * n + r) k

/-- A point's blocks have the sequence's rows, if the rows kept from the point before do. -/
theorem rows_of (t : Fin cfg0.N) (xs : Vec Ideal S8x8x704 .f32) (hx : ∀ (j r : Fin 8) (n : Fin 704), xs (ix3 j r n) = rowsV m c t.val j r.val n) :
    Rows (iblk m c 0 t) (iblk m c 3 t) xs (rowsV m c t.val) where
  own j r n := by
    have hN : cfg0.N = 32 := N_0
    have hR : 8 ≤ 256 * t.val + (r.val + 8) ∧ 256 * t.val + (r.val + 8) < 8200 := by have := t.isLt; have := r.isLt; omega
    rw [iblk3_eq]
    unfold rowsV aV aG
    rw [dif_pos hR]
    exact Finset.sum_congr rfl fun k _ => congrArg (· * V m c main_v3 (ix3 j n k)) (iblk0_apply m c t r k)
  kept := hx

/-- At the first point the rows kept are zeros, as those before the sequence are. -/
theorem rows_first (t : Fin cfg0.N) (h0 : t.val % 32 = 0) : Rows (iblk m c 0 t) (iblk m c 3 t) (k0_pay3 (F := Ideal)) (rowsV m c t.val) := by
  refine rows_of m c t _ fun j r n => ?_
  have ht : t.val = 0 := by have := t.isLt; have hN : cfg0.N = 32 := N_0; omega
  unfold rowsV aV aG
  rw [dif_neg (by have := r.isLt; omega)]
  unfold k0_pay3
  pointwise

/-- The rows kept by a point are those that the next one sees first. -/
theorem rows_next (t : Fin cfg0.N) (h0 : ¬t.val % 32 = 0) :
    Rows (iblk m c 0 t) (iblk m c 3 t) (keepOf (rowsV m c (t.val - 1))) (rowsV m c t.val) := by
  refine rows_of m c t _ fun j r n => ?_
  show aV m c j (256 * (t.val - 1) + (256 + r.val)) n = aV m c j (256 * t.val + r.val) n
  congr 1
  omega

/-- What the point before leaves. -/
abbrev prev (t : Fin cfg0.N) := outsAt0 m c (t.val - 1) (Nat.lt_of_le_of_lt (Nat.sub_le _ _) t.isLt)

/-- What a point leaves, if the running sums before it were `s`: its blocks, the sums and the kept rows. -/
structure Left (t : Fin cfg0.N) (s : Vec Ideal S1x1024 .f32) : Prop where
  a : (outsAt0 m c t.val t.isLt).1 = aOf (rowsV m c t.val)
  u : (outsAt0 m c t.val t.isLt).2.1 = uOf (iblk m c 4 t) (iblk m c 5 t) (rowsV m c t.val)
  dy : (outsAt0 m c t.val t.isLt).2.2.2.1 = dyOf (iblk m c 1 t) (iblk m c 2 t) (iblk m c 4 t) (iblk m c 5 t) (iblk m c 6 t) (rowsV m c t.val)
  acc : (outsAt0 m c t.val t.isLt).2.2.2.2.2.1
    = accOf (iblk m c 1 t) (iblk m c 2 t) (iblk m c 4 t) (iblk m c 5 t) (iblk m c 6 t) (rowsV m c t.val) s
  keep : (outsAt0 m c t.val t.isLt).2.2.2.2.2.2 = keepOf (rowsV m c t.val)
  loss : t.val % 32 = 31 → (outsAt0 m c t.val t.isLt).2.2.2.2.1 = k0_pay1 (outsAt0 m c t.val t.isLt).2.2.2.2.2.1

theorem left_first (t : Fin cfg0.N) (h0 : t.val % 32 = 0) : Left m c t (k0_pay2 (F := Ideal)) := by
  have h1 : ¬t.val % 32 = 31 := by omega
  obtain ⟨p7, p8, p10, q0, q1⟩ := point_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (iblk m c 0 t) (iblk m c 1 t) (iblk m c 2 t) (iblk m c 3 t) (iblk m c 4 t) (iblk m c 5 t) (iblk m c 6 t)
    (rowsV m c t.val) ((hcond0_0 t).mpr h0) (fun h => h1 ((hcond0_1 t).mp h)) (rows_first m c t h0)
  have e := outsAt0_A m c t h0 h1
  constructor
  · rw [e]
    dsimp only
    exact p7
  · rw [e]
    dsimp only
    exact p8
  · rw [e]
    dsimp only
    exact p10
  · rw [e]
    dsimp only
    exact q0
  · rw [e]
    dsimp only
    exact q1
  · exact fun h => absurd h h1

set_option maxHeartbeats 800000 in
theorem left_later (t : Fin cfg0.N) (h0 : ¬t.val % 32 = 0) (hk : (prev m c t).2.2.2.2.2.2 = keepOf (rowsV m c (t.val - 1))) :
    Left m c t (prev m c t).2.2.2.2.2.1 := by
  have hr : Rows (iblk m c 0 t) (iblk m c 3 t) (prev m c t).2.2.2.2.2.2 (rowsV m c t.val) := by
    rw [hk]
    exact rows_next m c t h0
  by_cases h1 : t.val % 32 = 31
  · obtain ⟨p7, p8, p10, p11, q0, q1⟩ := point_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t)
      (prev m c t).2.2.2.2.2.1 (prev m c t).2.2.2.2.2.2 (rowsV m c t.val) (fun h => h0 ((hcond0_0 t).mp h)) ((hcond0_1 t).mpr h1) hr
    have e := outsAt0_C m c t h0 h1
    constructor
    · rw [e]
      dsimp only
      exact p7
    · rw [e]
      dsimp only
      exact p8
    · rw [e]
      dsimp only
      exact p10
    · rw [e]
      dsimp only
      exact q0
    · rw [e]
      dsimp only
      exact q1
    · intro _
      rw [e]
      dsimp only
      exact p11.trans (congrArg k0_pay1 q0.symm)
  · obtain ⟨p7, p8, p10, q0, q1⟩ := point_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t)
      (prev m c t).2.2.2.2.2.1 (prev m c t).2.2.2.2.2.2 (rowsV m c t.val) (fun h => h0 ((hcond0_0 t).mp h)) (fun h => h1 ((hcond0_1 t).mp h)) hr
    have e := outsAt0_B m c t h0 h1
    constructor
    · rw [e]
      dsimp only
      exact p7
    · rw [e]
      dsimp only
      exact p8
    · rw [e]
      dsimp only
      exact p10
    · rw [e]
      dsimp only
      exact q0
    · rw [e]
      dsimp only
      exact q1
    · exact fun h => absurd h h1

/-- Every point keeps its last rows. -/
theorem held : ∀ (n : ℕ) (hn : n < cfg0.N), (outsAt0 m c n hn).2.2.2.2.2.2 = keepOf (rowsV m c n)
  | 0, hn => (left_first m c ⟨0, hn⟩ (Nat.zero_mod _)).keep
  | n + 1, hn => (left_later m c ⟨n + 1, hn⟩ (by have hN : cfg0.N = 32 := N_0; show ¬(n + 1) % 32 = 0; omega)
      (held n (Nat.lt_of_succ_lt hn))).keep

/-- A later point adds to the sums of the one before. -/
theorem left_next (t : Fin cfg0.N) (h0 : ¬t.val % 32 = 0) : Left m c t (prev m c t).2.2.2.2.2.1 := left_later m c t h0 (held m c _ _)

/-- Every point leaves its blocks. -/
theorem left (t : Fin cfg0.N) : ∃ s, Left m c t s := by
  by_cases h0 : t.val % 32 = 0
  · exact ⟨_, left_first m c t h0⟩
  · exact ⟨_, left_next m c t h0⟩

end Cert.Fwd

end
-- ==== Proof.Fwd.Arrays.lean ====
module

public import proofs.«01_k».proof.Proof.Fwd.Run

@[expose] public section

set_option maxRecDepth 16384

noncomputable section

namespace Cert.Fwd

open Idealize.ShloMosaic Idealize.ShloMosaic.TcCoe Idealize.ShloMosaic.Tactic Cert.FwdKernelIdeal Cert.FwdKernelIdeal.Gen Idealize.SL.Sem

/-! The four claimed arrays after the run. -/

/-- A sum over the points and the rows of their blocks is a sum over the sequence. -/
theorem sum_rows (N : ℕ) (hN : N = 32) (f : Fin 8192 → EReal) :
    ∑ p : Fin N, ∑ r : Fin 256, f ⟨256 * p.val + r.val, by omega⟩ = ∑ R : Fin 8192, f R := by
  subst hN
  refine Eq.trans ?_ (Fin.sum_mul_add_fin 32 256 f)
  exact Finset.sum_congr rfl fun p _ => Finset.sum_congr rfl fun r _ => congrArg f (Fin.ext (congrArg (· + r.val) (Nat.mul_comm 256 p.val)))

theorem sum_all (f : Fin 8192 → EReal) : ∑ t : Fin cfg0.N, ∑ r : Fin 256, f (row t r) = ∑ R : Fin 8192, f R := sum_rows _ N_0 f

variable (m : (ℓ : Loc nD τ sig) → Buf (Elt Ideal) ℓ) (c : Dev nD)

/-- The error over the whole sequence. -/
def errV (R : Fin 8192) (k : Fin 1024) : EReal :=
  errAt (fun k => V m c main_arg1 (ix2 R k)) (fun k => V m c main_arg2 (ix2 R k)) (V m c main_v7) (V m c main_v8) (V m c main_v11) (aV m c) R.val k

/-- A block's error is the sequence's. -/
theorem err_row (t : Fin cfg0.N) (r : Fin 256) (k : Fin 1024) :
    errAt (fun k => iblk m c 1 t (ix2 r k)) (fun k => iblk m c 2 t (ix2 r k)) (iblk m c 4 t) (iblk m c 5 t) (iblk m c 6 t) (rowsV m c t.val) r.val k
      = errV m c (row t r) k := by
  rw [iblk4_eq, iblk5_eq, iblk6_eq, funext fun k => iblk1_apply m c t r k, funext fun k => iblk2_apply m c t r k]
  rfl

/-- The up projection. -/
def G7 : Vec Ideal S8x8192x704 .bf16 := fun y => aV m c (y 0) ((y 1).val + 8) (y 2)

/-- The gated product. -/
def G8 : Vec Ideal S4x8192x704 .bf16 := fun y => uAt (V m c main_v7) (V m c main_v8) (aV m c) (y 0) (y 1).val (y 2)

/-- The loss's gradient. -/
def G10 : Vec Ideal S8192x1024 .f32 := fun y => errV m c (y 0) (y 1) * Ideal.ofBits .f32 0x3A800000#32

/-- The loss, at every entry of its block. -/
def G11 : Vec Ideal S8x128 .f32 := fun _ => Ideal.ofBits .f32 0x3A000000#32 * ∑ k : Fin 1024, ∑ R : Fin 8192, errV m c R k * errV m c R k

theorem arr7 : (dats m 0 c).arrAt 7 cfg0.N = G7 m c := by
  refine (dats m 0 c).arrAt_eq_of_covers 7 _ (by decide +kernel) fun t hf y => ?_
  obtain ⟨j, r, n, rfl⟩ : ∃ (j : Fin 8) (r : Fin 256) (n : Fin 704), y = ix3 j r n := ⟨y 0, y 1, y 2, eq_ix3 y⟩
  obtain ⟨s, h⟩ := left m c t
  refine Eq.trans ?_ (read7 c (G7 m c) t j r n).symm
  have e : (outsAt0 m c t.val t.isLt).1 (ix3 j r n) = G7 m c (ix3 j (row t r) n) := by
    rw [h.a]
    rfl
  refine Eq.trans ?_ e
  rw [after0_7]
  rfl

theorem arr8 : (dats m 0 c).arrAt 8 cfg0.N = G8 m c := by
  refine (dats m 0 c).arrAt_eq_of_covers 8 _ (by decide +kernel) fun t hf y => ?_
  obtain ⟨d, r, n, rfl⟩ : ∃ (d : Fin 4) (r : Fin 256) (n : Fin 704), y = ix3 d r n := ⟨y 0, y 1, y 2, eq_ix3 y⟩
  obtain ⟨s, h⟩ := left m c t
  refine Eq.trans ?_ (read8 c (G8 m c) t d r n).symm
  have e : (outsAt0 m c t.val t.isLt).2.1 (ix3 d r n) = G8 m c (ix3 d (row t r) n) := by
    rw [h.u, iblk4_eq, iblk5_eq]
    rfl
  refine Eq.trans ?_ e
  rw [after0_8]
  rfl

theorem arr10 : (dats m 0 c).arrAt 10 cfg0.N = G10 m c := by
  refine (dats m 0 c).arrAt_eq_of_covers 10 _ (by decide +kernel) fun t hf y => ?_
  obtain ⟨r, k, rfl⟩ : ∃ (r : Fin 256) (k : Fin 1024), y = ix2 r k := ⟨y 0, y 1, eq_ix2 y⟩
  obtain ⟨s, h⟩ := left m c t
  refine Eq.trans ?_ (read10 c (G10 m c) t r k).symm
  have e : (outsAt0 m c t.val t.isLt).2.2.2.1 (ix2 r k) = G10 m c (ix2 (row t r) k) := by
    rw [h.dy]
    exact congrArg (· * Ideal.ofBits .f32 0x3A800000#32) (err_row m c t r k)
  refine Eq.trans ?_ e
  rw [after0_10]
  rfl

/-- One point's sums of squares. -/
def sqT (t : Fin cfg0.N) (y : S1x1024.Idx) : EReal := ∑ r : Fin 256, errV m c (row t r) (y 1) * errV m c (row t r) (y 1)

/-- A point adds its sums to those before. -/
theorem Left.acc_at {m : (ℓ : Loc nD τ sig) → Buf (Elt Ideal) ℓ} {c : Dev nD} {t : Fin cfg0.N} {s : Vec Ideal S1x1024 .f32} (h : Left m c t s)
    (y : S1x1024.Idx) : (outsAt0 m c t.val t.isLt).2.2.2.2.2.1 y = s y + sqT m c t y := by
  rw [h.acc]
  exact congrArg (s y + ·) (Finset.sum_congr rfl fun r _ => congrArg (fun z : EReal => z * z) (err_row m c t r (y 1)))

theorem acc_first (t : Fin cfg0.N) (h : t.val % 32 = 0) (y : S1x1024.Idx) :
    (outsAt0 m c t.val t.isLt).2.2.2.2.2.1 y = 0 + sqT m c t y := by
  rw [(left_first m c t h).acc_at]
  refine congrArg (· + sqT m c t y) ?_
  unfold k0_pay2
  pointwise

theorem acc_later (t : Fin cfg0.N) (h : ¬t.val % 32 = 0) (y : S1x1024.Idx) :
    (outsAt0 m c t.val t.isLt).2.2.2.2.2.1 y
      = (outsAt0 m c (t.val - 1) (Nat.lt_of_le_of_lt (Nat.sub_le _ _) t.isLt)).2.2.2.2.2.1 y + sqT m c t y :=
  (left_next m c t h).acc_at y

/-- The last point. -/
def tLast : Fin cfg0.N := ⟨31, by decide⟩

/-- The sums of squares after the last point. -/
theorem acc_last (y : S1x1024.Idx) : (outsAt0 m c tLast.val tLast.isLt).2.2.2.2.2.1 y = ∑ R : Fin 8192, errV m c R (y 1) * errV m c R (y 1) := by
  have key : (outsAt0 m c tLast.val tLast.isLt).2.2.2.2.2.1 y = (0 : EReal) + ∑ p : Fin cfg0.N, sqT m c p y :=
    Pipeline.eq_sum_fin_of_reset_step_apply_last (M := EReal) (fun n hn y => (outsAt0 m c n hn).2.2.2.2.2.1 y) 32 (fun _ => (0 : EReal))
      (sqT m c) (acc_first m c) (acc_later m c) (le_of_eq N_0) tLast rfl y
  rw [key, zero_add]
  exact sum_all fun R => errV m c R (y 1) * errV m c R (y 1)

theorem arr11 : (dats m 0 c).arrAt 11 cfg0.N = G11 m c := by
  refine (dats m 0 c).arrAt_eq_of_covers 11 _ (by decide +kernel) fun t hf y => ?_
  have ht : t = tLast := Fin.ext (by have ht := lt_of_lt_of_eq t.isLt (show cfg0.N = 32 from N_0); have := (flush0_11 t).mp hf; show t.val = 31; omega)
  subst ht
  obtain ⟨a, b, rfl⟩ : ∃ (a : Fin 8) (b : Fin 128), y = ix2 a b := ⟨y 0, y 1, eq_ix2 y⟩
  obtain ⟨s, h⟩ := left m c tLast
  refine Eq.trans ?_ (read11 c (G11 m c) tLast a b).symm
  have e : (outsAt0 m c tLast.val tLast.isLt).2.2.2.2.1 (ix2 a b) = G11 m c (ix2 a b) := by
    rw [h.loss rfl, loss_apply]
    exact congrArg (Ideal.ofBits .f32 0x3A000000#32 * ·) (Finset.sum_congr rfl fun k _ => acc_last m c (ix2 0 k))
  refine Eq.trans ?_ e
  rw [after0_11]
  rfl

end Cert.Fwd

end
-- ==== Proof.Fwd.HostAt.lean ====
module

public import proofs.«01_k».proof.Proof.Gen.FwdKernelIdeal.Frame
public import Idealize.ShloMosaic.Lib.Claim
public import Idealize.ShloMosaic.Lib.Pointwise

@[expose] public section

set_option maxRecDepth 16384

noncomputable section

namespace Cert.Fwd

open Idealize.ShloMosaic Idealize.ShloMosaic.TcCoe Idealize.ShloMosaic.Tactic Cert.FwdKernelIdeal Cert.FwdKernelIdeal.Gen Idealize.SL.Sem

/-! The arrays that the host prepares, at an entry. -/

/-- The column of the whole width that a shard's column is. -/
def col (j : Fin 8) (n : Fin 704) : Fin 5632 := ⟨j.val * 704 + n.val, by omega⟩

/-- The up weights in blocks of columns. -/
def hUp (x : FVec Ideal S1x1024x5632 .f32) : FVec Ideal S8x704x1024 .bf16 :=
  shapeCast S8x704x1024 (truncf .bf16 (transpose S5632x1024 [1, 0] (shapeCast S1024x5632 x shapeCasts_S1x1024x5632_S1024x5632)
    transposes_S1024x5632_S5632x1024_1_0) bitsLt_bf16_f32) shapeCasts_S5632x1024_S8x704x1024

theorem hUp_apply (x : FVec Ideal S1x1024x5632 .f32) (j : Fin 8) (n : Fin 704) (k : Fin 1024) : hUp x (ix3 j n k) = x (ix3 0 k (col j n)) := by
  unfold hUp col
  pointwise

/-- The taps in blocks of columns. -/
def hTaps (x : FVec Ideal S1x3x5632 .f32) : FVec Ideal S2x4x3x704 .f32 :=
  shapeCast S2x4x3x704 (transpose S8x3x704 [1, 0, 2] (shapeCast S3x8x704 (shapeCast S3x5632 x shapeCasts_S1x3x5632_S3x5632)
    shapeCasts_S3x5632_S3x8x704) transposes_S3x8x704_S8x3x704_1_0_2) shapeCasts_S8x3x704_S2x4x3x704

theorem hTaps_apply (x : FVec Ideal S1x3x5632 .f32) (s : Fin 2) (d : Fin 4) (w : Fin 3) (n : Fin 704) :
    hTaps x (ix4 s d w n) = x (ix3 0 w (col ⟨s.val * 4 + d.val, by omega⟩ n)) := by
  unfold hTaps col
  pointwise

/-- The biases in blocks of columns. -/
def hBias (x : FVec Ideal S1x5632 .f32) : FVec Ideal S2x4x1x704 .f32 := shapeCast S2x4x1x704 x shapeCasts_S1x5632_S2x4x1x704

theorem hBias_apply (x : FVec Ideal S1x5632 .f32) (s : Fin 2) (d : Fin 4) (n : Fin 704) :
    hBias x (ix4 s d 0 n) = x (ix2 0 (col ⟨s.val * 4 + d.val, by omega⟩ n)) := by
  unfold hBias col
  pointwise
  exact congrArg (fun q => x (ix2 0 q)) (Fin.ext (by show s.val * 2816 + d.val * 704 + n.val = (s.val * 4 + d.val) * 704 + n.val; omega))

/-- The down weights in blocks of rows. -/
def hDown (x : FVec Ideal S1x2816x1024 .f32) : FVec Ideal S4x704x1024 .bf16 :=
  shapeCast S4x704x1024 (truncf .bf16 (shapeCast S2816x1024 x shapeCasts_S1x2816x1024_S2816x1024) bitsLt_bf16_f32) shapeCasts_S2816x1024_S4x704x1024

theorem hDown_apply (x : FVec Ideal S1x2816x1024 .f32) (d : Fin 4) (n : Fin 704) (k : Fin 1024) :
    hDown x (ix3 d n k) = x (ix3 0 ⟨d.val * 704 + n.val, by omega⟩ k) := by
  unfold hDown
  pointwise

/-- The rows as they are multiplied. -/
def hRows (x : FVec Ideal S8192x1024 .f32) : FVec Ideal S8192x1024 .bf16 := truncf .bf16 x bitsLt_bf16_f32

theorem hRows_apply (x : FVec Ideal S8192x1024 .f32) (i : S8192x1024.Idx) : hRows x i = x i := rfl

variable (m : (ℓ : Loc nD τ sig) → Buf (Elt Ideal) ℓ) (c : Dev nD)

theorem V_rows : V m c main_v12 = hRows (m ((c : Thread nD τ).loc main_arg0)) := by
  entry_read
  rfl

theorem V_up : V m c main_v3 = hUp (m ((c : Thread nD τ).loc main_arg3)) := by
  entry_read
  rfl

theorem V_taps : V m c main_v7 = hTaps (m ((c : Thread nD τ).loc main_arg4)) := by
  entry_read
  rfl

theorem V_bias : V m c main_v8 = hBias (m ((c : Thread nD τ).loc main_arg5)) := by
  entry_read
  rfl

theorem V_down : V m c main_v11 = hDown (m ((c : Thread nD τ).loc main_arg6)) := by
  entry_read
  rfl

end Cert.Fwd

end
-- ==== Proof.Fwd.RefAt.lean ====
module

public import proofs.«01_k».proof.Proof.Gen.FwdReferenceIdeal.Read
public import proofs.«01_k».proof.Proof.Fwd.HostAt
public import proofs.«01_k».proof.Proof.Fwd.Words

@[expose] public section

set_option maxRecDepth 16384

noncomputable section

namespace Cert.Fwd

open Idealize.ShloMosaic Idealize.ShloMosaic.TcCoe Idealize.ShloMosaic.Tactic Cert.FwdReferenceIdeal Cert.FwdReferenceIdeal.Read

/-! The reference's values at an entry. -/

variable (x0 x1 x2 : (⟨S8192x1024, .f32⟩ : BufTy).Contents (Elt Ideal)) (x3 : (⟨S1x1024x5632, .f32⟩ : BufTy).Contents (Elt Ideal))
  (x4 : (⟨S1x3x5632, .f32⟩ : BufTy).Contents (Elt Ideal)) (x5 : (⟨S1x5632, .f32⟩ : BufTy).Contents (Elt Ideal))
  (x6 : (⟨S1x2816x1024, .f32⟩ : BufTy).Contents (Elt Ideal))

/-- The up projection. -/
theorem v1_apply (R : Fin 8192) (q : Fin 5632) : val_main_v1 (F := Ideal) x0 x3 (ix2 R q) = ∑ k : Fin 1024, x0 (ix2 R k) * x3 (ix3 0 k q) := by
  unfold val_main_v1 val_main_v0
  pointwise

/-- The rows under two rows of zeros. -/
theorem v5_apply (R : Fin 8194) (q : Fin 5632) : val_main_v5 (F := Ideal) x0 x3 (ix2 R q)
    = if h : R.val < 2 then 0 else val_main_v1 (F := Ideal) x0 x3 (ix2 ⟨R.val - 2, by omega⟩ q) := by
  unfold val_main_v5 val_main_v4 val_main_cst
  pointwise

/-- The convolution. -/
theorem v28_apply (R : Fin 8192) (q : Fin 5632) : val_main_v28 (F := Ideal) x0 x3 x4 x5 (ix2 R q)
    = val_main_v5 (F := Ideal) x0 x3 (ix2 ⟨R.val, by omega⟩ q) * x4 (ix3 0 0 q)
      + val_main_v5 (F := Ideal) x0 x3 (ix2 ⟨1 + R.val, by omega⟩ q) * x4 (ix3 0 1 q)
      + val_main_v5 (F := Ideal) x0 x3 (ix2 ⟨2 + R.val, by omega⟩ q) * x4 (ix3 0 2 q) + x5 (ix2 0 q) := by
  unfold val_main_v28 val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10 val_main_v9
    val_main_v8 val_main_v7 val_main_v6 val_main_v3 val_main_v2
  pointwise

/-- The gated product, from the convolution's two halves. -/
theorem v44_apply (R : Fin 8192) (q : Fin 2816) : val_main_v44 (F := Ideal) x0 x3 x4 x5 (ix2 R q)
    = geluAt (val_main_v28 (F := Ideal) x0 x3 x4 x5 (ix2 R ⟨q.val, by omega⟩)) * val_main_v28 (F := Ideal) x0 x3 x4 x5 (ix2 R ⟨2816 + q.val, by omega⟩) := by
  unfold val_main_v44 val_main_v43 val_main_v42 val_main_v41 val_main_v40 val_main_v39 val_main_v38 val_main_v37 val_main_v36 val_main_v35
    val_main_v34 val_main_v33 val_main_v32 val_main_v31 val_main_v30 val_main_v29 val_main_cst_0 val_main_cst_1 val_main_cst_2 val_main_cst_3 geluAt
  pointwise
  try simp only [mul_assoc]

/-- The up projection, in blocks. -/
theorem v51_apply (j : Fin 8) (R : Fin 8192) (n : Fin 704) : val_main_v51 (F := Ideal) x0 x3 (ix3 j R n) = val_main_v1 (F := Ideal) x0 x3 (ix2 R (col j n)) := by
  unfold val_main_v51 val_main_v50 val_main_v49 col
  pointwise

/-- The gated product, in blocks. -/
theorem v54_apply (d : Fin 4) (R : Fin 8192) (n : Fin 704) : val_main_v54 (F := Ideal) x0 x3 x4 x5 (ix3 d R n)
    = val_main_v44 (F := Ideal) x0 x3 x4 x5 (ix2 R ⟨d.val * 704 + n.val, by omega⟩) := by
  unfold val_main_v54 val_main_v53 val_main_v52
  pointwise

/-- The error. -/
theorem v48_apply (R : Fin 8192) (k : Fin 1024) : val_main_v48 (F := Ideal) x0 x1 x2 x3 x4 x5 x6 (ix2 R k)
    = x1 (ix2 R k) + (∑ q : Fin 2816, val_main_v44 (F := Ideal) x0 x3 x4 x5 (ix2 R q) * x6 (ix3 0 q k)) - x2 (ix2 R k) := by
  unfold val_main_v48 val_main_v47 val_main_v46 val_main_v45
  pointwise

/-- The loss's gradient. -/
theorem v56_apply (R : Fin 8192) (k : Fin 1024) : val_main_v56 (F := Ideal) x0 x1 x2 x3 x4 x5 x6 (ix2 R k)
    = val_main_v48 (F := Ideal) x0 x1 x2 x3 x4 x5 x6 (ix2 R k) * Ideal.ofBits .f32 0x3A800000#32 := by
  unfold val_main_v56 val_main_v55 val_main_cst_4
  pointwise

/-- The loss. -/
theorem v60_apply (p : Fin 8) (q : Fin 128) : val_main_v60 (F := Ideal) x0 x1 x2 x3 x4 x5 x6 (ix2 p q)
    = Ideal.ofBits .f32 0x3A000000#32 * ∑ R : Fin 8192, ∑ k : Fin 1024,
      val_main_v48 (F := Ideal) x0 x1 x2 x3 x4 x5 x6 (ix2 R k) * val_main_v48 (F := Ideal) x0 x1 x2 x3 x4 x5 x6 (ix2 R k) := by
  unfold val_main_v60 val_main_v59 val_main_v58 val_main_v57 val_main_cst_5 val_main_cst_6
  pointwise

end Cert.Fwd

end
-- ==== Proof.Fwd.Value.lean ====
module

public import proofs.«01_k».proof.Proof.Fwd.Arrays
public import proofs.«01_k».proof.Proof.Fwd.RefAt
public import proofs.«01_k».proof.Proof.Fwd.HostAt

@[expose] public section

set_option maxRecDepth 16384

noncomputable section

namespace Cert.Fwd

open Idealize.ShloMosaic Idealize.ShloMosaic.TcCoe Idealize.ShloMosaic.Tactic Cert.FwdKernelIdeal Cert.FwdKernelIdeal.Gen Idealize.SL.Sem Cert.FwdReferenceIdeal.Read

/-! The kernel's four arrays are the reference's, on any arguments. -/

section Numbers

variable (x0 : FVec Ideal S8192x1024 .f32) (x1 x2 : FVec Ideal S8192x1024 .f32) (x3 : FVec Ideal S1x1024x5632 .f32) (x4 : FVec Ideal S1x3x5632 .f32)
  (x5 : FVec Ideal S1x5632 .f32) (x6 : FVec Ideal S1x2816x1024 .f32)

/-- A row of the sequence is the reference's row under its two rows of zeros. -/
theorem a_eq (j : Fin 8) (R : Fin 8194) (n : Fin 704) :
    aG (hRows x0) (hUp x3) j (R.val + 6) n = val_main_v5 (F := Ideal) x0 x3 (ix2 R (col j n)) := by
  rw [v5_apply]
  unfold aG
  by_cases h : R.val < 2
  · rw [dif_neg (by omega), dif_pos h]
  · rw [dif_pos (by have := R.isLt; omega), dif_neg h, v1_apply]
    refine Finset.sum_congr rfl fun k _ => ?_
    rw [hRows_apply, hUp_apply]
    refine congrArg (fun q => x0 (ix2 q k) * x3 (ix3 0 k (col j n))) (Fin.ext ?_)
    show R.val + 6 - 8 = R.val - 2
    omega

/-- The convolution at a row. -/
theorem z_eq (s : Fin 2) (d : Fin 4) (R : Fin 8192) (n : Fin 704) :
    zAt (hTaps x4) (hBias x5) (aG (hRows x0) (hUp x3)) s d R.val n = val_main_v28 (F := Ideal) x0 x3 x4 x5 (ix2 R (col (sh s d) n)) := by
  have e0 := a_eq x0 x3 (sh s d) ⟨R.val, by omega⟩ n
  have e1 := a_eq x0 x3 (sh s d) ⟨1 + R.val, by omega⟩ n
  have e2 := a_eq x0 x3 (sh s d) ⟨2 + R.val, by omega⟩ n
  have hc : (⟨s.val * 4 + d.val, by omega⟩ : Fin 8) = sh s d := Fin.ext (congrArg (· + d.val) (Nat.mul_comm s.val 4))
  rw [v28_apply, ← e0, ← e1, ← e2]
  unfold zAt
  rw [hTaps_apply, hTaps_apply, hTaps_apply, hBias_apply, hc]
  have n1 : 1 + R.val + 6 = R.val + 7 := by omega
  have n2 : 2 + R.val + 6 = R.val + 8 := by omega
  show _ = _ * _ + aG (hRows x0) (hUp x3) (sh s d) (1 + R.val + 6) n * _ + aG (hRows x0) (hUp x3) (sh s d) (2 + R.val + 6) n * _ + _
  rw [n1, n2]
  congr 1
  rw [mul_comm (x4 _), mul_comm (x4 _), mul_comm (x4 _), add_comm, add_comm (_ * _) (_ * x4 (ix3 0 0 _))]

/-- The gated product at a row. -/
theorem u_eq (d : Fin 4) (R : Fin 8192) (n : Fin 704) :
    uAt (hTaps x4) (hBias x5) (aG (hRows x0) (hUp x3)) d R.val n = val_main_v44 (F := Ideal) x0 x3 x4 x5 (ix2 R ⟨d.val * 704 + n.val, by omega⟩) := by
  unfold uAt
  rw [z_eq, z_eq, v44_apply]
  have h0 : col (sh 0 d) n = ⟨d.val * 704 + n.val, by omega⟩ := Fin.ext (by show (4 * 0 + d.val) * 704 + n.val = d.val * 704 + n.val; omega)
  have h1 : col (sh 1 d) n = ⟨2816 + (d.val * 704 + n.val), by omega⟩ := Fin.ext (by show (4 * 1 + d.val) * 704 + n.val = 2816 + (d.val * 704 + n.val); omega)
  rw [h0, h1]

/-- The error at an entry. -/
theorem err_eq (R : Fin 8192) (k : Fin 1024) :
    errAt (fun k => x1 (ix2 R k)) (fun k => x2 (ix2 R k)) (hTaps x4) (hBias x5) (hDown x6) (aG (hRows x0) (hUp x3)) R.val k
      = val_main_v48 (F := Ideal) x0 x1 x2 x3 x4 x5 x6 (ix2 R k) := by
  have hs : ∑ d : Fin 4, ∑ n : Fin 704, uAt (hTaps x4) (hBias x5) (aG (hRows x0) (hUp x3)) d R.val n * hDown x6 (ix3 d n k)
      = ∑ q : Fin 2816, val_main_v44 (F := Ideal) x0 x3 x4 x5 (ix2 R q) * x6 (ix3 0 q k) := by
    refine Eq.trans ?_ (Fin.sum_mul_add_fin 4 704 fun q : Fin 2816 => val_main_v44 (F := Ideal) x0 x3 x4 x5 (ix2 R q) * x6 (ix3 0 q k))
    refine Finset.sum_congr rfl fun d _ => Finset.sum_congr rfl fun n _ => ?_
    rw [u_eq, hDown_apply]
  unfold errAt
  rw [hs, v48_apply, sub_eq_add_neg, sub_eq_add_neg, add_right_comm]

end Numbers

variable (m : (ℓ : Loc nD τ sig) → Buf (Elt Ideal) ℓ) (c : Dev nD)

theorem aV_eq : aV m c = aG (hRows (m ((c : Thread nD τ).loc main_arg0))) (hUp (m ((c : Thread nD τ).loc main_arg3))) := by
  unfold aV
  rw [V_rows, V_up]

theorem errV_eq (R : Fin 8192) (k : Fin 1024) : errV m c R k = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R k) := by
  unfold errV
  rw [V_taps, V_bias, V_down, aV_eq, V_main_arg1, V_main_arg2]
  exact err_eq _ _ _ _ _ _ _ R k

theorem G7_eq : G7 m c = val_main_v51 (F := Ideal) (m ((c : Thread nD τ).loc main_arg0)) (m ((c : Thread nD τ).loc main_arg3)) := by
  funext y
  obtain ⟨j, R, n, rfl⟩ : ∃ (j : Fin 8) (R : Fin 8192) (n : Fin 704), y = ix3 j R n := ⟨y 0, y 1, y 2, eq_ix3 y⟩
  show aV m c j (R.val + 8) n = _
  rw [aV_eq, v51_apply]
  refine (a_eq _ _ j ⟨R.val + 2, by omega⟩ n).trans ?_
  rw [v5_apply, dif_neg (show ¬R.val + 2 < 2 by omega)]
  rfl

theorem G8_eq : G8 m c = val_main_v54 (F := Ideal) (m ((c : Thread nD τ).loc main_arg0)) (m ((c : Thread nD τ).loc main_arg3)) (m ((c : Thread nD τ).loc main_arg4)) (m ((c : Thread nD τ).loc main_arg5)) := by
  funext y
  obtain ⟨d, R, n, rfl⟩ : ∃ (d : Fin 4) (R : Fin 8192) (n : Fin 704), y = ix3 d R n := ⟨y 0, y 1, y 2, eq_ix3 y⟩
  show uAt (V m c main_v7) (V m c main_v8) (aV m c) d R.val n = _
  rw [V_taps, V_bias, aV_eq, v54_apply]
  exact u_eq _ _ _ _ d R n

theorem G10_eq : G10 m c = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨R, k, rfl⟩ : ∃ (R : Fin 8192) (k : Fin 1024), y = ix2 R k := ⟨y 0, y 1, eq_ix2 y⟩
  rw [v56_apply, ← errV_eq]
  rfl

theorem G11_eq : G11 m c = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨p, q, rfl⟩ : ∃ (p : Fin 8) (q : Fin 128), y = ix2 p q := ⟨y 0, y 1, eq_ix2 y⟩
  rw [v60_apply]
  simp only [← errV_eq]
  exact congrArg (Ideal.ofBits .f32 0x3A000000#32 * ·) Finset.sum_comm

end Cert.Fwd

end
-- ==== Proof.Fwd.Final.lean ====
module

public import proofs.«01_k».proof.Proof.Fwd.Value
public import proofs.«01_k».proof.Defs
public import proofs.«01_k».proof.Proof.Gen.FwdKernelIdeal.Value
public import proofs.«01_k».proof.Proof.Gen.FwdKernel.Frame
public import proofs.«01_k».proof.Proof.Gen.FwdReferenceIdeal.Run
public import Idealize.ShloMosaic.Adequacy
public import Idealize.ShloMosaic.Init

@[expose] public section

set_option maxRecDepth 16384

noncomputable section

namespace Cert.Fwd

open Idealize.ShloMosaic Idealize.ShloMosaic.TcCoe Idealize.ShloMosaic.StableHlo Idealize.SL.Sem

/-! The statements about the gated MLP's forward call. -/

/-- The reference ends with its arguments kept and no semaphore held. -/
theorem reference_kept (m : (ℓ : Loc Cert.FwdReferenceIdeal.nD Cert.FwdReferenceIdeal.τ Cert.FwdReferenceIdeal.sig) → Buf (Elt Ideal) ℓ) (g : Dev Cert.FwdReferenceIdeal.nD → PrngReg) :
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6))
      ∧ r.2.sem = fun _ => 0) :=
  (θ_run Cert.FwdReferenceIdeal.defs _ _).mono (fun r h => ⟨fun c => (h c).2.2.2.2, sem_eq_zero_of_no_sems (by decide) r.2⟩)
    (Cert.FwdReferenceIdeal.Value.run (F := Ideal) m g)

/-- The kernel's run on the ideal numbers and the reference's run end with equal results. -/
theorem equal_results : Cert.algebraic_FwdKernelIdeal_FwdReferenceIdeal := by
  intro m g m' g' _ hag
  refine ⟨fun c => G7 m c, fun c => G8 m c, fun c => G10 m c, fun c => G11 m c, ?_, ?_⟩
  · refine (θ_run Cert.FwdKernelIdeal.defs _ _).mono (fun r h c => ?_) (Cert.FwdKernelIdeal.Value.run_blocks (F := Ideal) m g)
    obtain ⟨h0, h1, h2, h3, h4, hk⟩ := h c
    exact ⟨h0.trans (arr7 m c), h1.trans (arr8 m c), h3.trans (arr10 m c), h4.trans (arr11 m c), hk⟩
  · refine (θ_run Cert.FwdReferenceIdeal.defs _ _).mono (fun r h c => ?_) (Cert.FwdReferenceIdeal.Value.run (F := Ideal) m' g')
    obtain ⟨h0, h1, h2, h3, hk⟩ := h c
    obtain ⟨a0, a1, a2, a3, a4, a5, a6⟩ := hag c
    refine ⟨h0.trans ((Cert.FwdReferenceIdeal.Read.val_main_v51_eq _ _).trans (Eq.trans ?_ (G7_eq m c).symm)),
      h1.trans ((Cert.FwdReferenceIdeal.Read.val_main_v54_eq m' c).trans (Eq.trans ?_ (G8_eq m c).symm)),
      h2.trans ((Cert.FwdReferenceIdeal.Read.val_main_v56_eq m' c).trans (Eq.trans ?_ (G10_eq m c).symm)),
      h3.trans ((Cert.FwdReferenceIdeal.Read.val_main_v60_eq m' c).trans (Eq.trans ?_ (G11_eq m c).symm)), hk⟩
    all_goals simp only [a0, a1, a2, a3, a4, a5, a6]

end Cert.Fwd

end
-- ==== Proof.Xa.Words.lean ====
module

public import proofs.«01_k».proof.Proof.Gen.XaKernelIdeal.Skeleton
public import Idealize.ShloMosaic.Lib.Pointwise

@[expose] public section

set_option synthInstance.maxSize 4096

noncomputable section

/-! One head of the attention over the memory, in steps, and the vectors around it, each read at an index. -/

namespace Cert.Xa

open Idealize.ShloMosaic Cert.XaKernelIdeal Cert.XaKernelIdeal.Gen

/-- The inverse root of a head's mean square plus a little. -/
def rinvAt (x : Fin 256 → EReal) : EReal :=
  Ideal.rsqrt (Ideal.div (∑ k, x k * x k) (Ideal.ofBits .f32 0x43800000#32) + Ideal.ofBits .f32 0x358637BD#32)

/-- A head's score against one slot of the memory. -/
def scAt (x w k : Fin 256 → EReal) : EReal := (∑ j, x j * rinvAt x * w j * k j) * Ideal.ofBits .f32 0x3D800000#32

/-- The largest score. -/
def topAt (s : Fin 256 → EReal) : EReal := Finset.univ.fold max (Ideal.ofBits .f32 0xFF800000#32) s

/-- The exponential of a score under the largest. -/
def expAt (s : Fin 256 → EReal) (m : Fin 256) : EReal := Ideal.exp (s m - topAt s)

/-- A score's share, by the inverse of the sum. -/
def shareAt (s : Fin 256 → EReal) (m : Fin 256) : EReal := expAt s m * Ideal.div (Ideal.ofBits .f32 0x3F800000#32) (∑ l, expAt s l)

/-- A head's output. -/
def headAt (x w : Fin 256 → EReal) (k v : Fin 256 → Fin 256 → EReal) (e : Fin 256) : EReal :=
  ∑ m, shareAt (fun m => scAt x w (k m)) m * v m e

/-- The inverse root of a row's mean square plus a little. -/
def rowInv (x : Fin 1024 → EReal) : EReal :=
  Ideal.rsqrt (Ideal.div (∑ k, x k * x k) (Ideal.ofBits .f32 0x44800000#32) + Ideal.ofBits .f32 0x358637BD#32)

/-- A head's normed queries. -/
def wQ (q : FVec Ideal S512x256 .f32) (w : FVec Ideal S1x256 .f32) : FVec Ideal S512x256 .bf16 :=
  truncf .bf16 (mulf (mulf q (broadcastTo S512x256 (rsqrt (addf (divf (shapeCast S512x1 (multiReduction .add [1] S512 (mulf q q) 0x00000000#32
    reduces_S512x256_S512 (.inl rfl) rfl) shapeCasts_S512_S512x1) (broadcast S512x1 (Scalar.ofBits .f32 0x43800000#32)))
    (broadcast S512x1 (Scalar.ofBits .f32 0x358637BD#32)))) broadcasts_S512x1_S512x256)) (broadcastTo S512x256 w broadcasts_S1x256_S512x256)) bitsLt_bf16_f32

/-- The scores of normed queries. -/
def wS (n : FVec Ideal S512x256 .bf16) (k : FVec Ideal S256x256 .bf16) : FVec Ideal S512x256 .f32 :=
  mulf (matmul dot_S512x256_S256x256_S512x256_1_1_0_0_n_n none n (shapeCast S256x256 k shapeCasts_S256x256_S256x256)
    (constant S512x256 .f32 0x00000000#32)) (broadcast S512x256 (Scalar.ofBits .f32 0x3D800000#32))

/-- Exponentials of the scores under the largest. -/
def wE (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The shares of exponentials. -/
def wP (x : FVec Ideal S512x256 .f32) : FVec Ideal S512x256 .bf16 :=
  truncf .bf16 (mulf x (broadcastTo S512x256 (divf (broadcast S512x1 (Scalar.ofBits .f32 0x3F800000#32)) (shapeCast S512x1 (multiReduction .add [1] S512 x
    0x00000000#32 reduces_S512x256_S512 (.inl rfl) rfl) shapeCasts_S512_S512x1)) broadcasts_S512x1_S512x256)) bitsLt_bf16_f32

/-- The values under the shares. -/
def wO (p : FVec Ideal S512x256 .bf16) (v : FVec Ideal S256x256 .bf16) : FVec Ideal S512x256 .f32 :=
  matmul dot_S512x256_S256x256_S512x256_1_0_0_1_n_n none p (shapeCast S256x256 v shapeCasts_S256x256_S256x256) (constant S512x256 .f32 0x00000000#32)

/-- Four heads side by side. -/
def wCat4 (a b c d : FVec Ideal S512x256 .f32) : FVec Ideal S512x1024 .bf16 :=
  truncf .bf16 (concatenate S512x1024 1 [⟨S512x256, a⟩, ⟨S512x256, b⟩, ⟨S512x256, c⟩, ⟨S512x256, d⟩]
    concatenates_S512x256_S512x256_S512x256_S512x256_S512x1024_d1) bitsLt_bf16_f32

/-- Rows times the output weights, added to the residual stream. -/
def wRes (o : FVec Ideal S512x1024 .bf16) (x : FVec Ideal S512x1024 .f32) (w : FVec Ideal S1024x1024 .bf16) : FVec Ideal S512x1024 .f32 :=
  addf x (matmul dot_S512x1024_S1024x1024_S512x1024_1_0_0_1_n_n none o (shapeCast S1024x1024 w shapeCasts_S1024x1024_S1024x1024)
    (constant S512x1024 .f32 0x00000000#32))

/-- The sums of the rows' squares. -/
def wSq (x : FVec Ideal S512x1024 .f32) : FVec Ideal S512x1 .f32 :=
  shapeCast S512x1 (multiReduction .add [1] S512 (mulf x x) 0x00000000#32 reduces_S512x1024_S512 (.inl rfl) rfl) shapeCasts_S512_S512x1

theorem wQ_apply (q : FVec Ideal S512x256 .f32) (w : FVec Ideal S1x256 .f32) (r : Fin 512) (j : Fin 256) :
    wQ q w (ix2 r j) = q (ix2 r j) * rinvAt (fun j => q (ix2 r j)) * w (ix2 0 j) := by
  unfold rinvAt
  pointwise [wQ]

theorem wS_apply (n : FVec Ideal S512x256 .bf16) (k : FVec Ideal S256x256 .bf16) (r : Fin 512) (m : Fin 256) :
    wS n k (ix2 r m) = (∑ j : Fin 256, n (ix2 r j) * k (ix2 m j)) * Ideal.ofBits .f32 0x3D800000#32 := by
  pointwise [wS, dot_S512x256_S256x256_S512x256_1_1_0_0_n_n]

theorem wE_apply (s : FVec Ideal S512x256 .f32) (r : Fin 512) (m : Fin 256) : wE s (ix2 r m) = expAt (fun m => s (ix2 r m)) m := by
  unfold expAt topAt
  pointwise [wE]

theorem wP_apply (x : FVec Ideal S512x256 .f32) (r : Fin 512) (m : Fin 256) :
    wP x (ix2 r m) = x (ix2 r m) * Ideal.div (Ideal.ofBits .f32 0x3F800000#32) (∑ l : Fin 256, x (ix2 r l)) := by
  pointwise [wP]

theorem wO_apply (p : FVec Ideal S512x256 .bf16) (v : FVec Ideal S256x256 .bf16) (r : Fin 512) (e : Fin 256) :
    wO p v (ix2 r e) = ∑ m : Fin 256, p (ix2 r m) * v (ix2 m e) := by
  pointwise [wO, dot_S512x256_S256x256_S512x256_1_0_0_1_n_n]

theorem head_eq (q : FVec Ideal S512x256 .f32) (w : FVec Ideal S1x256 .f32) (k v : FVec Ideal S256x256 .bf16) :
    k0_pay7 (F := Ideal) q w k v = wO (wP (wE (wS (wQ q w) k))) v := rfl

/-- One head at an entry. -/
theorem head_apply (q : FVec Ideal S512x256 .f32) (w : FVec Ideal S1x256 .f32) (k v : FVec Ideal S256x256 .bf16) (r : Fin 512) (e : Fin 256) :
    k0_pay7 (F := Ideal) q w k v (ix2 r e)
      = headAt (fun j => q (ix2 r j)) (fun j => w (ix2 0 j)) (fun m j => k (ix2 m j)) (fun m e => v (ix2 m e)) e := by
  have hs : (fun m => wS (wQ q w) k (ix2 r m)) = fun m => scAt (fun j => q (ix2 r j)) (fun j => w (ix2 0 j)) (fun j => k (ix2 m j)) := by
    funext m
    rw [wS_apply]
    simp only [wQ_apply]
    rfl
  rw [head_eq, wO_apply]
  simp only [wP_apply, wE_apply, hs]
  rfl

/-- The column that a head's column is. -/
def hc (h : Fin 4) (j : Fin 256) : Fin 1024 := ⟨256 * h.val + j.val, by omega⟩

theorem wCat4_apply (a : Fin 4 → FVec Ideal S512x256 .f32) (r : Fin 512) (h : Fin 4) (e : Fin 256) :
    wCat4 (a 0) (a 1) (a 2) (a 3) (ix2 r (hc h e)) = a h (ix2 r e) := by
  fin_cases h <;> (unfold hc; pointwise [wCat4])
  · rw [dif_neg (by omega), dif_neg (by omega), dif_pos (by omega)]
    exact congrArg (fun q => a 2 (ix2 r q)) (Fin.ext (by show 512 + e.val - 256 - 256 = e.val; omega))
  · rw [dif_neg (by omega), dif_neg (by omega), dif_neg (by omega)]
    exact congrArg (fun q => a 3 (ix2 r q)) (Fin.ext (by show 768 + e.val - 256 - 256 - 256 = e.val; omega))

theorem last_eq (v40 v75 v110 : FVec Ideal S512x256 .f32) (v4 : FVec Ideal S512x1024 .f32) (w : FVec Ideal S1x256 .f32) (k v : FVec Ideal S256x256 .bf16) :
    k0_pay11 (F := Ideal) v40 v75 v110 (k0_pay8 v4) w (k0_pay9 k) (k0_pay10 v4) v = wCat4 v40 v75 v110 (k0_pay7 (F := Ideal) (k0_pay8 v4) w k v) := rfl

theorem wRes_apply (o : FVec Ideal S512x1024 .bf16) (x : FVec Ideal S512x1024 .f32) (w : FVec Ideal S1024x1024 .bf16) (r : Fin 512) (c : Fin 1024) :
    wRes o x w (ix2 r c) = x (ix2 r c) + ∑ k : Fin 1024, o (ix2 r k) * w (ix2 k c) := by
  pointwise [wRes, dot_S512x1024_S1024x1024_S512x1024_1_0_0_1_n_n]

theorem query_apply (x : FVec Ideal S512x1024 .bf16) (w : FVec Ideal S1024x1024 .bf16) (r : Fin 512) (c : Fin 1024) :
    k0_pay2 (F := Ideal) x w (ix2 r c) = ∑ k : Fin 1024, x (ix2 r k) * w (ix2 k c) := by
  pointwise [k0_pay2, dot_S512x1024_S1024x1024_S512x1024_1_0_0_1_n_n]

theorem norm_apply (x : FVec Ideal S512x1024 .f32) (g : FVec Ideal S1x1024 .f32) (r : Fin 512) (c : Fin 1024) :
    k0_pay1 (F := Ideal) x (wSq x) (Scalar.ofBits .f32 0x44800000#32) g (ix2 r c)
      = x (ix2 r c) * rowInv (fun c => x (ix2 r c)) * g (ix2 0 c) := by
  unfold rowInv
  pointwise [k0_pay1, wSq]

end Cert.Xa

end
-- ==== Proof.Xa.Block.lean ====
module

public import proofs.«01_k».proof.Proof.Gen.XaKernelIdeal.Frame
public import proofs.«01_k».proof.Proof.Xa.Words
public import Idealize.ShloMosaic.Lib.Pipeline.ValueKit

@[expose] public section

set_option maxRecDepth 16384

noncomputable section

namespace Cert.Xa

open Idealize.ShloMosaic Idealize.ShloMosaic.TcCoe Idealize.ShloMosaic.Tactic Cert.XaKernelIdeal Cert.XaKernelIdeal.Gen

/-! What a grid point leaves in its four blocks. A head is written once, for any of the four. -/

/-- The head of a column, and the column within it. -/
def hd (c : Fin 1024) : Fin 4 := ⟨c.val / 256, by omega⟩
def en (c : Fin 1024) : Fin 256 := ⟨c.val % 256, by omega⟩

theorem hc_hd (c : Fin 1024) : hc (hd c) (en c) = c := Fin.ext (by show 256 * (c.val / 256) + c.val % 256 = c.val; omega)
theorem hd_hc (h : Fin 4) (e : Fin 256) : hd (hc h e) = h := Fin.ext (by show (256 * h.val + e.val) / 256 = h.val; omega)
theorem en_hc (h : Fin 4) (e : Fin 256) : en (hc h e) = e := Fin.ext (by show (256 * h.val + e.val) % 256 = e.val; omega)

/-- A row of queries. -/
def qRow (x : Fin 1024 → EReal) (w : Vec Ideal S1024x1024 .bf16) (c : Fin 1024) : EReal := ∑ k : Fin 1024, x k * w (ix2 k c)

/-- A row of the heads' output. -/
def oRow (q : Fin 1024 → EReal) (g : Vec Ideal S1x1024 .f32) (k v : Vec Ideal S256x1024 .bf16) (c : Fin 1024) : EReal :=
  headAt (fun j => q (hc (hd c) j)) (fun j => g (ix2 0 (hc (hd c) j))) (fun m j => k (ix2 m (hc (hd c) j))) (fun m e => v (ix2 m (hc (hd c) e))) (en c)

/-- A row of the residual stream after the heads. -/
def xRow (x o : Fin 1024 → EReal) (w : Vec Ideal S1024x1024 .bf16) (c : Fin 1024) : EReal := x c + ∑ k : Fin 1024, o k * w (ix2 k c)

/-- A normed row. -/
def nRow (x : Fin 1024 → EReal) (g : Vec Ideal S1x1024 .f32) (c : Fin 1024) : EReal := x c * rowInv x * g (ix2 0 c)

theorem sl_q (h : Fin 4) : S512x1024.Slices ![0, 256 * h.val] S512x256 := by revert h; decide
theorem in_g (h : Fin 4) : ∀ a, (![0, 256 * h.val] : Fin 2 → ℕ) a + S1x256.size a ≤ S1x1024.size a := by revert h; decide
theorem in_m (h : Fin 4) : ∀ a, (![0, 256 * h.val] : Fin 2 → ℕ) a + S256x256.size a ≤ S256x1024.size a := by revert h; decide

variable (x0 : Vec Ideal S512x1024 .bf16) (x1 : Vec Ideal S512x1024 .f32) (x2 : Vec Ideal S1024x1024 .bf16) (x3 : Vec Ideal S1x1024 .f32)
  (x4 x5 : Vec Ideal S256x1024 .bf16) (x6 : Vec Ideal S1024x1024 .bf16) (x7 : Vec Ideal S1x1024 .f32)

/-- The queries of the block. -/
def bQ : FVec Ideal S512x1024 .f32 := k0_pay2 (F := Ideal) (View.ld x0 r0_0) (View.ld x2 r0_1)

/-- One head of the block. -/
def bHead (h : Fin 4) : FVec Ideal S512x256 .f32 :=
  k0_pay7 (F := Ideal) (extractStridedSlice S512x256 ![0, 256 * h.val] (bQ x0 x2) (sl_q h)) (View.ld x3 (Rect.unit ![0, 256 * h.val] ![1, 256] (in_g h)))
    (View.ld x4 (Rect.unit ![0, 256 * h.val] ![256, 256] (in_m h))) (View.ld x5 (Rect.unit ![0, 256 * h.val] ![256, 256] (in_m h)))

/-- The heads side by side. -/
def bO : FVec Ideal S512x1024 .bf16 := wCat4 (bHead x0 x2 x3 x4 x5 0) (bHead x0 x2 x3 x4 x5 1) (bHead x0 x2 x3 x4 x5 2) (bHead x0 x2 x3 x4 x5 3)

/-- The residual stream after them. -/
def bX : FVec Ideal S512x1024 .f32 := wRes (bO x0 x2 x3 x4 x5) (View.ld x1 r0_0) (View.ld x6 r0_1)

theorem zero2 : (![0, 0] : Fin 2 → ℕ) = fun _ => 0 := by decide

theorem out8_eq : out0_8 (F := Ideal) x0 x1 x2 x3 x4 x5 x6 x7 = bQ x0 x2 := by
  unfold out0_8
  exact View.canon_unit_zero zero2 _ _

theorem out9_eq : out0_9 (F := Ideal) x0 x1 x2 x3 x4 x5 x6 x7 = bO x0 x2 x3 x4 x5 := by
  unfold out0_9
  exact View.canon_unit_zero zero2 _ _

theorem out10_eq : out0_10 (F := Ideal) x0 x1 x2 x3 x4 x5 x6 x7 = bX x0 x1 x2 x3 x4 x5 x6 := by
  unfold out0_10
  exact View.canon_unit_zero zero2 _ _

theorem out11_eq : out0_11 (F := Ideal) x0 x1 x2 x3 x4 x5 x6 x7
    = k0_pay1 (F := Ideal) (bX x0 x1 x2 x3 x4 x5 x6) (wSq (bX x0 x1 x2 x3 x4 x5 x6)) (Scalar.ofBits .f32 0x44800000#32) (View.ld x7 r0_10) := by
  unfold out0_11
  exact View.canon_unit_zero zero2 _ _

theorem bQ_apply (r : Fin 512) (c : Fin 1024) : bQ x0 x2 (ix2 r c) = qRow (fun k => x0 (ix2 r k)) x2 c := by
  unfold bQ
  rw [query_apply, View.ld_unit_zero zero2, View.ld_unit_zero zero2]
  rfl

theorem bHead_apply (h : Fin 4) (r : Fin 512) (e : Fin 256) :
    bHead x0 x2 x3 x4 x5 h (ix2 r e) = oRow (qRow (fun k => x0 (ix2 r k)) x2) x3 x4 x5 (hc h e) := by
  have eq : ∀ j : Fin 256, extractStridedSlice S512x256 ![0, 256 * h.val] (bQ x0 x2) (sl_q h) (ix2 r j) = qRow (fun k => x0 (ix2 r k)) x2 (hc h j) := by
    intro j
    rw [← bQ_apply]
    generalize bQ x0 x2 = y
    unfold hc
    pointwise
  have eg : ∀ j : Fin 256, View.ld x3 (Rect.unit ![0, 256 * h.val] ![1, 256] (in_g h)) (ix2 0 j) = x3 (ix2 0 (hc h j)) := by
    intro j
    unfold hc
    pointwise
  have em : ∀ (x : Vec Ideal S256x1024 .bf16) (m j : Fin 256), View.ld x (Rect.unit ![0, 256 * h.val] ![256, 256] (in_m h)) (ix2 m j) = x (ix2 m (hc h j)) := by
    intro x m j
    unfold hc
    pointwise
  unfold bHead oRow
  rw [head_apply, hd_hc, en_hc]
  simp only [eq, eg]
  congr 1 <;> (funext m j; exact em _ m j)

theorem bO_apply (r : Fin 512) (c : Fin 1024) : bO x0 x2 x3 x4 x5 (ix2 r c) = oRow (qRow (fun k => x0 (ix2 r k)) x2) x3 x4 x5 c := by
  rw [← hc_hd c, ← bHead_apply]
  exact wCat4_apply (bHead x0 x2 x3 x4 x5) r _ _

theorem bX_apply (r : Fin 512) (c : Fin 1024) : bX x0 x1 x2 x3 x4 x5 x6 (ix2 r c)
    = xRow (fun c => x1 (ix2 r c)) (oRow (qRow (fun k => x0 (ix2 r k)) x2) x3 x4 x5) x6 c := by
  unfold bX
  rw [wRes_apply, View.ld_unit_zero zero2, View.ld_unit_zero zero2]
  simp only [bO_apply]
  rfl

theorem out8_apply (r : Fin 512) (c : Fin 1024) : out0_8 (F := Ideal) x0 x1 x2 x3 x4 x5 x6 x7 (ix2 r c) = qRow (fun k => x0 (ix2 r k)) x2 c := by
  rw [out8_eq, bQ_apply]

theorem out9_apply (r : Fin 512) (c : Fin 1024) : out0_9 (F := Ideal) x0 x1 x2 x3 x4 x5 x6 x7 (ix2 r c)
    = oRow (qRow (fun k => x0 (ix2 r k)) x2) x3 x4 x5 c := by
  rw [out9_eq, bO_apply]

theorem out10_apply (r : Fin 512) (c : Fin 1024) : out0_10 (F := Ideal) x0 x1 x2 x3 x4 x5 x6 x7 (ix2 r c)
    = xRow (fun c => x1 (ix2 r c)) (oRow (qRow (fun k => x0 (ix2 r k)) x2) x3 x4 x5) x6 c := by
  rw [out10_eq, bX_apply]

theorem out11_apply (r : Fin 512) (c : Fin 1024) : out0_11 (F := Ideal) x0 x1 x2 x3 x4 x5 x6 x7 (ix2 r c)
    = nRow (xRow (fun c => x1 (ix2 r c)) (oRow (qRow (fun k => x0 (ix2 r k)) x2) x3 x4 x5) x6) x7 c := by
  rw [out11_eq, norm_apply, View.ld_unit_zero zero2]
  simp only [bX_apply]
  rfl

end Cert.Xa

end
-- ==== Proof.Xa.Blocks.lean ====
module

public import proofs.«01_k».proof.Proof.Gen.XaKernelIdeal.Frame
public import Idealize.ShloMosaic.Lib.Pipeline.ValueKit

@[expose] public section

set_option maxRecDepth 16384

noncomputable section

namespace Cert.Xa

open Idealize.ShloMosaic Idealize.ShloMosaic.TcCoe Idealize.ShloMosaic.Tactic Cert.XaKernelIdeal Cert.XaKernelIdeal.Gen Idealize.SL.Sem

/-! The blocks that a grid point reads and writes, as entries of the whole arrays. -/

/-- Row `r` of the block of rows at point `t`. -/
def row (t : Fin cfg0.N) (r : Fin 512) : Fin 8192 :=
  ⟨512 * t.val + r.val, by have h : cfg0.N = 16 := N_0; have := t.isLt; have := r.isLt; omega⟩

/-- A block of the normed rows. -/
theorem read0 (c : Dev nD) (A : Buf (Elt Ideal) ((c : Thread nD τ).loc (Pipeline.arrRef spec0 0))) (t : Fin cfg0.N) (r : Fin 512) (k : Fin 1024) :
    ((cfg0.win 0).blk t).view.read (Elt Ideal) A (ix2 r k) = A (ix2 (row t r) k) := by
  have idx : ∀ t : Fin grid0.N, win0_0.index t = ![t.val, 0] := by decide +kernel
  unfold row
  blk_ext [idx t]

/-- A block of the residual stream. -/
theorem read1 (c : Dev nD) (A : Buf (Elt Ideal) ((c : Thread nD τ).loc (Pipeline.arrRef spec0 1))) (t : Fin cfg0.N) (r : Fin 512) (k : Fin 1024) :
    ((cfg0.win 1).blk t).view.read (Elt Ideal) A (ix2 r k) = A (ix2 (row t r) k) := by
  have idx : ∀ t : Fin grid0.N, win0_1.index t = ![t.val, 0] := by decide +kernel
  unfold row
  blk_ext [idx t]

/-- One block holds all of the query weights. -/
theorem read2 (c : Dev nD) (A : Buf (Elt Ideal) ((c : Thread nD τ).loc (Pipeline.arrRef spec0 2))) (t : Fin cfg0.N) (a : Fin 1024) (b : Fin 1024) :
    ((cfg0.win 2).blk t).view.read (Elt Ideal) A (ix2 a b) = A (ix2 a b) := by
  have idx : ∀ t : Fin grid0.N, win0_2.index t = ![0, 0] := by decide +kernel
  blk_ext [idx t]

/-- One block holds all of the gains. -/
theorem read3 (c : Dev nD) (A : Buf (Elt Ideal) ((c : Thread nD τ).loc (Pipeline.arrRef spec0 3))) (t : Fin cfg0.N) (a : Fin 1) (b : Fin 1024) :
    ((cfg0.win 3).blk t).view.read (Elt Ideal) A (ix2 a b) = A (ix2 a b) := by
  have idx : ∀ t : Fin grid0.N, win0_3.index t = ![0, 0] := by decide +kernel
  blk_ext [idx t]

/-- One block holds all of the keys. -/
theorem read4 (c : Dev nD) (A : Buf (Elt Ideal) ((c : Thread nD τ).loc (Pipeline.arrRef spec0 4))) (t : Fin cfg0.N) (a : Fin 256) (b : Fin 1024) :
    ((cfg0.win 4).blk t).view.read (Elt Ideal) A (ix2 a b) = A (ix2 a b) := by
  have idx : ∀ t : Fin grid0.N, win0_4.index t = ![0, 0] := by decide +kernel
  blk_ext [idx t]

/-- One block holds all of the values. -/
theorem read5 (c : Dev nD) (A : Buf (Elt Ideal) ((c : Thread nD τ).loc (Pipeline.arrRef spec0 5))) (t : Fin cfg0.N) (a : Fin 256) (b : Fin 1024) :
    ((cfg0.win 5).blk t).view.read (Elt Ideal) A (ix2 a b) = A (ix2 a b) := by
  have idx : ∀ t : Fin grid0.N, win0_5.index t = ![0, 0] := by decide +kernel
  blk_ext [idx t]

/-- One block holds all of the output weights. -/
theorem read6 (c : Dev nD) (A : Buf (Elt Ideal) ((c : Thread nD τ).loc (Pipeline.arrRef spec0 6))) (t : Fin cfg0.N) (a : Fin 1024) (b : Fin 1024) :
    ((cfg0.win 6).blk t).view.read (Elt Ideal) A (ix2 a b) = A (ix2 a b) := by
  have idx : ∀ t : Fin grid0.N, win0_6.index t = ![0, 0] := by decide +kernel
  blk_ext [idx t]

/-- One block holds all of the last gain. -/
theorem read7 (c : Dev nD) (A : Buf (Elt Ideal) ((c : Thread nD τ).loc (Pipeline.arrRef spec0 7))) (t : Fin cfg0.N) (a : Fin 1) (b : Fin 1024) :
    ((cfg0.win 7).blk t).view.read (Elt Ideal) A (ix2 a b) = A (ix2 a b) := by
  have idx : ∀ t : Fin grid0.N, win0_7.index t = ![0, 0] := by decide +kernel
  blk_ext [idx t]

/-- A block of the queries. -/
theorem read8 (c : Dev nD) (A : Buf (Elt Ideal) ((c : Thread nD τ).loc (Pipeline.arrRef spec0 8))) (t : Fin cfg0.N) (r : Fin 512) (k : Fin 1024) :
    ((cfg0.win 8).blk t).view.read (Elt Ideal) A (ix2 r k) = A (ix2 (row t r) k) := by
  have idx : ∀ t : Fin grid0.N, win0_8.index t = ![t.val, 0] := by decide +kernel
  unfold row
  blk_ext [idx t]

/-- A block of the output of the heads. -/
theorem read9 (c : Dev nD) (A : Buf (Elt Ideal) ((c : Thread nD τ).loc (Pipeline.arrRef spec0 9))) (t : Fin cfg0.N) (r : Fin 512) (k : Fin 1024) :
    ((cfg0.win 9).blk t).view.read (Elt Ideal) A (ix2 r k) = A (ix2 (row t r) k) := by
  have idx : ∀ t : Fin grid0.N, win0_9.index t = ![t.val, 0] := by decide +kernel
  unfold row
  blk_ext [idx t]

/-- A block of the new residual stream. -/
theorem read10 (c : Dev nD) (A : Buf (Elt Ideal) ((c : Thread nD τ).loc (Pipeline.arrRef spec0 10))) (t : Fin cfg0.N) (r : Fin 512) (k : Fin 1024) :
    ((cfg0.win 10).blk t).view.read (Elt Ideal) A (ix2 r k) = A (ix2 (row t r) k) := by
  have idx : ∀ t : Fin grid0.N, win0_10.index t = ![t.val, 0] := by decide +kernel
  unfold row
  blk_ext [idx t]

/-- A block of the new normed rows. -/
theorem read11 (c : Dev nD) (A : Buf (Elt Ideal) ((c : Thread nD τ).loc (Pipeline.arrRef spec0 11))) (t : Fin cfg0.N) (r : Fin 512) (k : Fin 1024) :
    ((cfg0.win 11).blk t).view.read (Elt Ideal) A (ix2 r k) = A (ix2 (row t r) k) := by
  have idx : ∀ t : Fin grid0.N, win0_11.index t = ![t.val, 0] := by decide +kernel
  unfold row
  blk_ext [idx t]

variable (m : (ℓ : Loc nD τ sig) → Buf (Elt Ideal) ℓ) (c : Dev nD) (t : Fin cfg0.N)

theorem iblk0_apply (r : Fin 512) (k : Fin 1024) : iblk m c 0 t (ix2 r k) = V m c main_v3 (ix2 (row t r) k) := read0 c (V m c main_v3) t r k

theorem iblk1_apply (r : Fin 512) (k : Fin 1024) : iblk m c 1 t (ix2 r k) = V m c main_arg1 (ix2 (row t r) k) := read1 c (V m c main_arg1) t r k

theorem iblk2_eq : (iblk m c 2 t : Vec Ideal S1024x1024 .bf16) = V m c main_v5 := by
  funext y
  rw [eq_ix2 y]
  exact read2 c (V m c main_v5) t _ _

theorem iblk3_eq : (iblk m c 3 t : Vec Ideal S1x1024 .f32) = V m c main_v2 := by
  funext y
  rw [eq_ix2 y]
  exact read3 c (V m c main_v2) t _ _

theorem iblk4_eq : (iblk m c 4 t : Vec Ideal S256x1024 .bf16) = V m c main_v6 := by
  funext y
  rw [eq_ix2 y]
  exact read4 c (V m c main_v6) t _ _

theorem iblk5_eq : (iblk m c 5 t : Vec Ideal S256x1024 .bf16) = V m c main_v7 := by
  funext y
  rw [eq_ix2 y]
  exact read5 c (V m c main_v7) t _ _

theorem iblk6_eq : (iblk m c 6 t : Vec Ideal S1024x1024 .bf16) = V m c main_v9 := by
  funext y
  rw [eq_ix2 y]
  exact read6 c (V m c main_v9) t _ _

theorem iblk7_eq : (iblk m c 7 t : Vec Ideal S1x1024 .f32) = V m c main_arg7 := by
  funext y
  rw [eq_ix2 y]
  exact read7 c (V m c main_arg7) t _ _

end Cert.Xa

end
-- ==== Proof.Xa.Rows.lean ====
module

public import proofs.«01_k».proof.Proof.Xa.Block
public import proofs.«01_k».proof.Proof.Xa.Blocks

@[expose] public section

set_option maxRecDepth 16384

noncomputable section

namespace Cert.Xa

open Idealize.ShloMosaic Idealize.ShloMosaic.TcCoe Idealize.ShloMosaic.Tactic Cert.XaKernelIdeal Cert.XaKernelIdeal.Gen Idealize.SL.Sem

/-! The four arrays after the run. -/

variable (m : (ℓ : Loc nD τ sig) → Buf (Elt Ideal) ℓ) (c : Dev nD)

/-- The queries of a row. -/
def qV (R : Fin 8192) : Fin 1024 → EReal := qRow (fun k => V m c main_v3 (ix2 R k)) (V m c main_v5)

/-- The heads' output of a row. -/
def oV (R : Fin 8192) : Fin 1024 → EReal := oRow (qV m c R) (V m c main_v2) (V m c main_v6) (V m c main_v7)

/-- The residual stream of a row after the heads. -/
def xV (R : Fin 8192) : Fin 1024 → EReal := xRow (fun k => V m c main_arg1 (ix2 R k)) (oV m c R) (V m c main_v9)

/-- That row normed. -/
def nV (R : Fin 8192) : Fin 1024 → EReal := nRow (xV m c R) (V m c main_arg7)

theorem q_row (t : Fin cfg0.N) (r : Fin 512) : qRow (fun k => iblk m c 0 t (ix2 r k)) (iblk m c 2 t) = qV m c (row t r) := by
  unfold qV
  rw [iblk2_eq, funext fun k => iblk0_apply m c t r k]

theorem o_row (t : Fin cfg0.N) (r : Fin 512) :
    oRow (qRow (fun k => iblk m c 0 t (ix2 r k)) (iblk m c 2 t)) (iblk m c 3 t) (iblk m c 4 t) (iblk m c 5 t) = oV m c (row t r) := by
  rw [q_row, iblk3_eq, iblk4_eq, iblk5_eq]
  rfl

theorem x_row (t : Fin cfg0.N) (r : Fin 512) :
    xRow (fun k => iblk m c 1 t (ix2 r k)) (oRow (qRow (fun k => iblk m c 0 t (ix2 r k)) (iblk m c 2 t)) (iblk m c 3 t) (iblk m c 4 t) (iblk m c 5 t)) (iblk m c 6 t)
      = xV m c (row t r) := by
  rw [o_row, iblk6_eq, funext fun k => iblk1_apply m c t r k]
  rfl

theorem n_row (t : Fin cfg0.N) (r : Fin 512) :
    nRow (xRow (fun k => iblk m c 1 t (ix2 r k)) (oRow (qRow (fun k => iblk m c 0 t (ix2 r k)) (iblk m c 2 t)) (iblk m c 3 t) (iblk m c 4 t) (iblk m c 5 t)) (iblk m c 6 t)) (iblk m c 7 t)
      = nV m c (row t r) := by
  rw [x_row, iblk7_eq]
  rfl

def G8 : Vec Ideal S8192x1024 .f32 := fun y => qV m c (y 0) (y 1)
def G9 : Vec Ideal S8192x1024 .bf16 := fun y => oV m c (y 0) (y 1)
def G10 : Vec Ideal S8192x1024 .f32 := fun y => xV m c (y 0) (y 1)
def G11 : Vec Ideal S8192x1024 .bf16 := fun y => nV m c (y 0) (y 1)

end Cert.Xa

end
-- ==== Proof.Xa.Arrays.lean ====
module

public import proofs.«01_k».proof.Proof.Xa.Rows

@[expose] public section

set_option maxRecDepth 16384

noncomputable section

namespace Cert.Xa

open Idealize.ShloMosaic Idealize.ShloMosaic.TcCoe Idealize.ShloMosaic.Tactic Cert.XaKernelIdeal Cert.XaKernelIdeal.Gen Idealize.SL.Sem

/-! The four arrays after the run. -/

variable (m : (ℓ : Loc nD τ sig) → Buf (Elt Ideal) ℓ) (c : Dev nD)

theorem arr8 : (dats m 0 c).arrAt 8 cfg0.N = G8 m c := by
  refine (dats m 0 c).arrAt_eq_of_covers 8 _ (by decide +kernel) fun t hf y => ?_
  obtain ⟨r, k, rfl⟩ : ∃ (r : Fin 512) (k : Fin 1024), y = ix2 r k := ⟨y 0, y 1, eq_ix2 y⟩
  refine Eq.trans ?_ (read8 c (G8 m c) t r k).symm
  have e : out0_8 (F := Ideal) (iblk m c 0 t) (iblk m c 1 t) (iblk m c 2 t) (iblk m c 3 t) (iblk m c 4 t) (iblk m c 5 t) (iblk m c 6 t) (iblk m c 7 t) (ix2 r k) = G8 m c (ix2 (row t r) k) :=
    (out8_apply _ _ _ _ _ _ _ _ r k).trans (congrFun (q_row m c t r) k)
  refine Eq.trans ?_ e
  rw [after0_8]
  generalize out0_8 (F := Ideal) (iblk m c 0 t) (iblk m c 1 t) (iblk m c 2 t) (iblk m c 3 t) (iblk m c 4 t) (iblk m c 5 t) (iblk m c 6 t) (iblk m c 7 t) = b
  rfl

theorem arr9 : (dats m 0 c).arrAt 9 cfg0.N = G9 m c := by
  refine (dats m 0 c).arrAt_eq_of_covers 9 _ (by decide +kernel) fun t hf y => ?_
  obtain ⟨r, k, rfl⟩ : ∃ (r : Fin 512) (k : Fin 1024), y = ix2 r k := ⟨y 0, y 1, eq_ix2 y⟩
  refine Eq.trans ?_ (read9 c (G9 m c) t r k).symm
  have e : out0_9 (F := Ideal) (iblk m c 0 t) (iblk m c 1 t) (iblk m c 2 t) (iblk m c 3 t) (iblk m c 4 t) (iblk m c 5 t) (iblk m c 6 t) (iblk m c 7 t) (ix2 r k) = G9 m c (ix2 (row t r) k) :=
    (out9_apply _ _ _ _ _ _ _ _ r k).trans (congrFun (o_row m c t r) k)
  refine Eq.trans ?_ e
  rw [after0_9]
  generalize out0_9 (F := Ideal) (iblk m c 0 t) (iblk m c 1 t) (iblk m c 2 t) (iblk m c 3 t) (iblk m c 4 t) (iblk m c 5 t) (iblk m c 6 t) (iblk m c 7 t) = b
  rfl

theorem arr10 : (dats m 0 c).arrAt 10 cfg0.N = G10 m c := by
  refine (dats m 0 c).arrAt_eq_of_covers 10 _ (by decide +kernel) fun t hf y => ?_
  obtain ⟨r, k, rfl⟩ : ∃ (r : Fin 512) (k : Fin 1024), y = ix2 r k := ⟨y 0, y 1, eq_ix2 y⟩
  refine Eq.trans ?_ (read10 c (G10 m c) t r k).symm
  have e : out0_10 (F := Ideal) (iblk m c 0 t) (iblk m c 1 t) (iblk m c 2 t) (iblk m c 3 t) (iblk m c 4 t) (iblk m c 5 t) (iblk m c 6 t) (iblk m c 7 t) (ix2 r k) = G10 m c (ix2 (row t r) k) :=
    (out10_apply _ _ _ _ _ _ _ _ r k).trans (congrFun (x_row m c t r) k)
  refine Eq.trans ?_ e
  rw [after0_10]
  generalize out0_10 (F := Ideal) (iblk m c 0 t) (iblk m c 1 t) (iblk m c 2 t) (iblk m c 3 t) (iblk m c 4 t) (iblk m c 5 t) (iblk m c 6 t) (iblk m c 7 t) = b
  rfl

theorem arr11 : (dats m 0 c).arrAt 11 cfg0.N = G11 m c := by
  refine (dats m 0 c).arrAt_eq_of_covers 11 _ (by decide +kernel) fun t hf y => ?_
  obtain ⟨r, k, rfl⟩ : ∃ (r : Fin 512) (k : Fin 1024), y = ix2 r k := ⟨y 0, y 1, eq_ix2 y⟩
  refine Eq.trans ?_ (read11 c (G11 m c) t r k).symm
  have e : out0_11 (F := Ideal) (iblk m c 0 t) (iblk m c 1 t) (iblk m c 2 t) (iblk m c 3 t) (iblk m c 4 t) (iblk m c 5 t) (iblk m c 6 t) (iblk m c 7 t) (ix2 r k) = G11 m c (ix2 (row t r) k) :=
    (out11_apply _ _ _ _ _ _ _ _ r k).trans (congrFun (n_row m c t r) k)
  refine Eq.trans ?_ e
  rw [after0_11]
  generalize out0_11 (F := Ideal) (iblk m c 0 t) (iblk m c 1 t) (iblk m c 2 t) (iblk m c 3 t) (iblk m c 4 t) (iblk m c 5 t) (iblk m c 6 t) (iblk m c 7 t) = b
  rfl

end Cert.Xa

end
-- ==== Proof.Xa.RefAt.lean ====
module

public import proofs.«01_k».proof.Proof.Gen.XaReferenceIdeal.Read
public import proofs.«01_k».proof.Proof.Xa.Words

@[expose] public section

set_option maxRecDepth 16384

noncomputable section

namespace Cert.Xa

open Idealize.ShloMosaic Idealize.ShloMosaic.TcCoe Idealize.ShloMosaic.Tactic Cert.XaReferenceIdeal Cert.XaReferenceIdeal.Read

/-! The reference's values at an entry. -/

variable (x0 x1 : (⟨S8192x1024, .f32⟩ : BufTy).Contents (Elt Ideal)) (x2 x3 : (⟨S256x1024, .f32⟩ : BufTy).Contents (Elt Ideal))
  (x4 : (⟨S1x1024x1024, .f32⟩ : BufTy).Contents (Elt Ideal)) (x5 : (⟨S1x256, .f32⟩ : BufTy).Contents (Elt Ideal))
  (x6 : (⟨S1x1024x1024, .f32⟩ : BufTy).Contents (Elt Ideal)) (x7 : (⟨S1x1024, .f32⟩ : BufTy).Contents (Elt Ideal))

/-- The queries. -/
theorem v1_apply (R : Fin 8192) (q : Fin 1024) : val_main_v1 (F := Ideal) x0 x4 (ix2 R q) = ∑ k : Fin 1024, x0 (ix2 R k) * x4 (ix3 0 k q) := by
  unfold val_main_v1 val_main_v0
  pointwise

/-- A head's column, counted the other way. -/
theorem hc_eq (h : Fin 4) (j : Fin 256) (p : h.val * 256 + j.val < 1024) : (⟨h.val * 256 + j.val, p⟩ : Fin 1024) = hc h j :=
  Fin.ext (by show h.val * 256 + j.val = 256 * h.val + j.val; omega)

/-- The queries by head. -/
theorem v2_apply (R : Fin 8192) (h : Fin 4) (j : Fin 256) : val_main_v2 (F := Ideal) x0 x4 (ix3 R h j) = val_main_v1 (F := Ideal) x0 x4 (ix2 R (hc h j)) := by
  rw [← hc_eq h j (by omega)]
  unfold val_main_v2
  pointwise

/-- The normed queries by head. -/
theorem v16_apply (R : Fin 8192) (h : Fin 4) (j : Fin 256) : val_main_v16 (F := Ideal) x0 x4 x5 (ix3 R h j)
    = val_main_v2 (F := Ideal) x0 x4 (ix3 R h j) * rinvAt (fun j => val_main_v2 (F := Ideal) x0 x4 (ix3 R h j)) * x5 (ix2 0 j) := by
  unfold val_main_v16 val_main_v15 val_main_v14 val_main_v13 val_main_v12 val_main_v11 val_main_v10 val_main_v9 val_main_v8 val_main_v7 val_main_v6
    val_main_v5 val_main_v4 val_main_v3 val_main_cst val_main_cst_0 val_main_cst_1 rinvAt
  pointwise

/-- Keys by head. -/
theorem v17_apply (m : Fin 256) (h : Fin 4) (j : Fin 256) : val_main_v17 (F := Ideal) x2 (ix3 m h j) = x2 (ix2 m (hc h j)) := by
  rw [← hc_eq h j (by omega)]
  unfold val_main_v17
  pointwise

/-- The scores. -/
theorem v20_apply (h : Fin 4) (R : Fin 8192) (m : Fin 256) : val_main_v20 (F := Ideal) x0 x2 x4 x5 (ix3 h R m)
    = scAt (fun j => val_main_v1 (F := Ideal) x0 x4 (ix2 R (hc h j))) (fun j => x5 (ix2 0 j)) (fun j => x2 (ix2 m (hc h j))) := by
  have e : val_main_v20 (F := Ideal) x0 x2 x4 x5 (ix3 h R m)
      = (∑ j : Fin 256, val_main_v16 (F := Ideal) x0 x4 x5 (ix3 R h j) * val_main_v17 (F := Ideal) x2 (ix3 m h j)) * Ideal.ofBits .f32 0x3D800000#32 := by
    unfold val_main_v20 val_main_v19 val_main_v18 val_main_cst_2
    pointwise
  rw [e]
  simp only [v16_apply, v17_apply, v2_apply]
  rfl

/-- The residual stream after the heads. -/
theorem v38_apply (R : Fin 8192) (c : Fin 1024) : val_main_v38 (F := Ideal) x0 x1 x2 x3 x4 x5 x6 (ix2 R c)
    = x1 (ix2 R c) + ∑ k : Fin 1024, val_main_v35 (F := Ideal) x0 x2 x3 x4 x5 (ix2 R k) * x6 (ix3 0 k c) := by
  unfold val_main_v38 val_main_v37 val_main_v36
  pointwise

/-- The normed rows of that stream. -/
theorem v54_apply (R : Fin 8192) (c : Fin 1024) : val_main_v54 (F := Ideal) x0 x1 x2 x3 x4 x5 x6 x7 (ix2 R c)
    = val_main_v38 (F := Ideal) x0 x1 x2 x3 x4 x5 x6 (ix2 R c) * rowInv (fun c => val_main_v38 (F := Ideal) x0 x1 x2 x3 x4 x5 x6 (ix2 R c)) * x7 (ix2 0 c) := by
  unfold val_main_v54 val_main_v53 val_main_v52 val_main_v51 val_main_v50 val_main_v49 val_main_v48 val_main_v47 val_main_v46 val_main_v45 val_main_v44
    val_main_v43 val_main_v42 val_main_v41 val_main_v40 val_main_cst_6 val_main_cst_7 val_main_cst_8 rowInv
  pointwise

end Cert.Xa

end
-- ==== Proof.Xa.RefSoft.lean ====
module

public import proofs.«01_k».proof.Proof.Xa.RefAt

@[expose] public section

set_option maxRecDepth 16384

noncomputable section

namespace Cert.Xa

open Idealize.ShloMosaic Idealize.ShloMosaic.TcCoe Idealize.ShloMosaic.Tactic Cert.XaReferenceIdeal Cert.XaReferenceIdeal.Read Cert.XaReferenceIdeal.Gen

/-! The reference's softmax and its heads at an entry. -/

variable (x0 : (⟨S8192x1024, .f32⟩ : BufTy).Contents (Elt Ideal)) (x2 x3 : (⟨S256x1024, .f32⟩ : BufTy).Contents (Elt Ideal))
  (x4 : (⟨S1x1024x1024, .f32⟩ : BufTy).Contents (Elt Ideal)) (x5 : (⟨S1x256, .f32⟩ : BufTy).Contents (Elt Ideal))

/-- The largest along the last axis. -/
theorem top_apply (x : FVec Ideal S4x8192x256 .f32) (b : FVec Ideal S_ .f32) (h : Fin 4) (R : Fin 8192) :
    Host.reduce FloatOps.maximumf x b reducesTo_S4x8192x256_S4x8192_d2 h_S_ (ix2 h R)
      = Finset.univ.fold max (b (Shape.Idx.first h_S_)) fun m : Fin 256 => x (ix3 h R m) := by
  pointwise

/-- The largest score of a row. -/
theorem v21_apply (h : Fin 4) (R : Fin 8192) : val_main_v21 (F := Ideal) x0 x2 x4 x5 (ix2 h R) = topAt fun m => val_main_v20 (F := Ideal) x0 x2 x4 x5 (ix3 h R m) := by
  unfold val_main_v21 topAt
  generalize val_main_v20 (F := Ideal) x0 x2 x4 x5 = y
  rw [top_apply]
  unfold val_main_cst_3
  rfl

/-- The exponentials of the scores. -/
theorem v27_apply (h : Fin 4) (R : Fin 8192) (m : Fin 256) : val_main_v27 (F := Ideal) x0 x2 x4 x5 (ix3 h R m)
    = Ideal.exp (val_main_v20 (F := Ideal) x0 x2 x4 x5 (ix3 h R m)
      - max (Ideal.ofBits .f32 0xFF800000#32) (topAt fun m => val_main_v20 (F := Ideal) x0 x2 x4 x5 (ix3 h R m))) := by
  have ei : idx_main_v24 (idx_main_v25 (ix3 h R m)) = ix2 h R := by
    funext a
    fin_cases a <;> rfl
  rw [val_main_v27_apply, val_main_v26_apply, val_main_v25_apply, val_main_v24_apply, val_main_v23_apply, val_main_v22_apply,
    val_main_cst_4_apply, ei, v21_apply]
  generalize val_main_v20 (F := Ideal) x0 x2 x4 x5 = y
  generalize topAt (fun m => y (ix3 h R m)) = z
  rfl

/-- The shares. -/
theorem v31_apply (h : Fin 4) (R : Fin 8192) (m : Fin 256) : val_main_v31 (F := Ideal) x0 x2 x4 x5 (ix3 h R m)
    = Ideal.div (val_main_v27 (F := Ideal) x0 x2 x4 x5 (ix3 h R m)) (∑ l : Fin 256, val_main_v27 (F := Ideal) x0 x2 x4 x5 (ix3 h R l)) := by
  unfold val_main_v31 val_main_v30 val_main_v29 val_main_v28 val_main_cst_5
  pointwise

/-- The heads' output. -/
theorem v35_apply (R : Fin 8192) (h : Fin 4) (e : Fin 256) : val_main_v35 (F := Ideal) x0 x2 x3 x4 x5 (ix2 R (hc h e))
    = ∑ m : Fin 256, x3 (ix2 m (hc h e)) * val_main_v31 (F := Ideal) x0 x2 x4 x5 (ix3 h R m) := by
  have hv : ∀ m : Fin 256, val_main_v32 (F := Ideal) x3 (ix3 m h e) = x3 (ix2 m (hc h e)) := fun m => v17_apply x3 m h e
  have e34 : val_main_v34 (F := Ideal) x0 x2 x3 x4 x5 (ix3 R h e)
      = ∑ m : Fin 256, val_main_v32 (F := Ideal) x3 (ix3 m h e) * val_main_v31 (F := Ideal) x0 x2 x4 x5 (ix3 h R m) := by
    unfold val_main_v34 val_main_v33
    pointwise
  have e35 : val_main_v35 (F := Ideal) x0 x2 x3 x4 x5 (ix2 R (hc h e)) = val_main_v34 (F := Ideal) x0 x2 x3 x4 x5 (ix3 R h e) := by
    fin_cases h <;> (unfold val_main_v35 hc; generalize val_main_v34 (F := Ideal) x0 x2 x3 x4 x5 = y; pointwise)
    · exact congrArg₂ (fun p q => y (ix3 R p q)) (Fin.ext (by show e.val / 256 = 0; omega)) (Fin.ext (by show e.val % 256 = e.val; omega))
    · exact congrArg (fun p => y (ix3 R p e)) (Fin.ext (by show (256 + e.val) / 256 = 1; omega))
    · exact congrArg (fun p => y (ix3 R p e)) (Fin.ext (by show (512 + e.val) / 256 = 2; omega))
    · exact congrArg (fun p => y (ix3 R p e)) (Fin.ext (by show (768 + e.val) / 256 = 3; omega))
  rw [e35, e34]
  simp only [hv]

end Cert.Xa

end
-- ==== Proof.Xa.HostAt.lean ====
module

public import proofs.«01_k».proof.Proof.Gen.XaKernelIdeal.Frame
public import proofs.«01_k».proof.Proof.Xa.Words
public import Idealize.ShloMosaic.Lib.Claim
public import Idealize.ShloMosaic.Lib.Pointwise

@[expose] public section

set_option maxRecDepth 16384

noncomputable section

namespace Cert.Xa

open Idealize.ShloMosaic Idealize.ShloMosaic.TcCoe Idealize.ShloMosaic.Tactic Cert.XaKernelIdeal Cert.XaKernelIdeal.Gen Idealize.SL.Sem

/-! The arrays that the host prepares, at an entry. -/

/-- The gain of one head, repeated for every head. -/
def hGain (x : FVec Ideal S1x256 .f32) : FVec Ideal S1x1024 .f32 :=
  shapeCast S1x1024 (broadcastInDim S1x1x4x256 ![0, 1, 2, 3] bcast_S1x1x1x256_S1x1x4x256_0_1_2_3
    (shapeCast S1x1x1x256 x shapeCasts_S1x256_S1x1x1x256)) shapeCasts_S1x1x4x256_S1x1024

theorem hGain_apply (x : FVec Ideal S1x256 .f32) (h : Fin 4) (j : Fin 256) : hGain x (ix2 0 (hc h j)) = x (ix2 0 j) := by
  fin_cases h <;> (unfold hGain hc; pointwise)
  exact congrArg (fun q => x (ix2 0 q)) (Fin.ext (Nat.mod_eq_of_lt j.isLt))

/-- A matrix of weights as it is multiplied. -/
def hW (x : FVec Ideal S1x1024x1024 .f32) : FVec Ideal S1024x1024 .bf16 :=
  truncf .bf16 (shapeCast S1024x1024 x shapeCasts_S1x1024x1024_S1024x1024) bitsLt_bf16_f32

theorem hW_apply (x : FVec Ideal S1x1024x1024 .f32) (a b : Fin 1024) : hW x (ix2 a b) = x (ix3 0 a b) := by
  unfold hW
  pointwise

/-- Values as they are multiplied. -/
def hCast {s : Shape} (x : FVec Ideal s .f32) : FVec Ideal s .bf16 := truncf .bf16 x bitsLt_bf16_f32

theorem hCast_apply {s : Shape} (x : FVec Ideal s .f32) (i : s.Idx) : hCast x i = x i := rfl

variable (m : (ℓ : Loc nD τ sig) → Buf (Elt Ideal) ℓ) (c : Dev nD)

theorem V_rows : V m c main_v3 = hCast (s := S8192x1024) (m ((c : Thread nD τ).loc main_arg0)) := by
  entry_read
  rfl

theorem V_wq : V m c main_v5 = hW (m ((c : Thread nD τ).loc main_arg4)) := by
  entry_read
  rfl

theorem V_gain : V m c main_v2 = hGain (m ((c : Thread nD τ).loc main_arg5)) := by
  entry_read
  rfl

theorem V_keys : V m c main_v6 = hCast (s := S256x1024) (m ((c : Thread nD τ).loc main_arg2)) := by
  entry_read
  rfl

theorem V_vals : V m c main_v7 = hCast (s := S256x1024) (m ((c : Thread nD τ).loc main_arg3)) := by
  entry_read
  rfl

theorem V_wo : V m c main_v9 = hW (m ((c : Thread nD τ).loc main_arg6)) := by
  entry_read
  rfl

end Cert.Xa

end
-- ==== Proof.Xa.Soft.lean ====
module

public import proofs.«01_k».proof.Proof.Xa.Words
public import proofs.«01_k».proof.Proof.Ffn.RealNums

@[expose] public section

noncomputable section

namespace Cert.Xa

open Idealize.ShloMosaic Cert.Ffn

/-! Where the scores are real numbers, a share is a quotient. -/

theorem bits_bot : Ideal.ofBits .f32 0xFF800000#32 = ⊥ := by simp [Ideal.ofBits, Ideal.ieee]

theorem bits_256 : Ideal.ofBits .f32 0x43800000#32 = ((256 : ℝ) : EReal) := by
  simp [Ideal.ofBits, Ideal.ieee, -EReal.coe_mul]
  norm_num

theorem bits_16 : Ffn.IsReal (Ideal.ofBits .f32 0x3D800000#32) := by
  simp only [Ideal.ofBits, Ideal.ieee]
  norm_num
  exact ⟨_, rfl⟩

/-- One of the scores is the largest. -/
theorem top_mem (s : Fin 256 → EReal) : ∃ i, topAt s = s i := by
  obtain ⟨i, _, hi⟩ := Finset.exists_mem_eq_sup (Finset.univ : Finset (Fin 256)) ⟨0, Finset.mem_univ _⟩ s
  refine ⟨i, Eq.trans ?_ hi⟩
  unfold topAt
  rw [bits_bot]
  rfl

/-- The exponentials are real, and their sum is not zero. -/
theorem sum_ne_zero {s : Fin 256 → EReal} (hs : ∀ m, Ffn.IsReal (s m)) : ∑ l, expAt s l ≠ 0 := by
  obtain ⟨i, hi⟩ := top_mem s
  choose y hy using hs
  have he : ∀ m, expAt s m = ((Real.exp (y m - y i) : ℝ) : EReal) := by
    intro m
    unfold expAt
    rw [hi, hy, hy, ← EReal.coe_sub]
    rfl
  have h1 : (1 : ℝ) ≤ ∑ l, Real.exp (y l - y i) := by
    have := Finset.single_le_sum (f := fun l => Real.exp (y l - y i)) (fun l _ => (Real.exp_pos _).le) (Finset.mem_univ i)
    simpa using this
  rw [Finset.sum_congr rfl fun l _ => he l, ← coe_sum_real]
  intro h
  have h0 : (∑ l, Real.exp (y l - y i) : ℝ) = 0 := by exact_mod_cast h
  linarith

/-- A share is the exponential over the sum. -/
theorem share_eq {s : Fin 256 → EReal} (hs : ∀ m, Ffn.IsReal (s m)) (m : Fin 256) : shareAt s m = Ideal.div (expAt s m) (∑ l, expAt s l) := by
  unfold shareAt Ideal.div
  rw [if_neg (sum_ne_zero hs), if_neg (sum_ne_zero hs), bits_one, one_mul]

theorem rinv_real {x : Fin 256 → EReal} (hx : ∀ k, Ffn.IsReal (x k)) : Ffn.IsReal (rinvAt x) := by
  choose y hy using hx
  obtain ⟨e, he, hb⟩ := bits_eps
  have e3 : ∑ k, x k * x k = ((∑ k, y k * y k : ℝ) : EReal) := by
    rw [coe_sum_real]
    exact Finset.sum_congr rfl fun k _ => by rw [hy k, EReal.coe_mul]
  have hv : 0 < (∑ k, y k * y k) * (1 / 256) + e := by
    have : 0 ≤ ∑ k, y k * y k := Finset.sum_nonneg fun k _ => mul_self_nonneg _
    positivity
  obtain ⟨r, hr, _⟩ := rsqrt_pos hv
  unfold rinvAt
  rw [hb, bits_256, Ideal.div_coe (by norm_num), e3, ← EReal.coe_mul, ← EReal.coe_add]
  exact ⟨r, hr⟩

/-- Scores of real queries against real keys are real. -/
theorem sc_real {x w k : Fin 256 → EReal} (hx : ∀ j, Ffn.IsReal (x j)) (hw : ∀ j, Ffn.IsReal (w j)) (hk : ∀ j, Ffn.IsReal (k j)) : Ffn.IsReal (scAt x w k) :=
  (IsReal.sum fun j => (((hx j).mul (rinv_real hx)).mul (hw j)).mul (hk j)).mul bits_16

end Cert.Xa

end
-- ==== Proof.Xa.Value.lean ====
module

public import proofs.«01_k».proof.Proof.Xa.Arrays
public import proofs.«01_k».proof.Proof.Xa.RefSoft
public import proofs.«01_k».proof.Proof.Xa.HostAt
public import proofs.«01_k».proof.Proof.Xa.Soft

@[expose] public section

set_option maxRecDepth 16384

noncomputable section

namespace Cert.Xa

open Idealize.ShloMosaic Idealize.ShloMosaic.TcCoe Idealize.ShloMosaic.Tactic Cert.XaKernelIdeal Cert.XaKernelIdeal.Gen Idealize.SL.Sem Cert.XaReferenceIdeal.Read

/-! The kernel's four arrays are the reference's, where the scores are real numbers. -/

section Numbers

variable (x0 x1 : FVec Ideal S8192x1024 .f32) (x2 x3 : FVec Ideal S256x1024 .f32) (x4 : FVec Ideal S1x1024x1024 .f32) (x5 : FVec Ideal S1x256 .f32)
  (x6 : FVec Ideal S1x1024x1024 .f32) (x7 : FVec Ideal S1x1024 .f32)

/-- What the scores are made of is real. -/
structure Fin4 : Prop where
  h0 : ∀ i, Ffn.IsReal (x0 i)
  h2 : ∀ i, Ffn.IsReal (x2 i)
  h4 : ∀ i, Ffn.IsReal (x4 i)
  h5 : ∀ i, Ffn.IsReal (x5 i)

theorem q_eq (R : Fin 8192) (c : Fin 1024) : qRow (fun k => hCast (s := S8192x1024) x0 (ix2 R k)) (hW x4) c = val_main_v1 (F := Ideal) x0 x4 (ix2 R c) := by
  rw [v1_apply]
  unfold qRow
  simp only [hCast_apply, hW_apply]

variable {x0 x2 x4 x5}

/-- The reference's scores are real. -/
theorem Fin4.score (hf : Fin4 x0 x2 x4 x5) (h : Fin 4) (R : Fin 8192) (l : Fin 256) : Ffn.IsReal (val_main_v20 (F := Ideal) x0 x2 x4 x5 (ix3 h R l)) := by
  rw [v20_apply]
  refine sc_real (fun j => ?_) (fun j => hf.h5 _) fun j => hf.h2 _
  rw [v1_apply]
  exact Ffn.IsReal.sum fun k => (hf.h0 _).mul (hf.h4 _)

/-- The reference's shares are the kernel's. -/
theorem Fin4.share (hf : Fin4 x0 x2 x4 x5) (h : Fin 4) (R : Fin 8192) (l : Fin 256) :
    val_main_v31 (F := Ideal) x0 x2 x4 x5 (ix3 h R l) = shareAt (fun l => val_main_v20 (F := Ideal) x0 x2 x4 x5 (ix3 h R l)) l := by
  have e : ∀ l, val_main_v27 (F := Ideal) x0 x2 x4 x5 (ix3 h R l) = expAt (fun l => val_main_v20 (F := Ideal) x0 x2 x4 x5 (ix3 h R l)) l := by
    intro l
    rw [v27_apply, bits_bot, max_eq_right bot_le]
    rfl
  rw [v31_apply, share_eq (hf.score h R)]
  simp only [e]

theorem Fin4.o_eq (hf : Fin4 x0 x2 x4 x5) (R : Fin 8192) (c : Fin 1024) :
    oRow (fun c => val_main_v1 (F := Ideal) x0 x4 (ix2 R c)) (hGain x5) (hCast (s := S256x1024) x2) (hCast (s := S256x1024) x3) c
      = val_main_v35 (F := Ideal) x0 x2 x3 x4 x5 (ix2 R c) := by
  obtain ⟨h, e, rfl⟩ : ∃ h e, c = hc h e := ⟨hd c, en c, (hc_hd c).symm⟩
  rw [v35_apply]
  simp only [hf.share]
  unfold oRow headAt
  rw [hd_hc, en_hc]
  refine Finset.sum_congr rfl fun l _ => ?_
  rw [mul_comm]
  refine congrArg₂ (· * ·) rfl ?_
  refine congrArg (fun s => shareAt s l) (funext fun l => ?_)
  rw [v20_apply]
  simp only [hGain_apply, hCast_apply]

theorem x_eq (o : Fin 1024 → EReal) (R : Fin 8192) (ho : ∀ k, o k = val_main_v35 (F := Ideal) x0 x2 x3 x4 x5 (ix2 R k)) (c : Fin 1024) :
    xRow (fun k => x1 (ix2 R k)) o (hW x6) c = val_main_v38 (F := Ideal) x0 x1 x2 x3 x4 x5 x6 (ix2 R c) := by
  rw [v38_apply]
  unfold xRow
  simp only [ho, hW_apply]

theorem n_eq (x : Fin 1024 → EReal) (R : Fin 8192) (hx : ∀ k, x k = val_main_v38 (F := Ideal) x0 x1 x2 x3 x4 x5 x6 (ix2 R k)) (c : Fin 1024) :
    nRow x x7 c = val_main_v54 (F := Ideal) x0 x1 x2 x3 x4 x5 x6 x7 (ix2 R c) := by
  rw [v54_apply]
  unfold nRow
  rw [hx, funext hx]

end Numbers

variable (m : (ℓ : Loc nD τ sig) → Buf (Elt Ideal) ℓ) (c : Dev nD)

/-- What the scores are made of is real, of the launch. -/
def FinAt : Prop := Fin4 (m ((c : Thread nD τ).loc main_arg0)) (m ((c : Thread nD τ).loc main_arg2)) (m ((c : Thread nD τ).loc main_arg4)) (m ((c : Thread nD τ).loc main_arg5))

theorem qV_eq (R : Fin 8192) (k : Fin 1024) : qV m c R k = val_main_v1 (F := Ideal) (m ((c : Thread nD τ).loc main_arg0)) (m ((c : Thread nD τ).loc main_arg4)) (ix2 R k) := by
  unfold qV
  rw [V_rows, V_wq]
  exact q_eq _ _ R k

variable {m c}

theorem FinAt.oV (hf : FinAt m c) (R : Fin 8192) (k : Fin 1024) : oV m c R k = val_main_v35 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 R k) := by
  unfold Xa.oV
  rw [V_gain, V_keys, V_vals, funext fun k => qV_eq m c R k]
  exact Fin4.o_eq _ hf R k

theorem FinAt.xV (hf : FinAt m c) (R : Fin 8192) (k : Fin 1024) : xV m c R k = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R k) := by
  unfold Xa.xV
  rw [V_main_arg1, V_wo]
  exact x_eq _ _ _ _ R (hf.oV R) k

theorem FinAt.nV (hf : FinAt m c) (R : Fin 8192) (k : Fin 1024) : nV m c R k = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 R k) := by
  unfold Xa.nV
  rw [V_main_arg7]
  exact n_eq _ _ _ _ _ R (hf.xV R) k

theorem G8_eq (m : (ℓ : Loc nD τ sig) → Buf (Elt Ideal) ℓ) (c : Dev nD) : G8 m c = val_main_v1 (F := Ideal) (m ((c : Thread nD τ).loc main_arg0)) (m ((c : Thread nD τ).loc main_arg4)) := by
  funext y
  rw [eq_ix2 y]
  exact qV_eq m c _ _

theorem FinAt.G9 (hf : FinAt m c) : G9 m c = val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  funext y
  rw [eq_ix2 y]
  exact hf.oV _ _

theorem FinAt.G10 (hf : FinAt m c) : G10 m c = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  rw [eq_ix2 y]
  exact hf.xV _ _

theorem FinAt.G11 (hf : FinAt m c) : G11 m c = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext y
  rw [eq_ix2 y]
  exact hf.nV _ _

end Cert.Xa

end
-- ==== Proof.Xa.Pre.lean ====
module

public import proofs.«01_k».proof.Proof.Ffn.Pre
public import proofs.«01_k».proof.Proof.Xa.Value

@[expose] public section

noncomputable section

namespace Cert.Xa

open Idealize.ShloMosaic Idealize.ShloMosaic.TcCoe Cert.Pre_finite_xattn

/-! The precondition says that what the scores are made of is real. -/

/-- The side conditions of the precondition. -/
theorem facts_pre : Cert.Pre_finite_xattn.Facts where
  bcast_S_S8192x1024 := by decide
  bcast_S_S256x1024 := by decide
  bcast_S_S1x1024x1024 := by decide
  bcast_S_S1x256 := by decide

attribute [local instance] facts_pre

theorem fin4_of (x0 x1 : FVec Ideal S8192x1024 .f32) (x2 x3 : FVec Ideal S256x1024 .f32) (x4 : FVec Ideal S1x1024x1024 .f32)
    (x5 : FVec Ideal S1x256 .f32) (x6 : FVec Ideal S1x1024x1024 .f32) (x7 : FVec Ideal S1x1024 .f32)
    (h0 : (fn (F := Ideal) x0 x1 x2 x3 x4 x5 x6 x7).1 = fun _ => 1#1)
    (h2 : (fn (F := Ideal) x0 x1 x2 x3 x4 x5 x6 x7).2.1 = fun _ => 1#1)
    (h4 : (fn (F := Ideal) x0 x1 x2 x3 x4 x5 x6 x7).2.2.1 = fun _ => 1#1)
    (h5 : (fn (F := Ideal) x0 x1 x2 x3 x4 x5 x6 x7).2.2.2 = fun _ => 1#1) : Fin4 x0 x2 x4 x5 where
  h0 := Ffn.allReal_of Facts.bcast_S_S8192x1024 x0 h0
  h2 := Ffn.allReal_of Facts.bcast_S_S256x1024 x2 h2
  h4 := Ffn.allReal_of Facts.bcast_S_S1x1024x1024 x4 h4
  h5 := Ffn.allReal_of Facts.bcast_S_S1x256 x5 h5

end Cert.Xa

end
-- ==== Proof.Xa.Final.lean ====
module

public import proofs.«01_k».proof.Proof.Xa.Pre
public import proofs.«01_k».proof.Proof.Ffn.Final
public import proofs.«01_k».proof.Defs
public import proofs.«01_k».proof.Proof.Gen.XaKernelIdeal.Value
public import proofs.«01_k».proof.Proof.Gen.XaKernel.Frame
public import proofs.«01_k».proof.Proof.Gen.XaReferenceIdeal.Run
public import Idealize.ShloMosaic.Adequacy
public import Idealize.ShloMosaic.Init

@[expose] public section

set_option maxRecDepth 16384

noncomputable section

namespace Cert.Xa

open Idealize.ShloMosaic Idealize.ShloMosaic.TcCoe Idealize.ShloMosaic.StableHlo Idealize.SL.Sem

attribute [local instance] facts_pre

/-! The statements about the attention over the memory. -/

/-- The reference ends with its arguments kept and no semaphore held. -/
theorem reference_kept (m : (ℓ : Loc Cert.XaReferenceIdeal.nD Cert.XaReferenceIdeal.τ Cert.XaReferenceIdeal.sig) → Buf (Elt Ideal) ℓ) (g : Dev Cert.XaReferenceIdeal.nD → PrngReg) :
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4)
      ∧ r.2.mem ((c.tc : Thread Cert.XaReferenceIdeal.nD Cert.XaReferenceIdeal.τ).loc Cert.XaReferenceIdeal.main_arg5) = m ((c.tc : Thread Cert.XaReferenceIdeal.nD Cert.XaReferenceIdeal.τ).loc Cert.XaReferenceIdeal.main_arg5)
      ∧ r.2.mem ((c.tc : Thread Cert.XaReferenceIdeal.nD Cert.XaReferenceIdeal.τ).loc Cert.XaReferenceIdeal.main_arg6) = m ((c.tc : Thread Cert.XaReferenceIdeal.nD Cert.XaReferenceIdeal.τ).loc Cert.XaReferenceIdeal.main_arg6)
      ∧ r.2.mem ((c.tc : Thread Cert.XaReferenceIdeal.nD Cert.XaReferenceIdeal.τ).loc Cert.XaReferenceIdeal.main_arg7) = m ((c.tc : Thread Cert.XaReferenceIdeal.nD Cert.XaReferenceIdeal.τ).loc Cert.XaReferenceIdeal.main_arg7))
      ∧ r.2.sem = fun _ => 0) :=
  (θ_run Cert.XaReferenceIdeal.defs _ _).mono (fun r h => ⟨fun c => (h c).2.2.2.2, sem_eq_zero_of_no_sems (by decide) r.2⟩)
    (Cert.XaReferenceIdeal.Value.run (F := Ideal) m g)

/-- A function of five arguments has equal values at equal arguments. -/
theorem congr5 {A0 A1 A2 A3 A4 B : Type} (f : A0 → A1 → A2 → A3 → A4 → B) {x0 y0 : A0} {x1 y1 : A1} {x2 y2 : A2} {x3 y3 : A3} {x4 y4 : A4}
    (h0 : x0 = y0) (h1 : x1 = y1) (h2 : x2 = y2) (h3 : x3 = y3) (h4 : x4 = y4) : f x0 x1 x2 x3 x4 = f y0 y1 y2 y3 y4 := by
  subst h0 h1 h2 h3 h4
  rfl

/-- A function of eight arguments has equal values at equal arguments. -/
theorem congr8 {A0 A1 A2 A3 A4 A5 A6 A7 B : Type} (f : A0 → A1 → A2 → A3 → A4 → A5 → A6 → A7 → B) {x0 y0 : A0} {x1 y1 : A1} {x2 y2 : A2} {x3 y3 : A3}
    {x4 y4 : A4} {x5 y5 : A5} {x6 y6 : A6} {x7 y7 : A7} (h0 : x0 = y0) (h1 : x1 = y1) (h2 : x2 = y2) (h3 : x3 = y3) (h4 : x4 = y4) (h5 : x5 = y5)
    (h6 : x6 = y6) (h7 : x7 = y7) : f x0 x1 x2 x3 x4 x5 x6 x7 = f y0 y1 y2 y3 y4 y5 y6 y7 := by
  subst h0 h1 h2 h3 h4 h5 h6 h7
  rfl

/-- The kernel's run on the ideal numbers and the reference's run end with equal results. -/
theorem equal_results : Cert.algebraic_XaKernelIdeal_XaReferenceIdeal_pre_finite_xattn := by
  intro m g m' g' hp hag
  have hf : ∀ c, FinAt m c := fun c => fin4_of _ (m ((c.tc : Thread Cert.XaKernelIdeal.nD Cert.XaKernelIdeal.τ).loc Cert.XaKernelIdeal.main_arg1)) _ (m ((c.tc : Thread Cert.XaKernelIdeal.nD Cert.XaKernelIdeal.τ).loc Cert.XaKernelIdeal.main_arg3)) _ _ (m ((c.tc : Thread Cert.XaKernelIdeal.nD Cert.XaKernelIdeal.τ).loc Cert.XaKernelIdeal.main_arg6)) (m ((c.tc : Thread Cert.XaKernelIdeal.nD Cert.XaKernelIdeal.τ).loc Cert.XaKernelIdeal.main_arg7)) (hp c).1 (hp c).2.1 (hp c).2.2.1 (hp c).2.2.2
  refine ⟨fun c => G8 m c, fun c => G9 m c, fun c => G10 m c, fun c => G11 m c, ?_, ?_⟩
  · refine (θ_run Cert.XaKernelIdeal.defs _ _).mono (fun r h c => ?_) (Cert.XaKernelIdeal.Value.run_blocks (F := Ideal) m g)
    obtain ⟨h0, h1, h2, h3, hk⟩ := h c
    exact ⟨h0.trans (arr8 m c), h1.trans (arr9 m c), h2.trans (arr10 m c), h3.trans (arr11 m c), hk⟩
  · refine (θ_run Cert.XaReferenceIdeal.defs _ _).mono (fun r h c => ?_) (Cert.XaReferenceIdeal.Value.run (F := Ideal) m' g')
    obtain ⟨h0, h1, h2, h3, hk⟩ := h c
    obtain ⟨a0, a1, a2, a3, a4, a5, a6, a7⟩ := hag c
    have e0 : Cert.XaReferenceIdeal.Read.val_main_v1 (F := Ideal) _ _ = _ := (congrArg₂ Cert.XaReferenceIdeal.Read.val_main_v1 a0 a4).trans (G8_eq m c).symm
    have e1 : Cert.XaReferenceIdeal.Read.val_main_v39 (F := Ideal) _ _ _ _ _ = _ := (congr5 Cert.XaReferenceIdeal.Read.val_main_v39 a0 a2 a3 a4 a5).trans (hf c).G9.symm
    have e2 : Cert.XaReferenceIdeal.Read.val_main_v38 (F := Ideal) _ _ _ _ _ _ _ = _ := (Ffn.congr7 Cert.XaReferenceIdeal.Read.val_main_v38 a0 a1 a2 a3 a4 a5 a6).trans (hf c).G10.symm
    have e3 : Cert.XaReferenceIdeal.Read.val_main_v54 (F := Ideal) _ _ _ _ _ _ _ _ = _ := (congr8 Cert.XaReferenceIdeal.Read.val_main_v54 a0 a1 a2 a3 a4 a5 a6 a7).trans (hf c).G11.symm
    exact ⟨h0.trans ((Cert.XaReferenceIdeal.Read.val_main_v1_eq _ _).trans e0), h1.trans ((Cert.XaReferenceIdeal.Read.val_main_v39_eq m' c).trans e1),
      h2.trans ((Cert.XaReferenceIdeal.Read.val_main_v38_eq m' c).trans e2), h3.trans ((Cert.XaReferenceIdeal.Read.val_main_v54_eq m' c).trans e3), hk⟩

end Cert.Xa

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.WoKernel
public import proofs.«01_k».proof.Proof.Gen.WoKernel.Skeleton
public import proofs.«01_k».proof.Proof.Gen.WoKernel.Launch
public import proofs.«01_k».proof.Proof.Gen.WoKernel.Points
public import proofs.«01_k».proof.Proof.Gen.WoKernel.Frame
public import proofs.«01_k».proof.Proof.Gen.WoKernelIdeal
public import proofs.«01_k».proof.Proof.Gen.WoKernelIdeal.Skeleton
public import proofs.«01_k».proof.Proof.Gen.WoKernelIdeal.Launch
public import proofs.«01_k».proof.Proof.Gen.WoKernelIdeal.Points
public import proofs.«01_k».proof.Proof.Gen.WoKernelIdeal.Frame
public import proofs.«01_k».proof.Proof.Gen.WoKernelIdeal.Value
public import proofs.«01_k».proof.Proof.Gen.WoReferenceIdeal
public import proofs.«01_k».proof.Proof.Gen.WoReferenceIdeal.Run
public import proofs.«01_k».proof.Proof.Gen.WoReferenceIdeal.Read
public import proofs.«01_k».proof.Proof.Gen.WqKernel
public import proofs.«01_k».proof.Proof.Gen.WqKernel.Skeleton
public import proofs.«01_k».proof.Proof.Gen.WqKernel.Launch
public import proofs.«01_k».proof.Proof.Gen.WqKernel.Points
public import proofs.«01_k».proof.Proof.Gen.WqKernel.Frame
public import proofs.«01_k».proof.Proof.Gen.WqKernelIdeal
public import proofs.«01_k».proof.Proof.Gen.WqKernelIdeal.Skeleton
public import proofs.«01_k».proof.Proof.Gen.WqKernelIdeal.Launch
public import proofs.«01_k».proof.Proof.Gen.WqKernelIdeal.Points
public import proofs.«01_k».proof.Proof.Gen.WqKernelIdeal.Frame
public import proofs.«01_k».proof.Proof.Gen.WqKernelIdeal.Value
public import proofs.«01_k».proof.Proof.Gen.WqReferenceIdeal
public import proofs.«01_k».proof.Proof.Gen.WqReferenceIdeal.Run
public import proofs.«01_k».proof.Proof.Gen.WqReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdKernelIdeal.Value
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.XaKernel
public import proofs.«01_k».proof.Proof.Gen.XaKernel.Skeleton
public import proofs.«01_k».proof.Proof.Gen.XaKernel.Launch
public import proofs.«01_k».proof.Proof.Gen.XaKernel.Points
public import proofs.«01_k».proof.Proof.Gen.XaKernel.Frame
public import proofs.«01_k».proof.Proof.Gen.XaKernelIdeal
public import proofs.«01_k».proof.Proof.Gen.XaKernelIdeal.Skeleton
public import proofs.«01_k».proof.Proof.Gen.XaKernelIdeal.Launch
public import proofs.«01_k».proof.Proof.Gen.XaKernelIdeal.Points
public import proofs.«01_k».proof.Proof.Gen.XaKernelIdeal.Frame
public import proofs.«01_k».proof.Proof.Gen.XaKernelIdeal.Value
public import proofs.«01_k».proof.Proof.Gen.XaReferenceIdeal
public import proofs.«01_k».proof.Proof.Gen.XaReferenceIdeal.Run
public import proofs.«01_k».proof.Proof.Gen.XaReferenceIdeal.Read
public import proofs.«01_k».proof.Proof.Ffn.Final
public import proofs.«01_k».proof.Proof.Mm.Down
public import proofs.«01_k».proof.Proof.Mm.Up
public import proofs.«01_k».proof.Proof.Mm.Wo
public import proofs.«01_k».proof.Proof.Mm.Wq
public import proofs.«01_k».proof.Proof.Mm.In
public import proofs.«01_k».proof.Proof.Fwd.Final
public import proofs.«01_k».proof.Proof.Xa.Final
public import Idealize.ShloMosaic.Adequacy
public import Idealize.ShloMosaic.Init

@[expose] public section

noncomputable section

namespace Cert.Proof

open Idealize.ShloMosaic Idealize.SL.Sem Cert.Kernel

/-- The certificate: the frames, the idealizations and the equal results. -/
theorem claim : Cert.Claim := ⟨Cert.Kernel.Gen.facts, Cert.KernelIdeal.Gen.facts, Cert.ReferenceIdeal.Gen.facts, Cert.DownKernel.Gen.facts, Cert.DownKernelIdeal.Gen.facts, Cert.DownReferenceIdeal.Gen.facts, Cert.UpKernel.Gen.facts, Cert.UpKernelIdeal.Gen.facts, Cert.UpReferenceIdeal.Gen.facts, Cert.WoKernel.Gen.facts, Cert.WoKernelIdeal.Gen.facts, Cert.WoReferenceIdeal.Gen.facts, Cert.WqKernel.Gen.facts, Cert.WqKernelIdeal.Gen.facts, Cert.WqReferenceIdeal.Gen.facts, Cert.InKernel.Gen.facts, Cert.InKernelIdeal.Gen.facts, Cert.InReferenceIdeal.Gen.facts, Cert.FwdKernel.Gen.facts, Cert.FwdKernelIdeal.Gen.facts, Cert.FwdReferenceIdeal.Gen.facts, Cert.XaKernel.Gen.facts, Cert.XaKernelIdeal.Gen.facts, Cert.XaReferenceIdeal.Gen.facts, Cert.Ffn.facts_pre, Cert.Xa.facts_pre,
  fun m g _ => Cert.Kernel.Gen.frame m g,
  fun m g _ => Cert.KernelIdeal.Gen.frame m g,
  fun m g _ => Cert.KernelIdeal.Gen.frame m g,
  fun m g _ => Cert.Ffn.reference_kept m g,
  fun m g _ => Cert.Ffn.reference_kept m g,
  fun m g _ => Cert.DownKernel.Gen.frame m g,
  fun m g _ => Cert.DownKernelIdeal.Gen.frame m g,
  fun m g _ => Cert.Mm.Down.reference_kept m g,
  fun m g _ => Cert.UpKernel.Gen.frame m g,
  fun m g _ => Cert.UpKernelIdeal.Gen.frame m g,
  fun m g _ => Cert.Mm.Up.reference_kept m g,
  fun m g _ => Cert.WoKernel.Gen.frame m g,
  fun m g _ => Cert.WoKernelIdeal.Gen.frame m g,
  fun m g _ => Cert.Mm.Wo.reference_kept m g,
  fun m g _ => Cert.WqKernel.Gen.frame m g,
  fun m g _ => Cert.WqKernelIdeal.Gen.frame m g,
  fun m g _ => Cert.Mm.Wq.reference_kept m g,
  fun m g _ => Cert.InKernel.Gen.frame m g,
  fun m g _ => Cert.InKernelIdeal.Gen.frame m g,
  fun m g _ => Cert.Mm.In.reference_kept m g,
  fun m g _ => Cert.FwdKernel.Gen.frame m g,
  fun m g _ => Cert.FwdKernelIdeal.Gen.frame m g,
  fun m g _ => Cert.Fwd.reference_kept m g,
  fun m g _ => Cert.XaKernel.Gen.frame m g,
  fun m g _ => Cert.XaKernelIdeal.Gen.frame m g,
  fun m g _ => Cert.XaKernelIdeal.Gen.frame m g,
  fun m g _ => Cert.Xa.reference_kept m g,
  fun m g _ => Cert.Xa.reference_kept m g,
  trivial,
  Cert.Ffn.equal_results,
  trivial,
  Cert.Mm.Down.equal_results,
  trivial,
  Cert.Mm.Up.equal_results,
  trivial,
  Cert.Mm.Wo.equal_results,
  trivial,
  Cert.Mm.Wq.equal_results,
  trivial,
  Cert.Mm.In.equal_results,
  trivial,
  Cert.Fwd.equal_results,
  trivial,
  Cert.Xa.equal_results⟩

end Cert.Proof

end
